-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v51)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v51) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v131) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v51)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v51) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v90) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v3_0)) (v1 : (c : Dev Cert.Kernel7Ideal.nD) → Buf (Elt Ideal) ((c.tc : Thread Cert.Kernel7Ideal.nD Cert.Kernel7Ideal.τ).loc Cert.Kernel7Ideal.main_v3_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v3_0) = v0 c
          ∧ r.2.mem ((c.tc : Thread Cert.Kernel7Ideal.nD Cert.Kernel7Ideal.τ).loc Cert.Kernel7Ideal.main_v3_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v24) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== Kernel.lean ====
abbrev S4x2048x4096 : Shape := ⟨3, ![4, 2048, 4096]⟩
abbrev S1x4096x14352 : Shape := ⟨3, ![1, 4096, 14352]⟩
abbrev S8192x4096 : Shape := ⟨2, ![8192, 4096]⟩
abbrev S1x14352x4096 : Shape := ⟨3, ![1, 14352, 4096]⟩
abbrev S14352x4096 : Shape := ⟨2, ![14352, 4096]⟩
abbrev S8192x8192 : Shape := ⟨2, ![8192, 8192]⟩
abbrev S2048x4096 : Shape := ⟨2, ![2048, 4096]⟩
abbrev S256x4096 : Shape := ⟨2, ![256, 4096]⟩
abbrev S2048x256 : Shape := ⟨2, ![2048, 256]⟩
abbrev S1024x4096 : Shape := ⟨2, ![1024, 4096]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S1x4096x14352, .f32⟩
  | .hbm, ⟨2, _⟩ => ⟨S8192x4096, .f32⟩
  | .hbm, ⟨3, _⟩ => ⟨S8192x4096, .bf16⟩
  | .hbm, ⟨4, _⟩ => ⟨S1x14352x4096, .f32⟩
  | .hbm, ⟨5, _⟩ => ⟨S14352x4096, .f32⟩
  | .hbm, ⟨6, _⟩ => ⟨S8192x8192, .bf16⟩
  | .local _ .vmem, ⟨0, _⟩ => ⟨S2048x4096, .bf16⟩
  | .local _ .vmem, ⟨1, _⟩ => ⟨S2048x4096, .bf16⟩
  | .local _ .vmem, ⟨2, _⟩ => ⟨S256x4096, .f32⟩
  | .local _ .vmem, ⟨3, _⟩ => ⟨S256x4096, .f32⟩
  | .local _ .vmem, ⟨4, _⟩ => ⟨S2048x256, .bf16⟩
  | .local _ .vmem, ⟨5, _⟩ => ⟨S2048x256, .bf16⟩
  | .local _ .vmem, ⟨6, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let c0_i32 : BitVec 32 := 0#32
  let arg1 : BitVec 32 := BitVec.ofNat 32 (i 1).val
  let c256_i32 : BitVec 32 := 256#32
  let v0 : BitVec 32 := Scalar.muli arg1 c256_i32
  let v1 : BitVec 32 := Scalar.addi c0_i32 v0
  v1
@[reducible] def k0_t1_loop : Scf.Loop 32 :=
  let c0_i32 : BitVec 32 := 0#32
  let c2_i32 : BitVec 32 := 2#32
  let v6 : BitVec 32 := Scalar.addi c0_i32 c2_i32
  let c1_i32 : BitVec 32 := 1#32
  ⟨c0_i32, v6, c1_i32⟩
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  v7
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  let v8 : BitVec 32 := v7
  let v9 : Index := Scalar.indexCast v8
  let c0_4 : Index := 0#32
  ![v9.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  let v8 : BitVec 32 := v7
  let v15 : Index := Scalar.indexCast v8
  let c0_7 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c0_i32 : BitVec 32 := 0#32
  let v1 : BitVec 32 := Scalar.addi c0_i32 v0
  let v2 : BitVec 32 := v1
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4x2048x4096 : Shape := ⟨3, ![4, 2048, 4096]⟩
abbrev S1x4096x14352 : Shape := ⟨3, ![1, 4096, 14352]⟩
abbrev S4096x14352 : Shape := ⟨2, ![4096, 14352]⟩
abbrev S4x2048x14352 : Shape := ⟨3, ![4, 2048, 14352]⟩
abbrev S4x2048x8192 : Shape := ⟨3, ![4, 2048, 8192]⟩
abbrev S8192x8192 : Shape := ⟨2, ![8192, 8192]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x14352, .f32⟩
  | .hbm, ⟨2, _⟩ => ⟨S4096x14352, .f32⟩
  | .hbm, ⟨3, _⟩ => ⟨S4x2048x14352, .f32⟩
  | .hbm, ⟨4, _⟩ => ⟨S4x2048x8192, .f32⟩
  | .hbm, ⟨5, _⟩ => ⟨S8192x8192, .f32⟩
  | .hbm, ⟨6, _⟩ => ⟨S8192x8192, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel2.lean ====
abbrev S4x2048x4096 : Shape := ⟨3, ![4, 2048, 4096]⟩
abbrev S1x4096x14352 : Shape := ⟨3, ![1, 4096, 14352]⟩
abbrev S8192x4096 : Shape := ⟨2, ![8192, 4096]⟩
abbrev S1x14352x4096 : Shape := ⟨3, ![1, 14352, 4096]⟩
abbrev S14352x4096 : Shape := ⟨2, ![14352, 4096]⟩
abbrev S8192x128 : Shape := ⟨2, ![8192, 128]⟩
abbrev S2048x4096 : Shape := ⟨2, ![2048, 4096]⟩
abbrev S128x4096 : Shape := ⟨2, ![128, 4096]⟩
abbrev S2048x128 : Shape := ⟨2, ![2048, 128]⟩
abbrev S1024x4096 : Shape := ⟨2, ![1024, 4096]⟩
abbrev S1024x128 : Shape := ⟨2, ![1024, 128]⟩

abbrev nBuf : Space → Nat
  | .hbm => 7
  | .vmem => 6
  | .smem => 0
  | _ => 0

abbrev bufTy : (tb : Table) → Fin (tcTables nBuf tb) → BufTy
  | .hbm, ⟨0, _⟩ => ⟨S4x2048x4096, .f32⟩
  | .hbm, ⟨1, _⟩ => ⟨S1x4096x14352, .f32⟩
  | .hbm, ⟨2, _⟩ => ⟨S8192x4096, .f32⟩
  | .hbm, ⟨3, _⟩ => ⟨S8192x4096, .bf16⟩
  | .hbm, ⟨4, _⟩ => ⟨S1x14352x4096, .f32⟩
  | .hbm, ⟨5, _⟩ => ⟨S14352x4096, .f32⟩
  | .hbm, ⟨6, _⟩ => ⟨S8192x128, .f32⟩
  | .local _ .vmem, ⟨0, _⟩ => ⟨S2048x4096, .bf16⟩
  | .local _ .vmem, ⟨1, _⟩ => ⟨S2048x4096, .bf16⟩
  | .local _ .vmem, ⟨2, _⟩ => ⟨S128x4096, .f32⟩
  | .local _ .vmem, ⟨3, _⟩ => ⟨S2048x128, .f32⟩
  | .local _ .vmem, ⟨4, _⟩ => ⟨S2048x128, .f32⟩
  | .local _ .vmem, ⟨5, _⟩ => ⟨S128x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def k0_mult1 (i : grid0.Coords) : BitVec 32 :=
  let c8192_i32 : BitVec 32 := 8192#32
  let arg1 : BitVec 32 := BitVec.ofNat 32 (i 1).val
  let c128_i32 : BitVec 32 := 128#32
  let v0 : BitVec 32 := Scalar.muli arg1 c128_i32
  let v1 : BitVec 32 := Scalar.addi c8192_i32 v0
  v1
@[reducible] def k0_t1_loop : Scf.Loop 32 :=
  let c0_i32 : BitVec 32 := 0#32
  let c2_i32 : BitVec 32 := 2#32
  let v6 : BitVec 32 := Scalar.addi c0_i32 c2_i32
  let c1_i32 : BitVec 32 := 1#32
  ⟨c0_i32, v6, c1_i32⟩
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  v7
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  let v8 : BitVec 32 := v7
  let v9 : Index := Scalar.indexCast v8
  let c0_4 : Index := 0#32
  ![v9.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  let v8 : BitVec 32 := v7
  let v14 : Index := Scalar.indexCast v8
  let c0_7 : Index := 0#32
  ![v14.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c8192_i32 : BitVec 32 := 8192#32
  let v1 : BitVec 32 := Scalar.addi c8192_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S4x2048x4096 : Shape := ⟨3, ![4, 2048, 4096]⟩
abbrev S1x4096x14352 : Shape := ⟨3, ![1, 4096, 14352]⟩
abbrev S4096x14352 : Shape := ⟨2, ![4096, 14352]⟩
abbrev S4x2048x14352 : Shape := ⟨3, ![4, 2048, 14352]⟩
abbrev S4x2048x128 : Shape := ⟨3, ![4, 2048, 128]⟩
abbrev S8192x128 : Shape := ⟨2, ![8192, 128]⟩

abbrev nBuf : Space → Nat
  | .hbm => 6
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x14352, .f32⟩
  | .hbm, ⟨2, _⟩ => ⟨S4096x14352, .f32⟩
  | .hbm, ⟨3, _⟩ => ⟨S4x2048x14352, .f32⟩
  | .hbm, ⟨4, _⟩ => ⟨S4x2048x128, .f32⟩
  | .hbm, ⟨5, _⟩ => ⟨S8192x128, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel3.lean ====
abbrev S4x2048x4096 : Shape := ⟨3, ![4, 2048, 4096]⟩
abbrev S1x4096x14352 : Shape := ⟨3, ![1, 4096, 14352]⟩
abbrev S8192x4096 : Shape := ⟨2, ![8192, 4096]⟩
abbrev S1x14352x4096 : Shape := ⟨3, ![1, 14352, 4096]⟩
abbrev S14352x4096 : Shape := ⟨2, ![14352, 4096]⟩
abbrev S8192x6144 : Shape := ⟨2, ![8192, 6144]⟩
abbrev S2048x4096 : Shape := ⟨2, ![2048, 4096]⟩
abbrev S256x4096 : Shape := ⟨2, ![256, 4096]⟩
abbrev S2048x256 : Shape := ⟨2, ![2048, 256]⟩
abbrev S1024x4096 : Shape := ⟨2, ![1024, 4096]⟩
abbrev S1024x256 : Shape := ⟨2, ![1024, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S1x4096x14352, .f32⟩
  | .hbm, ⟨2, _⟩ => ⟨S8192x4096, .f32⟩
  | .hbm, ⟨3, _⟩ => ⟨S8192x4096, .bf16⟩
  | .hbm, ⟨4, _⟩ => ⟨S1x14352x4096, .f32⟩
  | .hbm, ⟨5, _⟩ => ⟨S14352x4096, .f32⟩
  | .hbm, ⟨6, _⟩ => ⟨S8192x6144, .bf16⟩
  | .local _ .vmem, ⟨0, _⟩ => ⟨S2048x4096, .bf16⟩
  | .local _ .vmem, ⟨1, _⟩ => ⟨S2048x4096, .bf16⟩
  | .local _ .vmem, ⟨2, _⟩ => ⟨S256x4096, .f32⟩
  | .local _ .vmem, ⟨3, _⟩ => ⟨S256x4096, .f32⟩
  | .local _ .vmem, ⟨4, _⟩ => ⟨S2048x256, .bf16⟩
  | .local _ .vmem, ⟨5, _⟩ => ⟨S2048x256, .bf16⟩
  | .local _ .vmem, ⟨6, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def k0_mult1 (i : grid0.Coords) : BitVec 32 :=
  let c8208_i32 : BitVec 32 := 8208#32
  let arg1 : BitVec 32 := BitVec.ofNat 32 (i 1).val
  let c256_i32 : BitVec 32 := 256#32
  let v0 : BitVec 32 := Scalar.muli arg1 c256_i32
  let v1 : BitVec 32 := Scalar.addi c8208_i32 v0
  v1
@[reducible] def k0_t1_loop : Scf.Loop 32 :=
  let c0_i32 : BitVec 32 := 0#32
  let c2_i32 : BitVec 32 := 2#32
  let v6 : BitVec 32 := Scalar.addi c0_i32 c2_i32
  let c1_i32 : BitVec 32 := 1#32
  ⟨c0_i32, v6, c1_i32⟩
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  v7
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  let v8 : BitVec 32 := v7
  let v9 : Index := Scalar.indexCast v8
  let c0_4 : Index := 0#32
  ![v9.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1024_i32 : BitVec 32 := 1024#32
  let v7 : BitVec 32 := Scalar.muli arg6 c1024_i32
  let v8 : BitVec 32 := v7
  let v15 : Index := Scalar.indexCast v8
  let c0_7 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c8208_i32 : BitVec 32 := 8208#32
  let v1 : BitVec 32 := Scalar.addi c8208_i32 v0
  let v2 : BitVec 32 := v1
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4x2048x4096 : Shape := ⟨3, ![4, 2048, 4096]⟩
abbrev S1x4096x14352 : Shape := ⟨3, ![1, 4096, 14352]⟩
abbrev S4096x14352 : Shape := ⟨2, ![4096, 14352]⟩
abbrev S4x2048x14352 : Shape := ⟨3, ![4, 2048, 14352]⟩
abbrev S4x2048x6144 : Shape := ⟨3, ![4, 2048, 6144]⟩
abbrev S8192x6144 : Shape := ⟨2, ![8192, 6144]⟩

abbrev nBuf : Space → Nat
  | .hbm => 7
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S1x4096x14352, .f32⟩
  | .hbm, ⟨2, _⟩ => ⟨S4096x14352, .f32⟩
  | .hbm, ⟨3, _⟩ => ⟨S4x2048x14352, .f32⟩
  | .hbm, ⟨4, _⟩ => ⟨S4x2048x6144, .f32⟩
  | .hbm, ⟨5, _⟩ => ⟨S8192x6144, .f32⟩
  | .hbm, ⟨6, _⟩ => ⟨S8192x6144, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S1x128 : Shape := ⟨2, ![1, 128]⟩
abbrev S49664x32x128 : Shape := ⟨3, ![49664, 32, 128]⟩
abbrev S32x4096x2048 : Shape := ⟨3, ![32, 4096, 2048]⟩
abbrev S32x1x2048 : Shape := ⟨3, ![32, 1, 2048]⟩
abbrev S1x32 : Shape := ⟨2, ![1, 32]⟩
abbrev S32 : Shape := ⟨1, ![32]⟩
abbrev S_ : Shape := ⟨0, ![]⟩
abbrev S96 : Shape := ⟨1, ![96]⟩
abbrev S96x1 : Shape := ⟨2, ![96, 1]⟩
abbrev S96x32 : Shape := ⟨2, ![96, 32]⟩
abbrev S1 : Shape := ⟨1, ![1]⟩
abbrev S49152x1024 : Shape := ⟨2, ![49152, 1024]⟩
abbrev S512x32x128 : Shape := ⟨3, ![512, 32, 128]⟩
abbrev S1x4096x512 : Shape := ⟨3, ![1, 4096, 512]⟩
abbrev S1x1x512 : Shape := ⟨3, ![1, 1, 512]⟩
abbrev S512x512 : Shape := ⟨2, ![512, 512]⟩
abbrev S4096x512 : Shape := ⟨2, ![4096, 512]⟩
abbrev S512x4096 : Shape := ⟨2, ![512, 4096]⟩
abbrev S1x512 : Shape := ⟨2, ![1, 512]⟩
abbrev S256x512 : Shape := ⟨2, ![256, 512]⟩
abbrev S256x32x128 : Shape := ⟨3, ![256, 32, 128]⟩
abbrev S256x4096 : Shape := ⟨2, ![256, 4096]⟩
abbrev S384x512 : Shape := ⟨2, ![384, 512]⟩
abbrev S128x32x128 : Shape := ⟨3, ![128, 32, 128]⟩
abbrev S128x4096 : Shape := ⟨2, ![128, 4096]⟩
abbrev S128x512 : Shape := ⟨2, ![128, 512]⟩

abbrev nBuf : Space → Nat
  | .hbm => 111
  | .vmem => 14
  | .smem => 3
  | _ => 0

abbrev bufTy : (tb : Table) → Fin (tcTables nBuf tb) → BufTy
  | .hbm, ⟨0, _⟩ => ⟨S1x128, .f32⟩
  | .hbm, ⟨1, _⟩ => ⟨S49664x32x128, .bf16⟩
  | .hbm, ⟨2, _⟩ => ⟨S32x4096x2048, .f32⟩
  | .hbm, ⟨3, _⟩ => ⟨S32x4096x2048, .f32⟩
  | .hbm, ⟨4, _⟩ => ⟨S32x1x2048, .f32⟩
  | .hbm, ⟨5, _⟩ => ⟨S32x1x2048, .f32⟩
  | .hbm, ⟨6, _⟩ => ⟨S1x32, .f32⟩
  | .hbm, ⟨7, _⟩ => ⟨S32, .f32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S32, .i32⟩
  | .hbm, ⟨14, _⟩ => ⟨S32, .i32⟩
  | .hbm, ⟨15, _⟩ => ⟨S_, .i32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S_, .i32⟩
  | .hbm, ⟨21, _⟩ => ⟨S32, .i32⟩
  | .hbm, ⟨22, _⟩ => ⟨S32, .i1⟩
  | .hbm, ⟨23, _⟩ => ⟨S32, .i32⟩
  | .hbm, ⟨24, _⟩ => ⟨S32, .i32⟩
  | .hbm, ⟨25, _⟩ => ⟨S_, .i32⟩
  | .hbm, ⟨26, _⟩ => ⟨S32, .i32⟩
  | .hbm, ⟨27, _⟩ => ⟨S32, .i1⟩
  | .hbm, ⟨28, _⟩ => ⟨S32, .i1⟩
  | .hbm, ⟨29, _⟩ => ⟨S_, .i32⟩
  | .hbm, ⟨30, _⟩ => ⟨S32, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S32, .i32⟩
  | .hbm, ⟨35, _⟩ => ⟨S32, .i32⟩
  | .hbm, ⟨36, _⟩ => ⟨S_, .i32⟩
  | .hbm, ⟨37, _⟩ => ⟨S_, .i32⟩
  | .hbm, ⟨38, _⟩ => ⟨S32, .i32⟩
  | .hbm, ⟨39, _⟩ => ⟨S32, .i32⟩
  | .hbm, ⟨40, _⟩ => ⟨S96, .i32⟩
  | .hbm, ⟨41, _⟩ => ⟨S_, .i32⟩
  | .hbm, ⟨42, _⟩ => ⟨S96, .i32⟩
  | .hbm, ⟨43, _⟩ => ⟨S96, .i32⟩
  | .hbm, ⟨44, _⟩ => ⟨S1x32, .i32⟩
  | .hbm, ⟨45, _⟩ => ⟨S96x1, .i32⟩
  | .hbm, ⟨46, _⟩ => ⟨S96x32, .i32⟩
  | .hbm, ⟨47, _⟩ => ⟨S96x32, .i32⟩
  | .hbm, ⟨48, _⟩ => ⟨S96x32, .i1⟩
  | .hbm, ⟨49, _⟩ => ⟨S96x32, .i32⟩
  | .hbm, ⟨50, _⟩ => ⟨S_, .i32⟩
  | .hbm, ⟨51, _⟩ => ⟨S96, .i32⟩
  | .hbm, ⟨52, _⟩ => ⟨S_, .i32⟩
  | .hbm, ⟨53, _⟩ => ⟨S96, .i32⟩
  | .hbm, ⟨54, _⟩ => ⟨S96, .i32⟩
  | .hbm, ⟨55, _⟩ => ⟨S_, .i32⟩
  | .hbm, ⟨56, _⟩ => ⟨S96, .i32⟩
  | .hbm, ⟨57, _⟩ => ⟨S96, .i32⟩
  | .hbm, ⟨58, _⟩ => ⟨S_, .i32⟩
  | .hbm, ⟨59, _⟩ => ⟨S96, .i32⟩
  | .hbm, ⟨60, _⟩ => ⟨S96, .i1⟩
  | .hbm, ⟨61, _⟩ => ⟨S_, .i32⟩
  | .hbm, ⟨62, _⟩ => ⟨S96, .i32⟩
  | .hbm, ⟨63, _⟩ => ⟨S96, .i32⟩
  | .hbm, ⟨64, _⟩ => ⟨S96, .i32⟩
  | .hbm, ⟨65, _⟩ => ⟨S96x1, .i32⟩
  | .hbm, ⟨66, _⟩ => ⟨S96, .i32⟩
  | .hbm, ⟨67, _⟩ => ⟨S96, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S96, .i32⟩
  | .hbm, ⟨72, _⟩ => ⟨S96, .i32⟩
  | .hbm, ⟨73, _⟩ => ⟨S_, .i32⟩
  | .hbm, ⟨74, _⟩ => ⟨S96, .i32⟩
  | .hbm, ⟨75, _⟩ => ⟨S1, .i32⟩
  | .hbm, ⟨76, _⟩ => ⟨S_, .i32⟩
  | .hbm, ⟨77, _⟩ => ⟨S_, .i32⟩
  | .hbm, ⟨78, _⟩ => ⟨S1, .i32⟩
  | .hbm, ⟨79, _⟩ => ⟨S1, .i32⟩
  | .hbm, ⟨80, _⟩ => ⟨S1, .i32⟩
  | .hbm, ⟨81, _⟩ => ⟨S_, .i32⟩
  | .hbm, ⟨82, _⟩ => ⟨S1, .i32⟩
  | .hbm, ⟨83, _⟩ => ⟨S1, .i1⟩
  | .hbm, ⟨84, _⟩ => ⟨S1, .i32⟩
  | .hbm, ⟨85, _⟩ => ⟨S1, .i32⟩
  | .hbm, ⟨86, _⟩ => ⟨S_, .i32⟩
  | .hbm, ⟨87, _⟩ => ⟨S1, .i32⟩
  | .hbm, ⟨88, _⟩ => ⟨S1, .i1⟩
  | .hbm, ⟨89, _⟩ => ⟨S1, .i1⟩
  | .hbm, ⟨90, _⟩ => ⟨S_, .i32⟩
  | .hbm, ⟨91, _⟩ => ⟨S1, .i32⟩
  | .hbm, ⟨92, _⟩ => ⟨S1, .i32⟩
  | .hbm, ⟨93, _⟩ => ⟨S96, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S96, .i32⟩
  | .hbm, ⟨98, _⟩ => ⟨S96, .i32⟩
  | .hbm, ⟨99, _⟩ => ⟨S_, .i32⟩
  | .hbm, ⟨100, _⟩ => ⟨S96, .i32⟩
  | .hbm, ⟨101, _⟩ => ⟨S96, .i32⟩
  | .hbm, ⟨102, _⟩ => ⟨S_, .i32⟩
  | .hbm, ⟨103, _⟩ => ⟨S96, .i32⟩
  | .hbm, ⟨104, _⟩ => ⟨S96, .i1⟩
  | .hbm, ⟨105, _⟩ => ⟨S_, .i32⟩
  | .hbm, ⟨106, _⟩ => ⟨S96, .i32⟩
  | .hbm, ⟨107, _⟩ => ⟨S96, .i32⟩
  | .hbm, ⟨108, _⟩ => ⟨S96, .i32⟩
  | .hbm, ⟨109, _⟩ => ⟨S96x1, .i32⟩
  | .hbm, ⟨110, _⟩ => ⟨S49152x1024, .bf16⟩
  | .local _ .vmem, ⟨0, _⟩ => ⟨S512x32x128, .bf16⟩
  | .local _ .vmem, ⟨1, _⟩ => ⟨S512x32x128, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S512x512, .bf16⟩
  | .local _ .vmem, ⟨11, _⟩ => ⟨S512x512, .bf16⟩
  | .local _ .vmem, ⟨12, _⟩ => ⟨S4096x512, .bf16⟩
  | .local _ .vmem, ⟨13, _⟩ => ⟨S4096x512, .bf16⟩
  | .local _ .smem, ⟨0, _⟩ => ⟨S96, .i32⟩
  | .local _ .smem, ⟨1, _⟩ => ⟨S1, .i32⟩
  | .local _ .smem, ⟨2, _⟩ => ⟨S96, .i32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c_3 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_4 : Ref sig .tc := ⟨.hbm, 50, rfl⟩
abbrev main_v21 : Ref sig .tc := ⟨.hbm, 51, rfl⟩
abbrev main_c_5 : Ref sig .tc := ⟨.hbm, 52, rfl⟩
abbrev main_v22 : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_9 : Ref sig .tc := ⟨.hbm, 68, rfl⟩
abbrev main_c_10 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v35 : Ref sig .tc := ⟨.hbm, 75, rfl⟩
abbrev main_c_11 : Ref sig .tc := ⟨.hbm, 76, rfl⟩
abbrev main_call3_v0 : Ref sig .tc := ⟨.hbm, 77, rfl⟩
abbrev main_call3_v1 : Ref sig .tc := ⟨.hbm, 78, rfl⟩
abbrev main_call3_v2 : Ref sig .tc := ⟨.hbm, 79, rfl⟩
abbrev main_call3_v3 : Ref sig .tc := ⟨.hbm, 80, rfl⟩
abbrev main_call3_v4 : Ref sig .tc := ⟨.hbm, 81, rfl⟩
abbrev main_call3_v5 : Ref sig .tc := ⟨.hbm, 82, rfl⟩
abbrev main_call3_v6 : Ref sig .tc := ⟨.hbm, 83, rfl⟩
abbrev main_call3_v7 : Ref sig .tc := ⟨.hbm, 84, rfl⟩
abbrev main_call3_v8 : Ref sig .tc := ⟨.hbm, 85, rfl⟩
abbrev main_call3_c : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_c_0 : Ref sig .tc := ⟨.hbm, 90, rfl⟩
abbrev main_call3_v12 : Ref sig .tc := ⟨.hbm, 91, rfl⟩
abbrev main_call3_v13 : Ref sig .tc := ⟨.hbm, 92, rfl⟩
abbrev main_v37 : Ref sig .tc := ⟨.hbm, 93, rfl⟩
abbrev main_v38 : Ref sig .tc := ⟨.hbm, 94, rfl⟩
abbrev main_c_12 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_c_13 : Ref sig .tc := ⟨.hbm, 99, rfl⟩
abbrev main_v42 : Ref sig .tc := ⟨.hbm, 100, rfl⟩
abbrev main_v43 : Ref sig .tc := ⟨.hbm, 101, rfl⟩
abbrev main_c_14 : Ref sig .tc := ⟨.hbm, 102, rfl⟩
abbrev main_v44 : Ref sig .tc := ⟨.hbm, 103, rfl⟩
abbrev main_v45 : Ref sig .tc := ⟨.hbm, 104, rfl⟩
abbrev main_c_15 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_v49 : Ref sig .tc := ⟨.hbm, 109, rfl⟩
abbrev main_v51 : Ref sig .tc := ⟨.hbm, 110, rfl⟩
abbrev main_v50 : Ref sig .tc := ⟨.smem, 0, rfl⟩
abbrev main_v36 : Ref sig .tc := ⟨.smem, 1, rfl⟩
abbrev main_v34 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 96], ![false, false]⟩

abbrev pre0 : Pipeline.Prefetch sig := ⟨3, ![main_v50.idx, main_v36.idx, main_v34.idx], fun | 0 => main_v50.names | 1 => main_v36.names | 2 => main_v34.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg1 : BitVec 32 := BitVec.ofNat 32 (i 1).val
  let v13 : Index := Scalar.indexCast arg1
  ![v13.toNat]
def k0_cond2 (i : grid0.Coords) (v11 : BitVec 32) (v14 : BitVec 32) : BitVec 1 :=
  let arg1 : BitVec 32 := BitVec.ofNat 32 (i 1).val
  let v12 : BitVec 1 := Scalar.cmpi .slt arg1 v11
  let c0_i32_2 : BitVec 32 := 0#32
  let v15 : BitVec 32 := Scalar.select v12 v14 c0_i32_2
  let c256_i32 : BitVec 32 := 256#32
  let v16 : BitVec 1 := Scalar.cmpi .sgt v15 c256_i32
  let c512_i32 : BitVec 32 := 512#32
  let v17 : BitVec 1 := Scalar.cmpi .sle v15 c512_i32
  let v18 : BitVec 1 := Scalar.andi v16 v17
  let v19 : BitVec 32 := Scalar.extui v18
  let c0_i32_3 : BitVec 32 := 0#32
  let v20 : BitVec 1 := Scalar.cmpi .ne v19 c0_i32_3
  v20

def k0_cond3 (i : grid0.Coords) (v11 : BitVec 32) (v14 : BitVec 32) : BitVec 1 :=
  let arg1 : BitVec 32 := BitVec.ofNat 32 (i 1).val
  let v12 : BitVec 1 := Scalar.cmpi .slt arg1 v11
  let c0_i32_2 : BitVec 32 := 0#32
  let v15 : BitVec 32 := Scalar.select v12 v14 c0_i32_2
  let c128_i32 : BitVec 32 := 128#32
  let v21 : BitVec 1 := Scalar.cmpi .sgt v15 c128_i32
  let c256_i32_4 : BitVec 32 := 256#32
  let v22 : BitVec 1 := Scalar.cmpi .sle v15 c256_i32_4
  let v23 : BitVec 1 := Scalar.andi v21 v22
  let v24 : BitVec 32 := Scalar.extui v23
  let c0_i32_5 : BitVec 32 := 0#32
  let v25 : BitVec 1 := Scalar.cmpi .ne v24 c0_i32_5
  v25

def k0_cond4 (i : grid0.Coords) (v11 : BitVec 32) (v14 : BitVec 32) : BitVec 1 :=
  let arg1 : BitVec 32 := BitVec.ofNat 32 (i 1).val
  let v12 : BitVec 1 := Scalar.cmpi .slt arg1 v11
  let c0_i32_2 : BitVec 32 := 0#32
  let v15 : BitVec 32 := Scalar.select v12 v14 c0_i32_2
  let c0_i32_6 : BitVec 32 := 0#32
  let v26 : BitVec 1 := Scalar.cmpi .sgt v15 c0_i32_6
  let c128_i32_7 : BitVec 32 := 128#32
  let v27 : BitVec 1 := Scalar.cmpi .sle v15 c128_i32_7
  let v28 : BitVec 1 := Scalar.andi v26 v27
  let v29 : BitVec 32 := Scalar.extui v28
  let c0_i32_8 : BitVec 32 := 0#32
  let v30 : BitVec 1 := Scalar.cmpi .ne v29 c0_i32_8
  v30

def k0_cond5 (i : grid0.Coords) (v11 : BitVec 32) (v14 : BitVec 32) : BitVec 1 :=
  let arg1 : BitVec 32 := BitVec.ofNat 32 (i 1).val
  let v12 : BitVec 1 := Scalar.cmpi .slt arg1 v11
  let c0_i32_2 : BitVec 32 := 0#32
  let v15 : BitVec 32 := Scalar.select v12 v14 c0_i32_2
  let c0_i32_9 : BitVec 32 := 0#32
  let v31 : BitVec 1 := Scalar.cmpi .eq v15 c0_i32_9
  let v32 : BitVec 32 := Scalar.extui v31
  let c0_i32_10 : BitVec 32 := 0#32
  let v33 : BitVec 1 := Scalar.cmpi .ne v32 c0_i32_10
  v33

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c2_i32 : BitVec 32 := 2#32
  let v2 : BitVec 32 := Scalar.addi c2_i32 arg0
  let c0_i32 : BitVec 32 := 0#32
  let c0_i32_0 : BitVec 32 := 0#32
  ![v1.toNat, c0_i32.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S1x128 : Shape := ⟨2, ![1, 128]⟩
abbrev S49664x32x128 : Shape := ⟨3, ![49664, 32, 128]⟩
abbrev S32x4096x2048 : Shape := ⟨3, ![32, 4096, 2048]⟩
abbrev S32x1x2048 : Shape := ⟨3, ![32, 1, 2048]⟩
abbrev S1x32 : Shape := ⟨2, ![1, 32]⟩
abbrev S32 : Shape := ⟨1, ![32]⟩
abbrev S_ : Shape := ⟨0, ![]⟩
abbrev S96 : Shape := ⟨1, ![96]⟩
abbrev S96x1 : Shape := ⟨2, ![96, 1]⟩
abbrev S96x32 : Shape := ⟨2, ![96, 32]⟩
abbrev S1 : Shape := ⟨1, ![1]⟩
abbrev S49152x32x128 : Shape := ⟨3, ![49152, 32, 128]⟩
abbrev S96x512x4096 : Shape := ⟨3, ![96, 512, 4096]⟩
abbrev S96x4096x2048 : Shape := ⟨3, ![96, 4096, 2048]⟩
abbrev S96x4096x1024 : Shape := ⟨3, ![96, 4096, 1024]⟩
abbrev S96x512x1024 : Shape := ⟨3, ![96, 512, 1024]⟩
abbrev S96x1x2048 : Shape := ⟨3, ![96, 1, 2048]⟩
abbrev S96x1x1024 : Shape := ⟨3, ![96, 1, 1024]⟩
abbrev S512 : Shape := ⟨1, ![512]⟩
abbrev S1x512 : Shape := ⟨2, ![1, 512]⟩
abbrev S96x512 : Shape := ⟨2, ![96, 512]⟩
abbrev S96x512x1 : Shape := ⟨3, ![96, 512, 1]⟩
abbrev S49152x1024 : Shape := ⟨2, ![49152, 1024]⟩

abbrev nBuf : Space → Nat
  | .hbm => 211
  | .vmem => 0
  | .smem => 0
  | _ => 0

abbrev hbmTy0_0 (i : Nat) : BufTy := match i % 128 with
  | 0 => ⟨S1x128, .f32⟩
  | 1 => ⟨S49664x32x128, .bf16⟩
  | 2 => ⟨S32x4096x2048, .f32⟩
  | 3 => ⟨S32x4096x2048, .f32⟩
  | 4 => ⟨S32x1x2048, .f32⟩
  | 5 => ⟨S32x1x2048, .f32⟩
  | 6 => ⟨S1x32, .f32⟩
  | 7 => ⟨S32, .f32⟩
  | 8 => ⟨S32, .i32⟩
  | 9 => ⟨S_, .i32⟩
  | 10 => ⟨S32, .i32⟩
  | 11 => ⟨S32, .i32⟩
  | 12 => ⟨S_, .i32⟩
  | 13 => ⟨S32, .i32⟩
  | 14 => ⟨S32, .i32⟩
  | 15 => ⟨S_, .i32⟩
  | 16 => ⟨S_, .i32⟩
  | 17 => ⟨S32, .i32⟩
  | 18 => ⟨S32, .i32⟩
  | 19 => ⟨S32, .i32⟩
  | 20 => ⟨S_, .i32⟩
  | 21 => ⟨S32, .i32⟩
  | 22 => ⟨S32, .i1⟩
  | 23 => ⟨S32, .i32⟩
  | 24 => ⟨S32, .i32⟩
  | 25 => ⟨S_, .i32⟩
  | 26 => ⟨S32, .i32⟩
  | 27 => ⟨S32, .i1⟩
  | 28 => ⟨S32, .i1⟩
  | 29 => ⟨S_, .i32⟩
  | 30 => ⟨S32, .i32⟩
  | 31 => ⟨S32, .i32⟩
  | 32 => ⟨S32, .i32⟩
  | 33 => ⟨S_, .i32⟩
  | 34 => ⟨S32, .i32⟩
  | 35 => ⟨S32, .i32⟩
  | 36 => ⟨S_, .i32⟩
  | 37 => ⟨S_, .i32⟩
  | 38 => ⟨S32, .i32⟩
  | 39 => ⟨S96, .i32⟩
  | 40 => ⟨S_, .i32⟩
  | 41 => ⟨S96, .i32⟩
  | 42 => ⟨S96, .i32⟩
  | 43 => ⟨S1x32, .i32⟩
  | 44 => ⟨S96x1, .i32⟩
  | 45 => ⟨S96x32, .i32⟩
  | 46 => ⟨S96x32, .i32⟩
  | 47 => ⟨S96x32, .i1⟩
  | 48 => ⟨S96x32, .i32⟩
  | 49 => ⟨S_, .i32⟩
  | 50 => ⟨S96, .i32⟩
  | 51 => ⟨S_, .i32⟩
  | 52 => ⟨S96, .i32⟩
  | 53 => ⟨S96, .i32⟩
  | 54 => ⟨S_, .i32⟩
  | 55 => ⟨S96, .i32⟩
  | 56 => ⟨S96, .i32⟩
  | 57 => ⟨S32, .i32⟩
  | 58 => ⟨S_, .i32⟩
  | 59 => ⟨S96, .i32⟩
  | 60 => ⟨S96, .i1⟩
  | 61 => ⟨S_, .i32⟩
  | 62 => ⟨S96, .i32⟩
  | 63 => ⟨S96, .i32⟩
  | 64 => ⟨S96, .i32⟩
  | 65 => ⟨S96x1, .i32⟩
  | 66 => ⟨S96, .i32⟩
  | 67 => ⟨S96, .i32⟩
  | 68 => ⟨S_, .i32⟩
  | 69 => ⟨S_, .i32⟩
  | 70 => ⟨S_, .i32⟩
  | 71 => ⟨S96, .i32⟩
  | 72 => ⟨S96, .i32⟩
  | 73 => ⟨S_, .i32⟩
  | 74 => ⟨S96, .i32⟩
  | 75 => ⟨S96, .i32⟩
  | 76 => ⟨S1, .i32⟩
  | 77 => ⟨S_, .i32⟩
  | 78 => ⟨S_, .i32⟩
  | 79 => ⟨S1, .i32⟩
  | 80 => ⟨S1, .i32⟩
  | 81 => ⟨S1, .i32⟩
  | 82 => ⟨S_, .i32⟩
  | 83 => ⟨S1, .i32⟩
  | 84 => ⟨S1, .i1⟩
  | 85 => ⟨S1, .i32⟩
  | 86 => ⟨S1, .i32⟩
  | 87 => ⟨S_, .i32⟩
  | 88 => ⟨S1, .i32⟩
  | 89 => ⟨S1, .i1⟩
  | 90 => ⟨S1, .i1⟩
  | 91 => ⟨S_, .i32⟩
  | 92 => ⟨S1, .i32⟩
  | 93 => ⟨S1, .i32⟩
  | 94 => ⟨S1, .i32⟩
  | 95 => ⟨S49152x32x128, .bf16⟩
  | 96 => ⟨S96x512x4096, .bf16⟩
  | 97 => ⟨S_, .i32⟩
  | 98 => ⟨S96, .i32⟩
  | 99 => ⟨S96, .i1⟩
  | 100 => ⟨S_, .i32⟩
  | 101 => ⟨S96, .i32⟩
  | 102 => ⟨S96, .i32⟩
  | 103 => ⟨S96, .i32⟩
  | 104 => ⟨S96x1, .i32⟩
  | 105 => ⟨S96x4096x2048, .f32⟩
  | 106 => ⟨S96x4096x1024, .f32⟩
  | 107 => ⟨S96x4096x1024, .bf16⟩
  | 108 => ⟨S96x512x1024, .f32⟩
  | 109 => ⟨S_, .i32⟩
  | 110 => ⟨S96, .i32⟩
  | 111 => ⟨S96, .i1⟩
  | 112 => ⟨S_, .i32⟩
  | 113 => ⟨S96, .i32⟩
  | 114 => ⟨S96, .i32⟩
  | 115 => ⟨S96, .i32⟩
  | 116 => ⟨S96x1, .i32⟩
  | 117 => ⟨S96x1x2048, .f32⟩
  | 118 => ⟨S96x1x1024, .f32⟩
  | 119 => ⟨S96x512x1024, .f32⟩
  | 120 => ⟨S96x512x1024, .f32⟩
  | 121 => ⟨S_, .i32⟩
  | 122 => ⟨S96, .i32⟩
  | 123 => ⟨S96, .i1⟩
  | 124 => ⟨S_, .i32⟩
  | 125 => ⟨S96, .i32⟩
  | 126 => ⟨S96, .i32⟩
  | 127 => ⟨S96, .i32⟩
  | _ => ⟨S1x128, .f32⟩

abbrev hbmTy0_1 (i : Nat) : BufTy := match i % 128 with
  | 0 => ⟨S96x1, .i32⟩
  | 1 => ⟨S96x4096x2048, .f32⟩
  | 2 => ⟨S96x4096x1024, .f32⟩
  | 3 => ⟨S96x4096x1024, .bf16⟩
  | 4 => ⟨S96x512x1024, .f32⟩
  | 5 => ⟨S_, .i32⟩
  | 6 => ⟨S96, .i32⟩
  | 7 => ⟨S96, .i1⟩
  | 8 => ⟨S_, .i32⟩
  | 9 => ⟨S96, .i32⟩
  | 10 => ⟨S96, .i32⟩
  | 11 => ⟨S96, .i32⟩
  | 12 => ⟨S96x1, .i32⟩
  | 13 => ⟨S96x1x2048, .f32⟩
  | 14 => ⟨S96x1x1024, .f32⟩
  | 15 => ⟨S96x512x1024, .f32⟩
  | 16 => ⟨S96x512x1024, .f32⟩
  | 17 => ⟨S_, .f32⟩
  | 18 => ⟨S96x512x1024, .f32⟩
  | 19 => ⟨S96x512x1024, .f32⟩
  | 20 => ⟨S_, .f32⟩
  | 21 => ⟨S96x512x1024, .f32⟩
  | 22 => ⟨S96x512x1024, .f32⟩
  | 23 => ⟨S_, .f32⟩
  | 24 => ⟨S96x512x1024, .f32⟩
  | 25 => ⟨S96x512x1024, .f32⟩
  | 26 => ⟨S_, .f32⟩
  | 27 => ⟨S96x512x1024, .f32⟩
  | 28 => ⟨S96x512x1024, .f32⟩
  | 29 => ⟨S96x512x1024, .f32⟩
  | 30 => ⟨S_, .f32⟩
  | 31 => ⟨S96x512x1024, .f32⟩
  | 32 => ⟨S96x512x1024, .f32⟩
  | 33 => ⟨S96x512x1024, .f32⟩
  | 34 => ⟨S96x512x1024, .f32⟩
  | 35 => ⟨S_, .f32⟩
  | 36 => ⟨S96x512x1024, .f32⟩
  | 37 => ⟨S96x512x1024, .f32⟩
  | 38 => ⟨S_, .f32⟩
  | 39 => ⟨S96x512x1024, .f32⟩
  | 40 => ⟨S96x512x1024, .f32⟩
  | 41 => ⟨S96x512x1024, .f32⟩
  | 42 => ⟨S512, .i32⟩
  | 43 => ⟨S96x1, .i32⟩
  | 44 => ⟨S96, .i32⟩
  | 45 => ⟨S96, .i32⟩
  | 46 => ⟨S96, .i1⟩
  | 47 => ⟨S96x1, .i1⟩
  | 48 => ⟨S_, .i32⟩
  | 49 => ⟨S96x1, .i32⟩
  | 50 => ⟨S96x1, .i1⟩
  | 51 => ⟨S_, .i32⟩
  | 52 => ⟨S96x1, .i32⟩
  | 53 => ⟨S96x1, .i1⟩
  | 54 => ⟨S_, .i32⟩
  | 55 => ⟨S512, .i32⟩
  | 56 => ⟨S512, .i1⟩
  | 57 => ⟨S1x512, .i1⟩
  | 58 => ⟨S96x512, .i1⟩
  | 59 => ⟨S96x512, .i1⟩
  | 60 => ⟨S96x512, .i1⟩
  | 61 => ⟨S96x512, .i1⟩
  | 62 => ⟨S96x512, .i1⟩
  | 63 => ⟨S_, .i32⟩
  | 64 => ⟨S96x1, .i32⟩
  | 65 => ⟨S96x1, .i1⟩
  | 66 => ⟨S_, .i32⟩
  | 67 => ⟨S512, .i32⟩
  | 68 => ⟨S512, .i1⟩
  | 69 => ⟨S1x512, .i1⟩
  | 70 => ⟨S96x512, .i1⟩
  | 71 => ⟨S96x512, .i1⟩
  | 72 => ⟨S96x512, .i1⟩
  | 73 => ⟨S96x512, .i1⟩
  | 74 => ⟨S96x512, .i1⟩
  | 75 => ⟨S96x512, .i1⟩
  | 76 => ⟨S96x512x1, .i1⟩
  | 77 => ⟨S96x512x1024, .i1⟩
  | 78 => ⟨S_, .f32⟩
  | 79 => ⟨S96x512x1024, .f32⟩
  | 80 => ⟨S96x512x1024, .f32⟩
  | 81 => ⟨S49152x1024, .f32⟩
  | 82 => ⟨S49152x1024, .bf16⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_c_0 : Ref sig .tc := ⟨.hbm, 12, rfl⟩
abbrev main_v5 : Ref sig .tc := ⟨.hbm, 13, rfl⟩
abbrev main_v6 : Ref sig .tc := ⟨.hbm, 14, rfl⟩
abbrev main_c_1 : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_c : Ref sig .tc := ⟨.hbm, 25, rfl⟩
abbrev main_call0_v9 : Ref sig .tc := ⟨.hbm, 26, rfl⟩
abbrev main_call0_v10 : Ref sig .tc := ⟨.hbm, 27, rfl⟩
abbrev main_call0_v11 : Ref sig .tc := ⟨.hbm, 28, rfl⟩
abbrev main_call0_c_0 : Ref sig .tc := ⟨.hbm, 29, rfl⟩
abbrev main_call0_v12 : Ref sig .tc := ⟨.hbm, 30, rfl⟩
abbrev main_call0_v13 : Ref sig .tc := ⟨.hbm, 31, rfl⟩
abbrev main_v7 : Ref sig .tc := ⟨.hbm, 32, rfl⟩
abbrev main_c_2 : Ref sig .tc := ⟨.hbm, 33, rfl⟩
abbrev main_v8 : Ref sig .tc := ⟨.hbm, 34, rfl⟩
abbrev main_v9 : Ref sig .tc := ⟨.hbm, 35, rfl⟩
abbrev main_call1_call0_c : Ref sig .tc := ⟨.hbm, 36, rfl⟩
abbrev main_call1_call0_v0 : Ref sig .tc := ⟨.hbm, 37, rfl⟩
abbrev main_v10 : Ref sig .tc := ⟨.hbm, 38, rfl⟩
abbrev main_v11 : Ref sig .tc := ⟨.hbm, 39, rfl⟩
abbrev main_c_3 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_c_4 : Ref sig .tc := ⟨.hbm, 49, rfl⟩
abbrev main_v20 : Ref sig .tc := ⟨.hbm, 50, rfl⟩
abbrev main_c_5 : Ref sig .tc := ⟨.hbm, 51, rfl⟩
abbrev main_v21 : Ref sig .tc := ⟨.hbm, 52, rfl⟩
abbrev main_v22 : Ref sig .tc := ⟨.hbm, 53, rfl⟩
abbrev main_c_6 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_v27 : Ref sig .tc := ⟨.hbm, 60, rfl⟩
abbrev main_c_8 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_c_9 : Ref sig .tc := ⟨.hbm, 68, rfl⟩
abbrev main_c_10 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v34 : Ref sig .tc := ⟨.hbm, 75, rfl⟩
abbrev main_v35 : Ref sig .tc := ⟨.hbm, 76, rfl⟩
abbrev main_c_11 : Ref sig .tc := ⟨.hbm, 77, rfl⟩
abbrev main_call3_v0 : Ref sig .tc := ⟨.hbm, 78, rfl⟩
abbrev main_call3_v1 : Ref sig .tc := ⟨.hbm, 79, rfl⟩
abbrev main_call3_v2 : Ref sig .tc := ⟨.hbm, 80, rfl⟩
abbrev main_call3_v3 : Ref sig .tc := ⟨.hbm, 81, rfl⟩
abbrev main_call3_v4 : Ref sig .tc := ⟨.hbm, 82, rfl⟩
abbrev main_call3_v5 : Ref sig .tc := ⟨.hbm, 83, rfl⟩
abbrev main_call3_v6 : Ref sig .tc := ⟨.hbm, 84, rfl⟩
abbrev main_call3_v7 : Ref sig .tc := ⟨.hbm, 85, rfl⟩
abbrev main_call3_v8 : Ref sig .tc := ⟨.hbm, 86, rfl⟩
abbrev main_call3_c : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_c_0 : Ref sig .tc := ⟨.hbm, 91, rfl⟩
abbrev main_call3_v12 : Ref sig .tc := ⟨.hbm, 92, rfl⟩
abbrev main_call3_v13 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_c_12 : Ref sig .tc := ⟨.hbm, 97, rfl⟩
abbrev main_v39 : Ref sig .tc := ⟨.hbm, 98, rfl⟩
abbrev main_v40 : Ref sig .tc := ⟨.hbm, 99, rfl⟩
abbrev main_c_13 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_v48 : Ref sig .tc := ⟨.hbm, 108, rfl⟩
abbrev main_c_14 : Ref sig .tc := ⟨.hbm, 109, rfl⟩
abbrev main_v49 : Ref sig .tc := ⟨.hbm, 110, rfl⟩
abbrev main_v50 : Ref sig .tc := ⟨.hbm, 111, rfl⟩
abbrev main_c_15 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_c_16 : Ref sig .tc := ⟨.hbm, 121, rfl⟩
abbrev main_v59 : Ref sig .tc := ⟨.hbm, 122, rfl⟩
abbrev main_v60 : Ref sig .tc := ⟨.hbm, 123, rfl⟩
abbrev main_c_17 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_c_18 : Ref sig .tc := ⟨.hbm, 133, rfl⟩
abbrev main_v69 : Ref sig .tc := ⟨.hbm, 134, rfl⟩
abbrev main_v70 : Ref sig .tc := ⟨.hbm, 135, rfl⟩
abbrev main_c_19 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_cst : Ref sig .tc := ⟨.hbm, 145, rfl⟩
abbrev main_v79 : Ref sig .tc := ⟨.hbm, 146, rfl⟩
abbrev main_v80 : Ref sig .tc := ⟨.hbm, 147, rfl⟩
abbrev main_cst_20 : Ref sig .tc := ⟨.hbm, 148, rfl⟩
abbrev main_v81 : Ref sig .tc := ⟨.hbm, 149, rfl⟩
abbrev main_v82 : Ref sig .tc := ⟨.hbm, 150, rfl⟩
abbrev main_cst_21 : Ref sig .tc := ⟨.hbm, 151, rfl⟩
abbrev main_v83 : Ref sig .tc := ⟨.hbm, 152, rfl⟩
abbrev main_v84 : Ref sig .tc := ⟨.hbm, 153, rfl⟩
abbrev main_cst_22 : Ref sig .tc := ⟨.hbm, 154, rfl⟩
abbrev main_v85 : Ref sig .tc := ⟨.hbm, 155, rfl⟩
abbrev main_v86 : Ref sig .tc := ⟨.hbm, 156, rfl⟩
abbrev main_v87 : Ref sig .tc := ⟨.hbm, 157, rfl⟩
abbrev main_cst_23 : Ref sig .tc := ⟨.hbm, 158, rfl⟩
abbrev main_v88 : Ref sig .tc := ⟨.hbm, 159, rfl⟩
abbrev main_v89 : Ref sig .tc := ⟨.hbm, 160, rfl⟩
abbrev main_v90 : Ref sig .tc := ⟨.hbm, 161, rfl⟩
abbrev main_v91 : Ref sig .tc := ⟨.hbm, 162, rfl⟩
abbrev main_cst_24 : Ref sig .tc := ⟨.hbm, 163, rfl⟩
abbrev main_v92 : Ref sig .tc := ⟨.hbm, 164, rfl⟩
abbrev main_v93 : Ref sig .tc := ⟨.hbm, 165, rfl⟩
abbrev main_cst_25 : Ref sig .tc := ⟨.hbm, 166, rfl⟩
abbrev main_v94 : Ref sig .tc := ⟨.hbm, 167, rfl⟩
abbrev main_v95 : Ref sig .tc := ⟨.hbm, 168, rfl⟩
abbrev main_v96 : Ref sig .tc := ⟨.hbm, 169, rfl⟩
abbrev main_v97 : Ref sig .tc := ⟨.hbm, 170, rfl⟩
abbrev main_v98 : Ref sig .tc := ⟨.hbm, 171, rfl⟩
abbrev main_v99 : Ref sig .tc := ⟨.hbm, 172, rfl⟩
abbrev main_v100 : Ref sig .tc := ⟨.hbm, 173, rfl⟩
abbrev main_v101 : Ref sig .tc := ⟨.hbm, 174, rfl⟩
abbrev main_v102 : Ref sig .tc := ⟨.hbm, 175, rfl⟩
abbrev main_c_26 : Ref sig .tc := ⟨.hbm, 176, rfl⟩
abbrev main_v103 : Ref sig .tc := ⟨.hbm, 177, rfl⟩
abbrev main_v104 : Ref sig .tc := ⟨.hbm, 178, rfl⟩
abbrev main_c_27 : Ref sig .tc := ⟨.hbm, 179, rfl⟩
abbrev main_v105 : Ref sig .tc := ⟨.hbm, 180, rfl⟩
abbrev main_v106 : Ref sig .tc := ⟨.hbm, 181, rfl⟩
abbrev main_c_28 : Ref sig .tc := ⟨.hbm, 182, rfl⟩
abbrev main_v107 : Ref sig .tc := ⟨.hbm, 183, rfl⟩
abbrev main_v108 : Ref sig .tc := ⟨.hbm, 184, rfl⟩
abbrev main_v109 : Ref sig .tc := ⟨.hbm, 185, rfl⟩
abbrev main_v110 : Ref sig .tc := ⟨.hbm, 186, rfl⟩
abbrev main_v111 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_c_29 : Ref sig .tc := ⟨.hbm, 191, rfl⟩
abbrev main_v115 : Ref sig .tc := ⟨.hbm, 192, rfl⟩
abbrev main_v116 : Ref sig .tc := ⟨.hbm, 193, rfl⟩
abbrev main_c_30 : Ref sig .tc := ⟨.hbm, 194, rfl⟩
abbrev main_v117 : Ref sig .tc := ⟨.hbm, 195, rfl⟩
abbrev main_v118 : Ref sig .tc := ⟨.hbm, 196, rfl⟩
abbrev main_v119 : Ref sig .tc := ⟨.hbm, 197, rfl⟩
abbrev main_v120 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_cst_31 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩

abbrev nD : Nat := 1
abbrev τ : Topo := Topo.v7x

variable {F : FTy → Type} [FloatOps F]
-- ==== Kernel5.lean ====
abbrev S1x128 : Shape := ⟨2, ![1, 128]⟩
abbrev S49152x1024 : Shape := ⟨2, ![49152, 1024]⟩
abbrev S32x1024x4096 : Shape := ⟨3, ![32, 1024, 4096]⟩
abbrev S32x1x4096 : Shape := ⟨3, ![32, 1, 4096]⟩
abbrev S1x32 : Shape := ⟨2, ![1, 32]⟩
abbrev S32 : Shape := ⟨1, ![32]⟩
abbrev S_ : Shape := ⟨0, ![]⟩
abbrev S96 : Shape := ⟨1, ![96]⟩
abbrev S96x1 : Shape := ⟨2, ![96, 1]⟩
abbrev S96x32 : Shape := ⟨2, ![96, 32]⟩
abbrev S1 : Shape := ⟨1, ![1]⟩
abbrev S49152x32x128 : Shape := ⟨3, ![49152, 32, 128]⟩
abbrev S512x1024 : Shape := ⟨2, ![512, 1024]⟩
abbrev S1x1024x2048 : Shape := ⟨3, ![1, 1024, 2048]⟩
abbrev S1x1x2048 : Shape := ⟨3, ![1, 1, 2048]⟩
abbrev S512x16x128 : Shape := ⟨3, ![512, 16, 128]⟩
abbrev S1024x2048 : Shape := ⟨2, ![1024, 2048]⟩
abbrev S512x2048 : Shape := ⟨2, ![512, 2048]⟩
abbrev S1x2048 : Shape := ⟨2, ![1, 2048]⟩
abbrev S256x16x128 : Shape := ⟨3, ![256, 16, 128]⟩
abbrev S256x1024 : Shape := ⟨2, ![256, 1024]⟩
abbrev S256x2048 : Shape := ⟨2, ![256, 2048]⟩
abbrev S384x16x128 : Shape := ⟨3, ![384, 16, 128]⟩
abbrev S128x1024 : Shape := ⟨2, ![128, 1024]⟩
abbrev S128x2048 : Shape := ⟨2, ![128, 2048]⟩
abbrev S128x16x128 : Shape := ⟨3, ![128, 16, 128]⟩

abbrev nBuf : Space → Nat
  | .hbm => 109
  | .vmem => 9
  | .smem => 3
  | _ => 0

abbrev bufTy : (tb : Table) → Fin (tcTables nBuf tb) → BufTy
  | .hbm, ⟨0, _⟩ => ⟨S1x128, .f32⟩
  | .hbm, ⟨1, _⟩ => ⟨S49152x1024, .bf16⟩
  | .hbm, ⟨2, _⟩ => ⟨S32x1024x4096, .f32⟩
  | .hbm, ⟨3, _⟩ => ⟨S32x1x4096, .f32⟩
  | .hbm, ⟨4, _⟩ => ⟨S1x32, .f32⟩
  | .hbm, ⟨5, _⟩ => ⟨S32, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S_, .i32⟩
  | .hbm, ⟨15, _⟩ => ⟨S32, .i32⟩
  | .hbm, ⟨16, _⟩ => ⟨S32, .i32⟩
  | .hbm, ⟨17, _⟩ => ⟨S32, .i32⟩
  | .hbm, ⟨18, _⟩ => ⟨S_, .i32⟩
  | .hbm, ⟨19, _⟩ => ⟨S32, .i32⟩
  | .hbm, ⟨20, _⟩ => ⟨S32, .i1⟩
  | .hbm, ⟨21, _⟩ => ⟨S32, .i32⟩
  | .hbm, ⟨22, _⟩ => ⟨S32, .i32⟩
  | .hbm, ⟨23, _⟩ => ⟨S_, .i32⟩
  | .hbm, ⟨24, _⟩ => ⟨S32, .i32⟩
  | .hbm, ⟨25, _⟩ => ⟨S32, .i1⟩
  | .hbm, ⟨26, _⟩ => ⟨S32, .i1⟩
  | .hbm, ⟨27, _⟩ => ⟨S_, .i32⟩
  | .hbm, ⟨28, _⟩ => ⟨S32, .i32⟩
  | .hbm, ⟨29, _⟩ => ⟨S32, .i32⟩
  | .hbm, ⟨30, _⟩ => ⟨S32, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S_, .i32⟩
  | .hbm, ⟨36, _⟩ => ⟨S32, .i32⟩
  | .hbm, ⟨37, _⟩ => ⟨S32, .i32⟩
  | .hbm, ⟨38, _⟩ => ⟨S96, .i32⟩
  | .hbm, ⟨39, _⟩ => ⟨S_, .i32⟩
  | .hbm, ⟨40, _⟩ => ⟨S96, .i32⟩
  | .hbm, ⟨41, _⟩ => ⟨S96, .i32⟩
  | .hbm, ⟨42, _⟩ => ⟨S1x32, .i32⟩
  | .hbm, ⟨43, _⟩ => ⟨S96x1, .i32⟩
  | .hbm, ⟨44, _⟩ => ⟨S96x32, .i32⟩
  | .hbm, ⟨45, _⟩ => ⟨S96x32, .i32⟩
  | .hbm, ⟨46, _⟩ => ⟨S96x32, .i1⟩
  | .hbm, ⟨47, _⟩ => ⟨S96x32, .i32⟩
  | .hbm, ⟨48, _⟩ => ⟨S_, .i32⟩
  | .hbm, ⟨49, _⟩ => ⟨S96, .i32⟩
  | .hbm, ⟨50, _⟩ => ⟨S_, .i32⟩
  | .hbm, ⟨51, _⟩ => ⟨S96, .i32⟩
  | .hbm, ⟨52, _⟩ => ⟨S96, .i32⟩
  | .hbm, ⟨53, _⟩ => ⟨S_, .i32⟩
  | .hbm, ⟨54, _⟩ => ⟨S96, .i32⟩
  | .hbm, ⟨55, _⟩ => ⟨S96, .i32⟩
  | .hbm, ⟨56, _⟩ => ⟨S_, .i32⟩
  | .hbm, ⟨57, _⟩ => ⟨S96, .i32⟩
  | .hbm, ⟨58, _⟩ => ⟨S96, .i1⟩
  | .hbm, ⟨59, _⟩ => ⟨S_, .i32⟩
  | .hbm, ⟨60, _⟩ => ⟨S96, .i32⟩
  | .hbm, ⟨61, _⟩ => ⟨S96, .i32⟩
  | .hbm, ⟨62, _⟩ => ⟨S96, .i32⟩
  | .hbm, ⟨63, _⟩ => ⟨S96x1, .i32⟩
  | .hbm, ⟨64, _⟩ => ⟨S96, .i32⟩
  | .hbm, ⟨65, _⟩ => ⟨S96, .i32⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S96, .i32⟩
  | .hbm, ⟨70, _⟩ => ⟨S96, .i32⟩
  | .hbm, ⟨71, _⟩ => ⟨S_, .i32⟩
  | .hbm, ⟨72, _⟩ => ⟨S96, .i32⟩
  | .hbm, ⟨73, _⟩ => ⟨S1, .i32⟩
  | .hbm, ⟨74, _⟩ => ⟨S_, .i32⟩
  | .hbm, ⟨75, _⟩ => ⟨S_, .i32⟩
  | .hbm, ⟨76, _⟩ => ⟨S1, .i32⟩
  | .hbm, ⟨77, _⟩ => ⟨S1, .i32⟩
  | .hbm, ⟨78, _⟩ => ⟨S1, .i32⟩
  | .hbm, ⟨79, _⟩ => ⟨S_, .i32⟩
  | .hbm, ⟨80, _⟩ => ⟨S1, .i32⟩
  | .hbm, ⟨81, _⟩ => ⟨S1, .i1⟩
  | .hbm, ⟨82, _⟩ => ⟨S1, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S1, .i1⟩
  | .hbm, ⟨87, _⟩ => ⟨S1, .i1⟩
  | .hbm, ⟨88, _⟩ => ⟨S_, .i32⟩
  | .hbm, ⟨89, _⟩ => ⟨S1, .i32⟩
  | .hbm, ⟨90, _⟩ => ⟨S1, .i32⟩
  | .hbm, ⟨91, _⟩ => ⟨S96, .i32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S96, .i32⟩
  | .hbm, ⟨96, _⟩ => ⟨S96, .i32⟩
  | .hbm, ⟨97, _⟩ => ⟨S_, .i32⟩
  | .hbm, ⟨98, _⟩ => ⟨S96, .i32⟩
  | .hbm, ⟨99, _⟩ => ⟨S96, .i32⟩
  | .hbm, ⟨100, _⟩ => ⟨S_, .i32⟩
  | .hbm, ⟨101, _⟩ => ⟨S96, .i32⟩
  | .hbm, ⟨102, _⟩ => ⟨S96, .i1⟩
  | .hbm, ⟨103, _⟩ => ⟨S_, .i32⟩
  | .hbm, ⟨104, _⟩ => ⟨S96, .i32⟩
  | .hbm, ⟨105, _⟩ => ⟨S96, .i32⟩
  | .hbm, ⟨106, _⟩ => ⟨S96, .i32⟩
  | .hbm, ⟨107, _⟩ => ⟨S96x1, .i32⟩
  | .hbm, ⟨108, _⟩ => ⟨S49152x32x128, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S512x16x128, .bf16⟩
  | .local _ .vmem, ⟨7, _⟩ => ⟨S512x16x128, .bf16⟩
  | .local _ .vmem, ⟨8, _⟩ => ⟨S1024x2048, .bf16⟩
  | .local _ .smem, ⟨0, _⟩ => ⟨S96, .i32⟩
  | .local _ .smem, ⟨1, _⟩ => ⟨S1, .i32⟩
  | .local _ .smem, ⟨2, _⟩ => ⟨S96, .i32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_call1_call0_c : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_c_4 : Ref sig .tc := ⟨.hbm, 48, rfl⟩
abbrev main_v21 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_9 : Ref sig .tc := ⟨.hbm, 66, rfl⟩
abbrev main_c_10 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v35 : Ref sig .tc := ⟨.hbm, 73, rfl⟩
abbrev main_c_11 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_v5 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_c : Ref sig .tc := ⟨.hbm, 84, rfl⟩
abbrev main_call3_v9 : Ref sig .tc := ⟨.hbm, 85, rfl⟩
abbrev main_call3_v10 : Ref sig .tc := ⟨.hbm, 86, rfl⟩
abbrev main_call3_v11 : Ref sig .tc := ⟨.hbm, 87, rfl⟩
abbrev main_call3_c_0 : Ref sig .tc := ⟨.hbm, 88, rfl⟩
abbrev main_call3_v12 : Ref sig .tc := ⟨.hbm, 89, rfl⟩
abbrev main_call3_v13 : Ref sig .tc := ⟨.hbm, 90, rfl⟩
abbrev main_v37 : Ref sig .tc := ⟨.hbm, 91, rfl⟩
abbrev main_v38 : Ref sig .tc := ⟨.hbm, 92, rfl⟩
abbrev main_c_12 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_c_13 : Ref sig .tc := ⟨.hbm, 97, rfl⟩
abbrev main_v42 : Ref sig .tc := ⟨.hbm, 98, rfl⟩
abbrev main_v43 : Ref sig .tc := ⟨.hbm, 99, rfl⟩
abbrev main_c_14 : Ref sig .tc := ⟨.hbm, 100, rfl⟩
abbrev main_v44 : Ref sig .tc := ⟨.hbm, 101, rfl⟩
abbrev main_v45 : Ref sig .tc := ⟨.hbm, 102, rfl⟩
abbrev main_c_15 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v51 : Ref sig .tc := ⟨.hbm, 108, rfl⟩
abbrev main_v50 : Ref sig .tc := ⟨.smem, 0, rfl⟩
abbrev main_v36 : Ref sig .tc := ⟨.smem, 1, rfl⟩
abbrev main_v34 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 96], ![false, false]⟩

abbrev pre0 : Pipeline.Prefetch sig := ⟨3, ![main_v50.idx, main_v36.idx, main_v34.idx], fun | 0 => main_v50.names | 1 => main_v36.names | 2 => main_v34.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v3 : BitVec 32 := Scalar.subi arg1 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg1 : BitVec 32 := BitVec.ofNat 32 (i 1).val
  let v13 : Index := Scalar.indexCast arg1
  ![v13.toNat]
def k0_cond2 (i : grid0.Coords) (v11 : BitVec 32) (v14 : BitVec 32) : BitVec 1 :=
  let arg1 : BitVec 32 := BitVec.ofNat 32 (i 1).val
  let v12 : BitVec 1 := Scalar.cmpi .slt arg1 v11
  let c0_i32_2 : BitVec 32 := 0#32
  let v15 : BitVec 32 := Scalar.select v12 v14 c0_i32_2
  let c256_i32 : BitVec 32 := 256#32
  let v16 : BitVec 1 := Scalar.cmpi .sgt v15 c256_i32
  let c512_i32 : BitVec 32 := 512#32
  let v17 : BitVec 1 := Scalar.cmpi .sle v15 c512_i32
  let v18 : BitVec 1 := Scalar.andi v16 v17
  let v19 : BitVec 32 := Scalar.extui v18
  let c0_i32_3 : BitVec 32 := 0#32
  let v20 : BitVec 1 := Scalar.cmpi .ne v19 c0_i32_3
  v20

def k0_cond3 (i : grid0.Coords) (v11 : BitVec 32) (v14 : BitVec 32) : BitVec 1 :=
  let arg1 : BitVec 32 := BitVec.ofNat 32 (i 1).val
  let v12 : BitVec 1 := Scalar.cmpi .slt arg1 v11
  let c0_i32_2 : BitVec 32 := 0#32
  let v15 : BitVec 32 := Scalar.select v12 v14 c0_i32_2
  let c128_i32 : BitVec 32 := 128#32
  let v21 : BitVec 1 := Scalar.cmpi .sgt v15 c128_i32
  let c256_i32_4 : BitVec 32 := 256#32
  let v22 : BitVec 1 := Scalar.cmpi .sle v15 c256_i32_4
  let v23 : BitVec 1 := Scalar.andi v21 v22
  let v24 : BitVec 32 := Scalar.extui v23
  let c0_i32_5 : BitVec 32 := 0#32
  let v25 : BitVec 1 := Scalar.cmpi .ne v24 c0_i32_5
  v25

def k0_cond4 (i : grid0.Coords) (v11 : BitVec 32) (v14 : BitVec 32) : BitVec 1 :=
  let arg1 : BitVec 32 := BitVec.ofNat 32 (i 1).val
  let v12 : BitVec 1 := Scalar.cmpi .slt arg1 v11
  let c0_i32_2 : BitVec 32 := 0#32
  let v15 : BitVec 32 := Scalar.select v12 v14 c0_i32_2
  let c0_i32_6 : BitVec 32 := 0#32
  let v26 : BitVec 1 := Scalar.cmpi .sgt v15 c0_i32_6
  let c128_i32_7 : BitVec 32 := 128#32
  let v27 : BitVec 1 := Scalar.cmpi .sle v15 c128_i32_7
  let v28 : BitVec 1 := Scalar.andi v26 v27
  let v29 : BitVec 32 := Scalar.extui v28
  let c0_i32_8 : BitVec 32 := 0#32
  let v30 : BitVec 1 := Scalar.cmpi .ne v29 c0_i32_8
  v30

def k0_cond5 (i : grid0.Coords) (v11 : BitVec 32) (v14 : BitVec 32) : BitVec 1 :=
  let arg1 : BitVec 32 := BitVec.ofNat 32 (i 1).val
  let v12 : BitVec 1 := Scalar.cmpi .slt arg1 v11
  let c0_i32_2 : BitVec 32 := 0#32
  let v15 : BitVec 32 := Scalar.select v12 v14 c0_i32_2
  let c0_i32_9 : BitVec 32 := 0#32
  let v31 : BitVec 1 := Scalar.cmpi .eq v15 c0_i32_9
  let v32 : BitVec 32 := Scalar.extui v31
  let c0_i32_10 : BitVec 32 := 0#32
  let v33 : BitVec 1 := Scalar.cmpi .ne v32 c0_i32_10
  v33

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S96.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S96) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x16x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference5Ideal.lean ====
abbrev S1x128 : Shape := ⟨2, ![1, 128]⟩
abbrev S49152x1024 : Shape := ⟨2, ![49152, 1024]⟩
abbrev S32x1024x4096 : Shape := ⟨3, ![32, 1024, 4096]⟩
abbrev S32x1x4096 : Shape := ⟨3, ![32, 1, 4096]⟩
abbrev S1x32 : Shape := ⟨2, ![1, 32]⟩
abbrev S32 : Shape := ⟨1, ![32]⟩
abbrev S_ : Shape := ⟨0, ![]⟩
abbrev S96 : Shape := ⟨1, ![96]⟩
abbrev S96x1 : Shape := ⟨2, ![96, 1]⟩
abbrev S96x32 : Shape := ⟨2, ![96, 32]⟩
abbrev S1 : Shape := ⟨1, ![1]⟩
abbrev S96x512x1024 : Shape := ⟨3, ![96, 512, 1024]⟩
abbrev S96x1024x4096 : Shape := ⟨3, ![96, 1024, 4096]⟩
abbrev S96x512x4096 : Shape := ⟨3, ![96, 512, 4096]⟩
abbrev S96x1x4096 : Shape := ⟨3, ![96, 1, 4096]⟩
abbrev S512 : Shape := ⟨1, ![512]⟩
abbrev S1x512 : Shape := ⟨2, ![1, 512]⟩
abbrev S96x512 : Shape := ⟨2, ![96, 512]⟩
abbrev S96x512x1 : Shape := ⟨3, ![96, 512, 1]⟩
abbrev S49152x32x128 : Shape := ⟨3, ![49152, 32, 128]⟩

abbrev nBuf : Space → Nat
  | .hbm => 157
  | .vmem => 0
  | .smem => 0
  | _ => 0

abbrev hbmTy0_0 (i : Nat) : BufTy := match i % 128 with
  | 0 => ⟨S1x128, .f32⟩
  | 1 => ⟨S49152x1024, .bf16⟩
  | 2 => ⟨S32x1024x4096, .f32⟩
  | 3 => ⟨S32x1x4096, .f32⟩
  | 4 => ⟨S1x32, .f32⟩
  | 5 => ⟨S32, .f32⟩
  | 6 => ⟨S32, .i32⟩
  | 7 => ⟨S_, .i32⟩
  | 8 => ⟨S32, .i32⟩
  | 9 => ⟨S32, .i32⟩
  | 10 => ⟨S_, .i32⟩
  | 11 => ⟨S32, .i32⟩
  | 12 => ⟨S32, .i32⟩
  | 13 => ⟨S_, .i32⟩
  | 14 => ⟨S_, .i32⟩
  | 15 => ⟨S32, .i32⟩
  | 16 => ⟨S32, .i32⟩
  | 17 => ⟨S32, .i32⟩
  | 18 => ⟨S_, .i32⟩
  | 19 => ⟨S32, .i32⟩
  | 20 => ⟨S32, .i1⟩
  | 21 => ⟨S32, .i32⟩
  | 22 => ⟨S32, .i32⟩
  | 23 => ⟨S_, .i32⟩
  | 24 => ⟨S32, .i32⟩
  | 25 => ⟨S32, .i1⟩
  | 26 => ⟨S32, .i1⟩
  | 27 => ⟨S_, .i32⟩
  | 28 => ⟨S32, .i32⟩
  | 29 => ⟨S32, .i32⟩
  | 30 => ⟨S32, .i32⟩
  | 31 => ⟨S_, .i32⟩
  | 32 => ⟨S32, .i32⟩
  | 33 => ⟨S32, .i32⟩
  | 34 => ⟨S_, .i32⟩
  | 35 => ⟨S_, .i32⟩
  | 36 => ⟨S32, .i32⟩
  | 37 => ⟨S96, .i32⟩
  | 38 => ⟨S_, .i32⟩
  | 39 => ⟨S96, .i32⟩
  | 40 => ⟨S96, .i32⟩
  | 41 => ⟨S1x32, .i32⟩
  | 42 => ⟨S96x1, .i32⟩
  | 43 => ⟨S96x32, .i32⟩
  | 44 => ⟨S96x32, .i32⟩
  | 45 => ⟨S96x32, .i1⟩
  | 46 => ⟨S96x32, .i32⟩
  | 47 => ⟨S_, .i32⟩
  | 48 => ⟨S96, .i32⟩
  | 49 => ⟨S_, .i32⟩
  | 50 => ⟨S96, .i32⟩
  | 51 => ⟨S96, .i32⟩
  | 52 => ⟨S_, .i32⟩
  | 53 => ⟨S96, .i32⟩
  | 54 => ⟨S96, .i32⟩
  | 55 => ⟨S32, .i32⟩
  | 56 => ⟨S_, .i32⟩
  | 57 => ⟨S96, .i32⟩
  | 58 => ⟨S96, .i1⟩
  | 59 => ⟨S_, .i32⟩
  | 60 => ⟨S96, .i32⟩
  | 61 => ⟨S96, .i32⟩
  | 62 => ⟨S96, .i32⟩
  | 63 => ⟨S96x1, .i32⟩
  | 64 => ⟨S96, .i32⟩
  | 65 => ⟨S96, .i32⟩
  | 66 => ⟨S_, .i32⟩
  | 67 => ⟨S_, .i32⟩
  | 68 => ⟨S_, .i32⟩
  | 69 => ⟨S96, .i32⟩
  | 70 => ⟨S96, .i32⟩
  | 71 => ⟨S_, .i32⟩
  | 72 => ⟨S96, .i32⟩
  | 73 => ⟨S96, .i32⟩
  | 74 => ⟨S1, .i32⟩
  | 75 => ⟨S_, .i32⟩
  | 76 => ⟨S_, .i32⟩
  | 77 => ⟨S1, .i32⟩
  | 78 => ⟨S1, .i32⟩
  | 79 => ⟨S1, .i32⟩
  | 80 => ⟨S_, .i32⟩
  | 81 => ⟨S1, .i32⟩
  | 82 => ⟨S1, .i1⟩
  | 83 => ⟨S1, .i32⟩
  | 84 => ⟨S1, .i32⟩
  | 85 => ⟨S_, .i32⟩
  | 86 => ⟨S1, .i32⟩
  | 87 => ⟨S1, .i1⟩
  | 88 => ⟨S1, .i1⟩
  | 89 => ⟨S_, .i32⟩
  | 90 => ⟨S1, .i32⟩
  | 91 => ⟨S1, .i32⟩
  | 92 => ⟨S1, .i32⟩
  | 93 => ⟨S96x512x1024, .bf16⟩
  | 94 => ⟨S_, .i32⟩
  | 95 => ⟨S96, .i32⟩
  | 96 => ⟨S96, .i1⟩
  | 97 => ⟨S_, .i32⟩
  | 98 => ⟨S96, .i32⟩
  | 99 => ⟨S96, .i32⟩
  | 100 => ⟨S96, .i32⟩
  | 101 => ⟨S96x1, .i32⟩
  | 102 => ⟨S96x1024x4096, .f32⟩
  | 103 => ⟨S96x1024x4096, .bf16⟩
  | 104 => ⟨S96x512x4096, .f32⟩
  | 105 => ⟨S_, .i32⟩
  | 106 => ⟨S96, .i32⟩
  | 107 => ⟨S96, .i1⟩
  | 108 => ⟨S_, .i32⟩
  | 109 => ⟨S96, .i32⟩
  | 110 => ⟨S96, .i32⟩
  | 111 => ⟨S96, .i32⟩
  | 112 => ⟨S96x1, .i32⟩
  | 113 => ⟨S96x1x4096, .f32⟩
  | 114 => ⟨S96x512x4096, .f32⟩
  | 115 => ⟨S96x512x4096, .f32⟩
  | 116 => ⟨S512, .i32⟩
  | 117 => ⟨S96x1, .i32⟩
  | 118 => ⟨S96, .i32⟩
  | 119 => ⟨S96, .i32⟩
  | 120 => ⟨S96, .i1⟩
  | 121 => ⟨S96x1, .i1⟩
  | 122 => ⟨S_, .i32⟩
  | 123 => ⟨S96x1, .i32⟩
  | 124 => ⟨S96x1, .i1⟩
  | 125 => ⟨S_, .i32⟩
  | 126 => ⟨S96x1, .i32⟩
  | 127 => ⟨S96x1, .i1⟩
  | _ => ⟨S1x128, .f32⟩

abbrev hbmTy0_1 (i : Nat) : BufTy := match i % 128 with
  | 0 => ⟨S_, .i32⟩
  | 1 => ⟨S512, .i32⟩
  | 2 => ⟨S512, .i1⟩
  | 3 => ⟨S1x512, .i1⟩
  | 4 => ⟨S96x512, .i1⟩
  | 5 => ⟨S96x512, .i1⟩
  | 6 => ⟨S96x512, .i1⟩
  | 7 => ⟨S96x512, .i1⟩
  | 8 => ⟨S96x512, .i1⟩
  | 9 => ⟨S_, .i32⟩
  | 10 => ⟨S96x1, .i32⟩
  | 11 => ⟨S96x1, .i1⟩
  | 12 => ⟨S_, .i32⟩
  | 13 => ⟨S512, .i32⟩
  | 14 => ⟨S512, .i1⟩
  | 15 => ⟨S1x512, .i1⟩
  | 16 => ⟨S96x512, .i1⟩
  | 17 => ⟨S96x512, .i1⟩
  | 18 => ⟨S96x512, .i1⟩
  | 19 => ⟨S96x512, .i1⟩
  | 20 => ⟨S96x512, .i1⟩
  | 21 => ⟨S96x512, .i1⟩
  | 22 => ⟨S96x512x1, .i1⟩
  | 23 => ⟨S96x512x4096, .i1⟩
  | 24 => ⟨S_, .f32⟩
  | 25 => ⟨S96x512x4096, .f32⟩
  | 26 => ⟨S96x512x4096, .f32⟩
  | 27 => ⟨S49152x32x128, .f32⟩
  | 28 => ⟨S49152x32x128, .bf16⟩
  | _ => ⟨S1x128, .f32⟩

abbrev hbmTy (i : Nat) : BufTy := match i / 128 with
  | 0 => hbmTy0_0 i
  | 1 => hbmTy0_1 i
  | _ => ⟨S1x128, .f32⟩

abbrev bufTy : (tb : Table) → Fin (tcTables nBuf tb) → BufTy
  | .hbm, ⟨i, _⟩ => hbmTy i
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_c_2 : Ref sig .tc := ⟨.hbm, 31, rfl⟩
abbrev main_v8 : Ref sig .tc := ⟨.hbm, 32, rfl⟩
abbrev main_v9 : Ref sig .tc := ⟨.hbm, 33, rfl⟩
abbrev main_call1_call0_c : Ref sig .tc := ⟨.hbm, 34, rfl⟩
abbrev main_call1_call0_v0 : Ref sig .tc := ⟨.hbm, 35, rfl⟩
abbrev main_v10 : Ref sig .tc := ⟨.hbm, 36, rfl⟩
abbrev main_v11 : Ref sig .tc := ⟨.hbm, 37, rfl⟩
abbrev main_c_3 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_c_4 : Ref sig .tc := ⟨.hbm, 47, rfl⟩
abbrev main_v20 : Ref sig .tc := ⟨.hbm, 48, rfl⟩
abbrev main_c_5 : Ref sig .tc := ⟨.hbm, 49, rfl⟩
abbrev main_v21 : Ref sig .tc := ⟨.hbm, 50, rfl⟩
abbrev main_v22 : Ref sig .tc := ⟨.hbm, 51, rfl⟩
abbrev main_c_6 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_7 : Ref sig .tc := ⟨.hbm, 56, rfl⟩
abbrev main_v26 : Ref sig .tc := ⟨.hbm, 57, rfl⟩
abbrev main_v27 : Ref sig .tc := ⟨.hbm, 58, rfl⟩
abbrev main_c_8 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_9 : Ref sig .tc := ⟨.hbm, 66, rfl⟩
abbrev main_c_10 : Ref sig .tc := ⟨.hbm, 67, rfl⟩
abbrev main_call2_v0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_v34 : Ref sig .tc := ⟨.hbm, 73, rfl⟩
abbrev main_v35 : Ref sig .tc := ⟨.hbm, 74, rfl⟩
abbrev main_c_11 : Ref sig .tc := ⟨.hbm, 75, rfl⟩
abbrev main_call3_v0 : Ref sig .tc := ⟨.hbm, 76, rfl⟩
abbrev main_call3_v1 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_v5 : Ref sig .tc := ⟨.hbm, 81, rfl⟩
abbrev main_call3_v6 : Ref sig .tc := ⟨.hbm, 82, rfl⟩
abbrev main_call3_v7 : Ref sig .tc := ⟨.hbm, 83, rfl⟩
abbrev main_call3_v8 : Ref sig .tc := ⟨.hbm, 84, rfl⟩
abbrev main_call3_c : Ref sig .tc := ⟨.hbm, 85, rfl⟩
abbrev main_call3_v9 : Ref sig .tc := ⟨.hbm, 86, rfl⟩
abbrev main_call3_v10 : Ref sig .tc := ⟨.hbm, 87, rfl⟩
abbrev main_call3_v11 : Ref sig .tc := ⟨.hbm, 88, rfl⟩
abbrev main_call3_c_0 : Ref sig .tc := ⟨.hbm, 89, rfl⟩
abbrev main_call3_v12 : Ref sig .tc := ⟨.hbm, 90, rfl⟩
abbrev main_call3_v13 : Ref sig .tc := ⟨.hbm, 91, rfl⟩
abbrev main_v36 : Ref sig .tc := ⟨.hbm, 92, rfl⟩
abbrev main_v37 : Ref sig .tc := ⟨.hbm, 93, rfl⟩
abbrev main_c_12 : Ref sig .tc := ⟨.hbm, 94, rfl⟩
abbrev main_v38 : Ref sig .tc := ⟨.hbm, 95, rfl⟩
abbrev main_v39 : Ref sig .tc := ⟨.hbm, 96, rfl⟩
abbrev main_c_13 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_c_14 : Ref sig .tc := ⟨.hbm, 105, rfl⟩
abbrev main_v47 : Ref sig .tc := ⟨.hbm, 106, rfl⟩
abbrev main_v48 : Ref sig .tc := ⟨.hbm, 107, rfl⟩
abbrev main_c_15 : Ref sig .tc := ⟨.hbm, 108, rfl⟩
abbrev main_v49 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_c_16 : Ref sig .tc := ⟨.hbm, 122, rfl⟩
abbrev main_v62 : Ref sig .tc := ⟨.hbm, 123, rfl⟩
abbrev main_v63 : Ref sig .tc := ⟨.hbm, 124, rfl⟩
abbrev main_c_17 : Ref sig .tc := ⟨.hbm, 125, rfl⟩
abbrev main_v64 : Ref sig .tc := ⟨.hbm, 126, rfl⟩
abbrev main_v65 : Ref sig .tc := ⟨.hbm, 127, rfl⟩
abbrev main_c_18 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_v71 : Ref sig .tc := ⟨.hbm, 134, rfl⟩
abbrev main_v72 : Ref sig .tc := ⟨.hbm, 135, rfl⟩
abbrev main_v73 : Ref sig .tc := ⟨.hbm, 136, rfl⟩
abbrev main_c_19 : Ref sig .tc := ⟨.hbm, 137, rfl⟩
abbrev main_v74 : Ref sig .tc := ⟨.hbm, 138, rfl⟩
abbrev main_v75 : Ref sig .tc := ⟨.hbm, 139, rfl⟩
abbrev main_c_20 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_cst : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩

abbrev nD : Nat := 1
abbrev τ : Topo := Topo.v7x

variable {F : FTy → Type} [FloatOps F]
-- ==== Kernel6.lean ====
abbrev S8192x2048 : Shape := ⟨2, ![8192, 2048]⟩
abbrev S1x4096x4096 : Shape := ⟨3, ![1, 4096, 4096]⟩
abbrev S8192x4096 : Shape := ⟨2, ![8192, 4096]⟩
abbrev S4096x4096 : Shape := ⟨2, ![4096, 4096]⟩
abbrev S2048x2048 : Shape := ⟨2, ![2048, 2048]⟩
abbrev S2048x256 : Shape := ⟨2, ![2048, 256]⟩
abbrev S1024x2048 : Shape := ⟨2, ![1024, 2048]⟩
abbrev S1024x256 : Shape := ⟨2, ![1024, 256]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S4096x4096, .f32⟩
  | .hbm, ⟨5, _⟩ => ⟨S4096x4096, .f32⟩
  | .hbm, ⟨6, _⟩ => ⟨S8192x4096, .f32⟩
  | .local _ .vmem, ⟨0, _⟩ => ⟨S2048x2048, .bf16⟩
  | .local _ .vmem, ⟨1, _⟩ => ⟨S2048x2048, .bf16⟩
  | .local _ .vmem, ⟨2, _⟩ => ⟨S2048x2048, .bf16⟩
  | .local _ .vmem, ⟨3, _⟩ => ⟨S2048x2048, .bf16⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | .local _ .vmem, ⟨12, _⟩ => ⟨S2048x256, .bf16⟩
  | .local _ .vmem, ⟨13, _⟩ => ⟨S2048x256, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 16], ![false, false]⟩

@[reducible] def k0_t1_loop : Scf.Loop 32 :=
  let c0_i32 : BitVec 32 := 0#32
  let c2_i32 : BitVec 32 := 2#32
  let v12 : BitVec 32 := Scalar.addi c0_i32 c2_i32
  let c1_i32 : BitVec 32 := 1#32
  ⟨c0_i32, v12, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c1024_i32 : BitVec 32 := 1024#32
  let v13 : BitVec 32 := Scalar.muli arg10 c1024_i32
  v13
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v13 : BitVec 32 := Scalar.muli arg10 c1024_i32
  let v14 : BitVec 32 := v13
  let v15 : Index := Scalar.indexCast v14
  let c0_8 : Index := 0#32
  ![v15.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1024_i32 : BitVec 32 := 1024#32
  let v13 : BitVec 32 := Scalar.muli arg10 c1024_i32
  let v14 : BitVec 32 := v13
  let v24 : Index := Scalar.indexCast v14
  let c0_15 : Index := 0#32
  ![v24.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c1_i32 : BitVec 32 := 1#32
  let c0_i32_0 : BitVec 32 := 0#32
  ![c1_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S8192x2048 : Shape := ⟨2, ![8192, 2048]⟩
abbrev S1x4096x4096 : Shape := ⟨3, ![1, 4096, 4096]⟩
abbrev S8192x4096 : Shape := ⟨2, ![8192, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S1x4096x4096, .f32⟩
  | .hbm, ⟨3, _⟩ => ⟨S8192x4096, .f32⟩
  | .hbm, ⟨4, _⟩ => ⟨S8192x4096, .bf16⟩
  | .hbm, ⟨5, _⟩ => ⟨S4096x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S4x2048x4096 : Shape := ⟨3, ![4, 2048, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S1x4096, .f32⟩
  | .hbm, ⟨6, _⟩ => ⟨S8192x4096, .f32⟩
  | .hbm, ⟨7, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference7Ideal.lean ====
abbrev S4x2048x4096 : Shape := ⟨3, ![4, 2048, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x4096 : Shape := ⟨2, ![8192, 4096]⟩

abbrev nBuf : Space → Nat
  | .hbm => 34
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S4x2048x4096, .f32⟩
  | .hbm, ⟨10, _⟩ => ⟨S4x2048x4096, .f32⟩
  | .hbm, ⟨11, _⟩ => ⟨S4x2048x4096, .f32⟩
  | .hbm, ⟨12, _⟩ => ⟨S_, .f32⟩
  | .hbm, ⟨13, _⟩ => ⟨S4x2048, .f32⟩
  | .hbm, ⟨14, _⟩ => ⟨S4x2048x1, .f32⟩
  | .hbm, ⟨15, _⟩ => ⟨S_, .f32⟩
  | .hbm, ⟨16, _⟩ => ⟨S4x2048x1, .f32⟩
  | .hbm, ⟨17, _⟩ => ⟨S4x2048x1, .f32⟩
  | .hbm, ⟨18, _⟩ => ⟨S4x2048x4096, .f32⟩
  | .hbm, ⟨19, _⟩ => ⟨S4x2048x4096, .f32⟩
  | .hbm, ⟨20, _⟩ => ⟨S_, .f32⟩
  | .hbm, ⟨21, _⟩ => ⟨S4x2048x1, .f32⟩
  | .hbm, ⟨22, _⟩ => ⟨S4x2048x1, .f32⟩
  | .hbm, ⟨23, _⟩ => ⟨S4x2048x1, .f32⟩
  | .hbm, ⟨24, _⟩ => ⟨S4x2048x4096, .f32⟩
  | .hbm, ⟨25, _⟩ => ⟨S4x2048x4096, .f32⟩
  | .hbm, ⟨26, _⟩ => ⟨S1x1x4096, .f32⟩
  | .hbm, ⟨27, _⟩ => ⟨S4x2048x4096, .f32⟩
  | .hbm, ⟨28, _⟩ => ⟨S4x2048x4096, .f32⟩
  | .hbm, ⟨29, _⟩ => ⟨S1x1x4096, .f32⟩
  | .hbm, ⟨30, _⟩ => ⟨S4x2048x4096, .f32⟩
  | .hbm, ⟨31, _⟩ => ⟨S4x2048x4096, .f32⟩
  | .hbm, ⟨32, _⟩ => ⟨S8192x4096, .f32⟩
  | .hbm, ⟨33, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Proof.InProj.lean ====
/-
  What the layer's input projections compute, without reference to any program: the mathematics that the modules
  `InProjFox`, `InProjForget` and `InProjSb` share.
-/
module

public import Idealize.ShloMosaic.Lib.Pipeline.ValueKit
public import Idealize.ShloMosaic.Lib.Pipeline.ReadBack
public import Idealize.ShloMosaic.Lib.Pointwise

@[expose] public section

set_option maxRecDepth 16384

noncomputable section

namespace InProj

open Idealize.ShloMosaic

/-- The place of an index of a rectangle of stride one, on one axis: the rectangle's offset plus the index. -/
theorem emb_unit_val {S : Shape} {off size : Fin S.rank → ℕ} {inb} (x : (Rect.unit (s := S) off size inb).shape.Idx) (a : Fin S.rank) :
    ((Rect.unit (s := S) off size inb).emb x a).val = off a + (x a).val := by
  rw [Rect.emb_apply]; show off a + 1 * (x a).val = _; omega

/-- One block of the projection: entry `(r, n)` is row `r` of the activations against row `n` of the transposed weights. -/
def rows {n : ℕ} (a : (⟨2, ![2048, 4096]⟩ : Shape).Idx → EReal) (w : (⟨2, ![n, 4096]⟩ : Shape).Idx → EReal) :
    (⟨2, ![2048, n]⟩ : Shape).Idx → EReal := fun y => ∑ k : Fin 4096, a (ix2 (y 0) k) * w (ix2 (y 1) k)

/-- The projection on the `n` columns from `col` on: entry `(r, j)` is the activations' row of batch `r / 2048` and
    position `r % 2048` against column `col + j` of the weights. -/
def proj (col n : ℕ) (hn : col + n ≤ 14352) (h : (⟨3, ![4, 2048, 4096]⟩ : Shape).Idx → EReal)
    (w : (⟨3, ![1, 4096, 14352]⟩ : Shape).Idx → EReal) : (⟨2, ![8192, n]⟩ : Shape).Idx → EReal := fun y =>
  ∑ k : Fin 4096, h (ix3 ⟨(y 0).val / 2048, Nat.div_lt_of_lt_mul (y 0).isLt⟩ ⟨(y 0).val % 2048, Nat.mod_lt _ (by decide)⟩ k)
    * w (ix3 0 k ⟨col + (y 1).val, lt_of_lt_of_le (Nat.add_lt_add_left (y 1).isLt _) hn⟩)

end InProj
end
-- ==== Proof.InProjFox.lean ====
/-
  The projection to the queries, keys, values and gates of the softmax heads (columns 0 to 8191 of the weights): the value of the kernel's result and of the reference's, both the projection `InProj.proj`.
-/
module

public import proofs.«01_k».proof.Proof.InProj
public import proofs.«01_k».proof.Proof.Gen.KernelIdeal.Value
public import proofs.«01_k».proof.Proof.Gen.ReferenceIdeal.Run

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open InProj (emb_unit_val rows proj)

/-- Each of the two trips of the body reads and writes the 1024 rows from `1024 * k` on. -/
theorem trip_off (k : Fin k0_t1_loop.trips) : k0_off1 k = ![1024 * k.val, 0] ∧ k0_off2 k = ![1024 * k.val, 0] := by
  revert k; decide +kernel

/-- Whatever the trips so far have written are blocks of `rows a w`, where `a` is the window of activations and the
    scratch holds the window of weights `w`, rounded to bf16. -/
theorem pieces (𝒱 : Variants) (c : Dev nD) (bd : Option 𝒱.V) (i : grid0.Coords)
    (arg2 : Memref sig .tc .vmem S2048x4096 .bf16) (harg2 : arg2.IsWhole) (arg3 : Memref sig .tc .vmem S256x4096 .f32) (harg3 : arg3.IsWhole)
    (arg4 : Memref sig .tc .vmem S2048x256 .bf16) (harg4 : arg4.IsWhole) (arg5 : Memref sig .tc .vmem S256x4096 .bf16) (harg5 : arg5.IsWhole)
    (a : Vec Ideal S2048x4096 .bf16) (w : Vec Ideal S256x4096 .f32) (X : BufTy.Contents (Elt Ideal) arg5.view.ty)
    (hX : arg5.view.read (Elt Ideal) X = k0_pay1 w) : ∀ n ≤ k0_t1_loop.trips,
    ∀ p ∈ pb_k0_t1 (F := Ideal) 𝒱 c bd i arg2 harg2 arg3 harg3 arg4 harg4 arg5 harg5 (harg2.unread a) X n,
      ∀ x, p.2 x = rows a w (p.1.emb x) := by
  intro n
  induction n with
  | zero => intro _ p hp; simp [pb_k0_t1] at hp
  | succ n ih =>
    intro hn p hp
    rw [pb_k0_t1_succ 𝒱 c bd i arg2 harg2 arg3 harg3 arg4 harg4 arg5 harg5 _ X ⟨n, hn⟩] at hp
    rcases List.mem_append.mp hp with hp | hp
    · unfold tripL_k0_t1 trip_k0_t1 at hp
      obtain rfl := List.mem_singleton.mp hp
      intro x
      have ho := trip_off ⟨n, hn⟩
      simp only [View.readAt_eq_ld, Memref.IsWhole.read_unread, hX]
      idx_vars x
      unfold rows
      pointwise [k0_pay2, k0_pay1]
      refine Finset.sum_congr rfl fun k _ => ?_
      congr 3 <;> apply Fin.ext <;> first | (refine Eq.trans ?_ (emb_unit_val ..).symm; simp [ho.1, ho.2]) | simp [ho.1]
    · exact ih (by omega) p hp

variable (m : (ℓ : Loc nD τ sig) → Buf (Elt Ideal) ℓ) (ρ : Dev nD → PrngReg)

/-- What grid point `t` leaves in the result's block: the products of its rows of activations with its rows of weights. -/
theorem block (c : Dev nD) (t : Fin cfg0.N) (y : S2048x256.Idx) :
    outsAt0 m c t y = rows (iblk m c 0 t) (iblk m c 1 t) y := by
  unfold outsAt0
  frame_open
  frame_out
  rw [← List.append_nil (pb_k0_t1 ..)]
  refine View.canon_append_of_pieces (Val := Elt Ideal) (e := .bf16) (S := S2048x256) (rows (iblk m c 0 t) (iblk m c 1 t)) [] _
    (pieces _ _ _ _ _ _ _ _ _ _ _ _ _ _ _ ?_ _ le_rfl) y ?_
  · exact (View.read_writes_junk_eq_canon ..).trans (View.canon_unit_zero (by decide) ..)
  · exact View.cover_of_tiledL (s := S2048x256) _ S1024x256.size (by sl_kernel_rfl) y

/-- Where the windows of grid point `t` lie; the window of weights is placed by its first row, not by a block number. -/
theorem idx (t : Fin cfg0.N) : win0_0.index t = ![(grid0.coords t 0).val, 0] ∧ win0_1.index t = ![256 * (grid0.coords t 1).val, 0]
    ∧ win0_2.index t = ![(grid0.coords t 0).val, (grid0.coords t 1).val] :=
  (by decide +kernel : ∀ t : Fin grid0.N, win0_0.index t = ![(grid0.coords t 0).val, 0] ∧ win0_1.index t = ![256 * (grid0.coords t 1).val, 0]
    ∧ win0_2.index t = ![(grid0.coords t 0).val, (grid0.coords t 1).val]) t

/-- The activations as the call finds them: batch and position merged into one row number. -/
theorem entry_h (c : Dev nD) (y : S8192x4096.Idx) : V m c main_v1 y = m ((c : Thread nD τ).loc main_arg0)
    (ix3 ⟨(y 0).val / 2048, Nat.div_lt_of_lt_mul (y 0).isLt⟩ ⟨(y 0).val % 2048, Nat.mod_lt _ (by decide)⟩ (y 1)) := by
  idx_vars y
  entry_read
  pointwise

/-- The weights as the call finds them: transposed. -/
theorem entry_w (c : Dev nD) (y : S14352x4096.Idx) : V m c main_v3 y = m ((c : Thread nD τ).loc main_arg1) (ix3 0 (y 1) (y 0)) := by
  idx_vars y
  entry_read
  pointwise

/-- The result array after the run is the projection of the activations. -/
theorem value (c : Dev nD) : (dats m 0 c).arrAt 2 cfg0.N
    = proj 0 8192 (by decide) (m ((c : Thread nD τ).loc main_arg0)) (m ((c : Thread nD τ).loc main_arg1)) := by
  refine (dats m 0 c).arrAt_eq_of_covers 2 _ (by decide +kernel) fun t hf y => ?_
  blk_simp
  rw [after0_2, block]
  unfold rows proj
  refine Fin.sum_fin_congr fun k => ?_
  congr 1
  · blk_simp [iblk, (idx t).1, (idx t).2.1, (idx t).2.2]
    rw [entry_h]
    blk_ext [(idx t).1]
  · blk_simp [iblk, (idx t).1, (idx t).2.1, (idx t).2.2]
    rw [entry_w]
    blk_ext
    · exact (Pipeline.Window.rect_emb_val_off win0_1 t (ix2 (y 1) k) 1).trans (by rw [(idx t).2.1]; exact Nat.zero_add _)
    · refine (Pipeline.Window.rect_emb_val_off win0_1 t (ix2 (y 1) k) 0).trans ?_
      rw [(idx t).2.1]
      show 256 * (grid0.coords t 1).val + (y 1).val = _
      omega

end Cert.KernelIdeal.Val

namespace Cert.ReferenceIdeal.Val

open Cert.ReferenceIdeal Cert.ReferenceIdeal.Gen Idealize.ShloMosaic Idealize.ShloMosaic.TcCoe Idealize.SL.Sem
open InProj (proj)

/-- The reference's operations, read at one index: the whole product, its columns cut out, batch and position merged. -/
theorem result (h : FVec Ideal S4x2048x4096 .f32) (w : FVec Ideal S1x4096x14352 .f32) :
    truncf .bf16 (shapeCast S8192x8192 (extractStridedSlice S4x2048x8192 ![0, 0, 0] (Host.dotGeneral (F := Ideal) dot_S4x2048x4096_S4096x14352_S4x2048x14352_2_0_01_1_n_n none h
        (shapeCast S4096x14352 w shapeCasts_S1x4096x14352_S4096x14352)) slices_S4x2048x14352_S4x2048x8192_0_0_0) shapeCasts_S4x2048x8192_S8192x8192) bitsLt_bf16_f32 = proj 0 8192 (by decide) h w := by
  funext y
  idx_vars y
  unfold proj
  pointwise

/-- The reference's result is the projection too. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = proj 0 8192 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result _ _), (h c).2⟩) (Cert.ReferenceIdeal.Value.run m ρ)

end Cert.ReferenceIdeal.Val
end
-- ==== Proof.InProjForget.lean ====
/-
  The projection to the forget gates (columns 8192 to 8319 of the weights): the value of the kernel's result and of the reference's, both the projection `InProj.proj`.
-/
module

public import proofs.«01_k».proof.Proof.InProj
public import proofs.«01_k».proof.Proof.Gen.Kernel2Ideal.Value
public import proofs.«01_k».proof.Proof.Gen.Reference2Ideal.Run

@[expose] public section

set_option maxRecDepth 16384

noncomputable section

namespace Cert.Kernel2Ideal.Val

open Cert.Kernel2Ideal Cert.Kernel2Ideal.Gen Idealize.ShloMosaic Idealize.ShloMosaic.TcCoe Idealize.SL.Sem
open Idealize.ShloMosaic.Pipeline (Dat)
open InProj (emb_unit_val rows proj)

/-- Each of the two trips of the body reads and writes the 1024 rows from `1024 * k` on. -/
theorem trip_off (k : Fin k0_t1_loop.trips) : k0_off1 k = ![1024 * k.val, 0] ∧ k0_off2 k = ![1024 * k.val, 0] := by
  revert k; decide +kernel

/-- Whatever the trips so far have written are blocks of `rows a w`, where `a` is the window of activations and the
    scratch holds the window of weights `w`, rounded to bf16. -/
theorem pieces (𝒱 : Variants) (c : Dev nD) (bd : Option 𝒱.V) (i : grid0.Coords)
    (arg2 : Memref sig .tc .vmem S2048x4096 .bf16) (harg2 : arg2.IsWhole) (arg3 : Memref sig .tc .vmem S128x4096 .f32) (harg3 : arg3.IsWhole)
    (arg4 : Memref sig .tc .vmem S2048x128 .f32) (harg4 : arg4.IsWhole) (arg5 : Memref sig .tc .vmem S128x4096 .bf16) (harg5 : arg5.IsWhole)
    (a : Vec Ideal S2048x4096 .bf16) (w : Vec Ideal S128x4096 .f32) (X : BufTy.Contents (Elt Ideal) arg5.view.ty)
    (hX : arg5.view.read (Elt Ideal) X = k0_pay1 w) : ∀ n ≤ k0_t1_loop.trips,
    ∀ p ∈ pb_k0_t1 (F := Ideal) 𝒱 c bd i arg2 harg2 arg3 harg3 arg4 harg4 arg5 harg5 (harg2.unread a) X n,
      ∀ x, p.2 x = rows a w (p.1.emb x) := by
  intro n
  induction n with
  | zero => intro _ p hp; simp [pb_k0_t1] at hp
  | succ n ih =>
    intro hn p hp
    rw [pb_k0_t1_succ 𝒱 c bd i arg2 harg2 arg3 harg3 arg4 harg4 arg5 harg5 _ X ⟨n, hn⟩] at hp
    rcases List.mem_append.mp hp with hp | hp
    · unfold tripL_k0_t1 trip_k0_t1 at hp
      obtain rfl := List.mem_singleton.mp hp
      intro x
      have ho := trip_off ⟨n, hn⟩
      simp only [View.readAt_eq_ld, Memref.IsWhole.read_unread, hX]
      idx_vars x
      unfold rows
      pointwise [k0_pay2, k0_pay1]
      refine Finset.sum_congr rfl fun k _ => ?_
      congr 3 <;> apply Fin.ext <;> first | (refine Eq.trans ?_ (emb_unit_val ..).symm; simp [ho.1, ho.2]) | simp [ho.1]
    · exact ih (by omega) p hp

variable (m : (ℓ : Loc nD τ sig) → Buf (Elt Ideal) ℓ) (ρ : Dev nD → PrngReg)

/-- What grid point `t` leaves in the result's block: the products of its rows of activations with its rows of weights. -/
theorem block (c : Dev nD) (t : Fin cfg0.N) (y : S2048x128.Idx) :
    outsAt0 m c t y = rows (iblk m c 0 t) (iblk m c 1 t) y := by
  unfold outsAt0
  frame_open
  frame_out
  rw [← List.append_nil (pb_k0_t1 ..)]
  refine View.canon_append_of_pieces (Val := Elt Ideal) (e := .f32) (S := S2048x128) (rows (iblk m c 0 t) (iblk m c 1 t)) [] _
    (pieces _ _ _ _ _ _ _ _ _ _ _ _ _ _ _ ?_ _ le_rfl) y ?_
  · exact (View.read_writes_junk_eq_canon ..).trans (View.canon_unit_zero (by decide) ..)
  · exact View.cover_of_tiledL (s := S2048x128) _ S1024x128.size (by sl_kernel_rfl) y

/-- Where the windows of grid point `t` lie; the window of weights is placed by its first row, not by a block number. -/
theorem idx (t : Fin cfg0.N) : win0_0.index t = ![(grid0.coords t 0).val, 0] ∧ win0_1.index t = ![8192, 0]
    ∧ win0_2.index t = ![(grid0.coords t 0).val, 0] :=
  (by decide +kernel : ∀ t : Fin grid0.N, win0_0.index t = ![(grid0.coords t 0).val, 0] ∧ win0_1.index t = ![8192, 0]
    ∧ win0_2.index t = ![(grid0.coords t 0).val, 0]) t

/-- The activations as the call finds them: batch and position merged into one row number. -/
theorem entry_h (c : Dev nD) (y : S8192x4096.Idx) : V m c main_v1 y = m ((c : Thread nD τ).loc main_arg0)
    (ix3 ⟨(y 0).val / 2048, Nat.div_lt_of_lt_mul (y 0).isLt⟩ ⟨(y 0).val % 2048, Nat.mod_lt _ (by decide)⟩ (y 1)) := by
  idx_vars y
  entry_read
  pointwise

/-- The weights as the call finds them: transposed. -/
theorem entry_w (c : Dev nD) (y : S14352x4096.Idx) : V m c main_v3 y = m ((c : Thread nD τ).loc main_arg1) (ix3 0 (y 1) (y 0)) := by
  idx_vars y
  entry_read
  pointwise

/-- The result array after the run is the projection of the activations. -/
theorem value (c : Dev nD) : (dats m 0 c).arrAt 2 cfg0.N
    = proj 8192 128 (by decide) (m ((c : Thread nD τ).loc main_arg0)) (m ((c : Thread nD τ).loc main_arg1)) := by
  refine (dats m 0 c).arrAt_eq_of_covers 2 _ (by decide +kernel) fun t hf y => ?_
  blk_simp
  rw [after0_2, block]
  unfold rows proj
  refine Fin.sum_fin_congr fun k => ?_
  congr 1
  · blk_simp [iblk, (idx t).1, (idx t).2.1, (idx t).2.2]
    rw [entry_h]
    blk_ext [(idx t).1]
  · blk_simp [iblk, (idx t).1, (idx t).2.1, (idx t).2.2]
    rw [entry_w]
    blk_ext
    · exact (Pipeline.Window.rect_emb_val_off win0_1 t (ix2 (y 1) k) 1).trans (by rw [(idx t).2.1]; exact Nat.zero_add _)
    · refine (Pipeline.Window.rect_emb_val_off win0_1 t (ix2 (y 1) k) 0).trans ?_
      rw [(idx t).2.1]
      show 8192 + (y 1).val = _
      omega

end Cert.Kernel2Ideal.Val

namespace Cert.Reference2Ideal.Val

open Cert.Reference2Ideal Cert.Reference2Ideal.Gen Idealize.ShloMosaic Idealize.ShloMosaic.TcCoe Idealize.SL.Sem
open InProj (proj)

/-- The reference's operations, read at one index: the whole product, its columns cut out, batch and position merged. -/
theorem result (h : FVec Ideal S4x2048x4096 .f32) (w : FVec Ideal S1x4096x14352 .f32) :
    shapeCast S8192x128 (extractStridedSlice S4x2048x128 ![0, 0, 8192] (Host.dotGeneral (F := Ideal) dot_S4x2048x4096_S4096x14352_S4x2048x14352_2_0_01_1_n_n none h
        (shapeCast S4096x14352 w shapeCasts_S1x4096x14352_S4096x14352)) slices_S4x2048x14352_S4x2048x128_0_0_8192) shapeCasts_S4x2048x128_S8192x128 = proj 8192 128 (by decide) h w := by
  funext y
  idx_vars y
  unfold proj
  pointwise

/-- The reference's result is the projection too. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = proj 8192 128 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result _ _), (h c).2⟩) (Cert.Reference2Ideal.Value.run m ρ)

end Cert.Reference2Ideal.Val
end
-- ==== Proof.InProjSb.lean ====
/-
  The projection to the queries, keys and values of the stick-breaking heads (columns 8208 to 14351 of the weights): the value of the kernel's result and of the reference's, both the projection `InProj.proj`.
-/
module

public import proofs.«01_k».proof.Proof.InProj
public import proofs.«01_k».proof.Proof.Gen.Kernel3Ideal.Value
public import proofs.«01_k».proof.Proof.Gen.Reference3Ideal.Run

@[expose] public section

set_option maxRecDepth 16384

noncomputable section

namespace Cert.Kernel3Ideal.Val

open Cert.Kernel3Ideal Cert.Kernel3Ideal.Gen Idealize.ShloMosaic Idealize.ShloMosaic.TcCoe Idealize.SL.Sem
open Idealize.ShloMosaic.Pipeline (Dat)
open InProj (emb_unit_val rows proj)

/-- Each of the two trips of the body reads and writes the 1024 rows from `1024 * k` on. -/
theorem trip_off (k : Fin k0_t1_loop.trips) : k0_off1 k = ![1024 * k.val, 0] ∧ k0_off2 k = ![1024 * k.val, 0] := by
  revert k; decide +kernel

/-- Whatever the trips so far have written are blocks of `rows a w`, where `a` is the window of activations and the
    scratch holds the window of weights `w`, rounded to bf16. -/
theorem pieces (𝒱 : Variants) (c : Dev nD) (bd : Option 𝒱.V) (i : grid0.Coords)
    (arg2 : Memref sig .tc .vmem S2048x4096 .bf16) (harg2 : arg2.IsWhole) (arg3 : Memref sig .tc .vmem S256x4096 .f32) (harg3 : arg3.IsWhole)
    (arg4 : Memref sig .tc .vmem S2048x256 .bf16) (harg4 : arg4.IsWhole) (arg5 : Memref sig .tc .vmem S256x4096 .bf16) (harg5 : arg5.IsWhole)
    (a : Vec Ideal S2048x4096 .bf16) (w : Vec Ideal S256x4096 .f32) (X : BufTy.Contents (Elt Ideal) arg5.view.ty)
    (hX : arg5.view.read (Elt Ideal) X = k0_pay1 w) : ∀ n ≤ k0_t1_loop.trips,
    ∀ p ∈ pb_k0_t1 (F := Ideal) 𝒱 c bd i arg2 harg2 arg3 harg3 arg4 harg4 arg5 harg5 (harg2.unread a) X n,
      ∀ x, p.2 x = rows a w (p.1.emb x) := by
  intro n
  induction n with
  | zero => intro _ p hp; simp [pb_k0_t1] at hp
  | succ n ih =>
    intro hn p hp
    rw [pb_k0_t1_succ 𝒱 c bd i arg2 harg2 arg3 harg3 arg4 harg4 arg5 harg5 _ X ⟨n, hn⟩] at hp
    rcases List.mem_append.mp hp with hp | hp
    · unfold tripL_k0_t1 trip_k0_t1 at hp
      obtain rfl := List.mem_singleton.mp hp
      intro x
      have ho := trip_off ⟨n, hn⟩
      simp only [View.readAt_eq_ld, Memref.IsWhole.read_unread, hX]
      idx_vars x
      unfold rows
      pointwise [k0_pay2, k0_pay1]
      refine Finset.sum_congr rfl fun k _ => ?_
      congr 3 <;> apply Fin.ext <;> first | (refine Eq.trans ?_ (emb_unit_val ..).symm; simp [ho.1, ho.2]) | simp [ho.1]
    · exact ih (by omega) p hp

variable (m : (ℓ : Loc nD τ sig) → Buf (Elt Ideal) ℓ) (ρ : Dev nD → PrngReg)

/-- What grid point `t` leaves in the result's block: the products of its rows of activations with its rows of weights. -/
theorem block (c : Dev nD) (t : Fin cfg0.N) (y : S2048x256.Idx) :
    outsAt0 m c t y = rows (iblk m c 0 t) (iblk m c 1 t) y := by
  unfold outsAt0
  frame_open
  frame_out
  rw [← List.append_nil (pb_k0_t1 ..)]
  refine View.canon_append_of_pieces (Val := Elt Ideal) (e := .bf16) (S := S2048x256) (rows (iblk m c 0 t) (iblk m c 1 t)) [] _
    (pieces _ _ _ _ _ _ _ _ _ _ _ _ _ _ _ ?_ _ le_rfl) y ?_
  · exact (View.read_writes_junk_eq_canon ..).trans (View.canon_unit_zero (by decide) ..)
  · exact View.cover_of_tiledL (s := S2048x256) _ S1024x256.size (by sl_kernel_rfl) y

/-- Where the windows of grid point `t` lie; the window of weights is placed by its first row, not by a block number. -/
theorem idx (t : Fin cfg0.N) : win0_0.index t = ![(grid0.coords t 0).val, 0] ∧ win0_1.index t = ![256 * (grid0.coords t 1).val + 8208, 0]
    ∧ win0_2.index t = ![(grid0.coords t 0).val, (grid0.coords t 1).val] :=
  (by decide +kernel : ∀ t : Fin grid0.N, win0_0.index t = ![(grid0.coords t 0).val, 0] ∧ win0_1.index t = ![256 * (grid0.coords t 1).val + 8208, 0]
    ∧ win0_2.index t = ![(grid0.coords t 0).val, (grid0.coords t 1).val]) t

/-- The activations as the call finds them: batch and position merged into one row number. -/
theorem entry_h (c : Dev nD) (y : S8192x4096.Idx) : V m c main_v1 y = m ((c : Thread nD τ).loc main_arg0)
    (ix3 ⟨(y 0).val / 2048, Nat.div_lt_of_lt_mul (y 0).isLt⟩ ⟨(y 0).val % 2048, Nat.mod_lt _ (by decide)⟩ (y 1)) := by
  idx_vars y
  entry_read
  pointwise

/-- The weights as the call finds them: transposed. -/
theorem entry_w (c : Dev nD) (y : S14352x4096.Idx) : V m c main_v3 y = m ((c : Thread nD τ).loc main_arg1) (ix3 0 (y 1) (y 0)) := by
  idx_vars y
  entry_read
  pointwise

/-- The result array after the run is the projection of the activations. -/
theorem value (c : Dev nD) : (dats m 0 c).arrAt 2 cfg0.N
    = proj 8208 6144 (by decide) (m ((c : Thread nD τ).loc main_arg0)) (m ((c : Thread nD τ).loc main_arg1)) := by
  refine (dats m 0 c).arrAt_eq_of_covers 2 _ (by decide +kernel) fun t hf y => ?_
  blk_simp
  rw [after0_2, block]
  unfold rows proj
  refine Fin.sum_fin_congr fun k => ?_
  congr 1
  · blk_simp [iblk, (idx t).1, (idx t).2.1, (idx t).2.2]
    rw [entry_h]
    blk_ext [(idx t).1]
  · blk_simp [iblk, (idx t).1, (idx t).2.1, (idx t).2.2]
    rw [entry_w]
    blk_ext
    · exact (Pipeline.Window.rect_emb_val_off win0_1 t (ix2 (y 1) k) 1).trans (by rw [(idx t).2.1]; exact Nat.zero_add _)
    · refine (Pipeline.Window.rect_emb_val_off win0_1 t (ix2 (y 1) k) 0).trans ?_
      rw [(idx t).2.1]
      show 256 * (grid0.coords t 1).val + 8208 + (y 1).val = _
      omega

end Cert.Kernel3Ideal.Val

namespace Cert.Reference3Ideal.Val

open Cert.Reference3Ideal Cert.Reference3Ideal.Gen Idealize.ShloMosaic Idealize.ShloMosaic.TcCoe Idealize.SL.Sem
open InProj (proj)

/-- The reference's operations, read at one index: the whole product, its columns cut out, batch and position merged. -/
theorem result (h : FVec Ideal S4x2048x4096 .f32) (w : FVec Ideal S1x4096x14352 .f32) :
    truncf .bf16 (shapeCast S8192x6144 (extractStridedSlice S4x2048x6144 ![0, 0, 8208] (Host.dotGeneral (F := Ideal) dot_S4x2048x4096_S4096x14352_S4x2048x14352_2_0_01_1_n_n none h
        (shapeCast S4096x14352 w shapeCasts_S1x4096x14352_S4096x14352)) slices_S4x2048x14352_S4x2048x6144_0_0_8208) shapeCasts_S4x2048x6144_S8192x6144) bitsLt_bf16_f32 = proj 8208 6144 (by decide) h w := by
  funext y
  idx_vars y
  unfold proj
  pointwise

/-- The reference's result is the projection too. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = proj 8208 6144 (by decide) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result _ _), (h c).2⟩) (Cert.Reference3Ideal.Value.run m ρ)

end Cert.Reference3Ideal.Val
end
-- ==== Proof.MoeDownRun.lean ====
module

public import proofs.«01_k».proof.Proof.Gen.Kernel5Ideal.Skeleton
public import proofs.«01_k».proof.Proof.Gen.Kernel5Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

noncomputable section

namespace Cert.Kernel5Ideal.Down

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' experts. -/
abbrev tb0 : Memref sig .tc .smem S96 .i32 := Memref.whole main_v50
/-- The count of tiles that hold rows. -/
abbrev tb1 : Memref sig .tc .smem S1 .i32 := Memref.whole main_v36
/-- The table of the tiles' rows. -/
abbrev tb2 : Memref sig .tc .smem S96 .i32 := Memref.whole main_v34
/-- The scratch that carries the expert's weights from tile to tile. -/
abbrev scr : Memref sig .tc .vmem S1024x2048 .bf16 := Memref.whole cc0_scratch0

/-- The expert of the point's tile. -/
abbrev word0 (i : grid0.Coords) (T0 : S96.Idx → Elt F .i32) : Elt F .i32 :=
  View.readAt (Elt F) tb0.view (Rect.unit (s := S96) (k0_off1 i) S1.size (k0_off1_inb i)).toLoadRect T0 (Shape.Idx.first (numel1_S1.symm ▸ Nat.one_pos))
/-- The expert of the tile before it (of tile 0 at tile 0). -/
abbrev word0' (i : grid0.Coords) (T0 : S96.Idx → Elt F .i32) : Elt F .i32 :=
  View.readAt (Elt F) tb0.view (Rect.unit (s := S96) (k0_off2 i) S1.size (k0_off2_inb i)).toLoadRect T0 (Shape.Idx.first (numel1_S1.symm ▸ Nat.one_pos))
/-- The number of tiles that hold rows. -/
abbrev word1 (T1 : S1.Idx → Elt F .i32) : Elt F .i32 :=
  View.readAt (Elt F) tb1.view (Rect.unit (s := S1) ![0] S1.size inb_S1_S1_0).toLoadRect T1 (Shape.Idx.first (numel1_S1.symm ▸ Nat.one_pos))
/-- The number of rows of the point's tile. -/
abbrev word2 (i : grid0.Coords) (T2 : S96.Idx → Elt F .i32) : Elt F .i32 :=
  View.readAt (Elt F) tb2.view (Rect.unit (s := S96) (k0_off3 i) S1.size (k0_off3_inb i)).toLoadRect T2 (Shape.Idx.first (numel1_S1.symm ▸ Nat.one_pos))

/-- The kernel's test that the expert changed. -/
abbrev changed (i : grid0.Coords) (T0 : S96.Idx → Elt F .i32) : BitVec 1 :=
  Scalar.cmpi .ne (Scalar.extui (Scalar.ori (Scalar.cmpi .eq (BitVec.ofNat 32 (i 1).val) 0#32) (Scalar.cmpi .ne (word0 i T0) (word0' i T0)))) 0#32

/-- The weights the scratch holds after the body: the fetched block's, where the expert changed. -/
def wNew (i : grid0.Coords) (T0 : S96.Idx → Elt F .i32) (x1 : S1x1024x2048.Idx → Elt F .f32) (xa : S1024x2048.Idx → Elt F .bf16) :
    S1024x2048.Idx → Elt F .bf16 :=
  if changed i T0 = 1#1 then k0_pay1 x1 else xa

/-- The stores of the output block where the tile has more than 256 rows: the product of all 512; -/
def pcs512 (x0 : S512x1024.Idx → Elt F .bf16) (w : S1024x2048.Idx → Elt F .bf16)
    (x2 : S1x1x2048.Idx → Elt F .f32) : List (View.Piece (Elt F) S512x16x128 .bf16) :=
  [⟨Rect.unit (s := S512x16x128) ![0, 0, 0] S512x16x128.size inb_S512x16x128_S512x16x128_0_0_0, k0_pay2 x0 w x2⟩]
/-- where it has 129 to 256, the last store first: the product of the last 256, zeros before them; -/
def pcs256 (x0 : S512x1024.Idx → Elt F .bf16) (w : S1024x2048.Idx → Elt F .bf16)
    (x2 : S1x1x2048.Idx → Elt F .f32) : List (View.Piece (Elt F) S512x16x128 .bf16) :=
  [⟨Rect.unit (s := S512x16x128) ![256, 0, 0] S256x16x128.size inb_S512x16x128_S256x16x128_256_0_0,
        k0_pay4 (View.ld x0 (Rect.unit (s := S512x1024) ![256, 0] S256x1024.size inb_S512x1024_S256x1024_256_0)) w x2⟩,
   ⟨Rect.unit (s := S512x16x128) ![0, 0, 0] S256x16x128.size inb_S512x16x128_S256x16x128_0_0_0, k0_pay3⟩]
/-- where it has 1 to 128: the product of the last 128, zeros before them; -/
def pcs128 (x0 : S512x1024.Idx → Elt F .bf16) (w : S1024x2048.Idx → Elt F .bf16)
    (x2 : S1x1x2048.Idx → Elt F .f32) : List (View.Piece (Elt F) S512x16x128 .bf16) :=
  [⟨Rect.unit (s := S512x16x128) ![384, 0, 0] S128x16x128.size inb_S512x16x128_S128x16x128_384_0_0,
        k0_pay6 (View.ld x0 (Rect.unit (s := S512x1024) ![384, 0] S128x1024.size inb_S512x1024_S128x1024_384_0)) w x2⟩,
   ⟨Rect.unit (s := S512x16x128) ![0, 0, 0] S384x16x128.size inb_S512x16x128_S384x16x128_0_0_0, k0_pay5⟩]
/-- where it has none: zeros. -/
def pcs0 : List (View.Piece (Elt F) S512x16x128 .bf16) :=
  [⟨Rect.unit (s := S512x16x128) ![0, 0, 0] S512x16x128.size inb_S512x16x128_S512x16x128_0_0_0, k0_pay7⟩]
/-- The stores of the output block, by the number of rows. -/
def outL (i : grid0.Coords) (b1 b2 : BitVec 32) (x0 : S512x1024.Idx → Elt F .bf16) (w : S1024x2048.Idx → Elt F .bf16)
    (x2 : S1x1x2048.Idx → Elt F .f32) : List (View.Piece (Elt F) S512x16x128 .bf16) :=
  if k0_cond2 i b1 b2 = 1#1 then pcs512 x0 w x2
  else if k0_cond3 i b1 b2 = 1#1 then pcs256 x0 w x2
  else if k0_cond4 i b1 b2 = 1#1 then pcs128 x0 w x2
  else pcs0

/-- One of the four conditions on the number of rows holds, and the others fail. -/
def OneCase (i : grid0.Coords) (b1 b2 : BitVec 32) : Prop :=
  (k0_cond2 i b1 b2 = 1#1 ∧ ¬k0_cond3 i b1 b2 = 1#1 ∧ ¬k0_cond4 i b1 b2 = 1#1 ∧ ¬k0_cond5 i b1 b2 = 1#1)
  ∨ (¬k0_cond2 i b1 b2 = 1#1 ∧ k0_cond3 i b1 b2 = 1#1 ∧ ¬k0_cond4 i b1 b2 = 1#1 ∧ ¬k0_cond5 i b1 b2 = 1#1)
  ∨ (¬k0_cond2 i b1 b2 = 1#1 ∧ ¬k0_cond3 i b1 b2 = 1#1 ∧ k0_cond4 i b1 b2 = 1#1 ∧ ¬k0_cond5 i b1 b2 = 1#1)
  ∨ (¬k0_cond2 i b1 b2 = 1#1 ∧ ¬k0_cond3 i b1 b2 = 1#1 ∧ ¬k0_cond4 i b1 b2 = 1#1 ∧ k0_cond5 i b1 b2 = 1#1)

theorem zeros2 : (![0, 0] : Fin 2 → Nat) = fun _ => 0 := by decide
theorem zeros3 : (![0, 0, 0] : Fin 3 → Nat) = fun _ => 0 := by decide
/-- Reading the whole scratch gives its contents; -/
theorem read_scr (xa : S1024x2048.Idx → Elt F .bf16) : View.read (Elt F) (View.whole cc0_scratch0) xa = xa := rfl
/-- storing the whole of it leaves the payload. -/
theorem writes_scr (w : S1024x2048.Idx → Elt F .bf16) :
    (View.whole cc0_scratch0).writes (Elt F) (View.whole cc0_scratch0).junk
      [(⟨Rect.unit (s := S1024x2048) ![0, 0] S1024x2048.size inb_S1024x2048_S1024x2048_0_0, w⟩ : View.Piece (Elt F) S1024x2048 .bf16)] = w := by
  have h := View.read_writes_junk_eq_canon (Val := Elt F) (View.whole cc0_scratch0)
    [(⟨Rect.unit (s := S1024x2048) ![0, 0] S1024x2048.size inb_S1024x2048_S1024x2048_0_0, w⟩ : View.Piece (Elt F) S1024x2048 .bf16)]
  refine (read_scr _).symm.trans (h.trans ?_)
  exact View.canon_unit_zero (S := S1024x2048) zeros2 _ w

/-- A load of a whole block gives the block. -/
theorem ld_x0 (x : S512x1024.Idx → Elt F .bf16) : View.ld x (Rect.unit (s := S512x1024) ![0, 0] ![512, 1024] inb_S512x1024_S512x1024_0_0) = x :=
  View.ld_unit_zero zeros2 _ x
theorem ld_x1 (x : S1x1024x2048.Idx → Elt F .f32) : View.ld x (Rect.unit (s := S1x1024x2048) ![0, 0, 0] ![1, 1024, 2048] inb_S1x1024x2048_S1x1024x2048_0_0_0) = x :=
  View.ld_unit_zero zeros3 _ x
theorem ld_x2 (x : S1x1x2048.Idx → Elt F .f32) : View.ld x (Rect.unit (s := S1x1x2048) ![0, 0, 0] ![1, 1, 2048] inb_S1x1x2048_S1x1x2048_0_0_0) = x :=
  View.ld_unit_zero zeros3 _ x
theorem ld_scr (x : S1024x2048.Idx → Elt F .bf16) : View.ld x (Rect.unit (s := S1024x2048) ![0, 0] ![1024, 2048] inb_S1024x2048_S1024x2048_0_0) = x :=
  View.ld_unit_zero zeros2 _ x
/-- A load of the whole scratch after a store of the whole of it gives the payload. -/
theorem readCov_scr (w : S1024x2048.Idx → Elt F .bf16) :
    (View.whole cc0_scratch0).readCov [(⟨Rect.unit (s := S1024x2048) ![0, 0] ![1024, 2048] inb_S1024x2048_S1024x2048_0_0, w⟩ : View.Piece (Elt F) S1024x2048 .bf16)]
      (Rect.unit (s := S1024x2048) ![0, 0] ![1024, 2048] inb_S1024x2048_S1024x2048_0_0).toLoadRect = w :=
  View.readCov_unit_zero _ zeros2 _ w

set_option maxHeartbeats 16000000 in
/-- The body at a point: from the three blocks, the tables and the scratch, it stores `outL` and leaves `wNew` in the
    scratch. -/
theorem run (c : Dev nD) (i : grid0.Coords) (arg5 : Memref sig .tc .vmem S512x1024 .bf16) (harg5 : arg5.IsWhole) (arg6 : Memref sig .tc .vmem S1x1024x2048 .f32) (harg6 : arg6.IsWhole) (arg7 : Memref sig .tc .vmem S1x1x2048 .f32) (harg7 : arg7.IsWhole) (arg8 : Memref sig .tc .vmem S512x16x128 .bf16) (harg8 : arg8.IsWhole)
    (T0 : S96.Idx → Elt F .i32) (T1 : S1.Idx → Elt F .i32) (T2 : S96.Idx → Elt F .i32)
    (x0 : S512x1024.Idx → Elt F .bf16) (x1 : S1x1024x2048.Idx → Elt F .f32) (x2 : S1x1x2048.Idx → Elt F .f32) (xa : S1024x2048.Idx → Elt F .bf16)
    (hone : OneCase i (word1 T1) (word2 i T2))
    (K : PUnit → sProp 𝕄) :
    iprop(owns (c : Thread nD τ) arg5 fullShare x0
      ∗ owns (c : Thread nD τ) arg6 fullShare x1
      ∗ owns (c : Thread nD τ) arg7 fullShare x2
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ (∃ d, owns (c : Thread nD τ) arg8 fullShare d)
      ∗ (scr.view.loc (c : Thread nD τ) ↦{fullShare} xa)
      ∗ (iprop(owns (c : Thread nD τ) arg5 fullShare x0
          ∗ owns (c : Thread nD τ) arg6 fullShare x1
          ∗ owns (c : Thread nD τ) arg7 fullShare x2
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg8 fullShare (View.canon (outL i (word1 T1) (word2 i T2) x0 (wNew i T0 x1 xa) x2))
          ∗ (scr.view.loc (c : Thread nD τ) ↦{fullShare} wNew i T0 x1 xa)) -∗ K ⟨⟩))
      ⊢ wp frame (wpE (defs₀ (F := F)) Variants.none c none) Set.univ (cc0_moe_down i tb0 (Memref.isWhole_whole _) tb1 (Memref.isWhole_whole _) tb2 (Memref.isWhole_whole _) arg5 harg5 arg6 harg6 arg7 harg7 arg8 harg8 scr (Memref.isWhole_whole _)) K := by
  rw [cc0_moe_down_eq_skeleton]; unfold cc0_moe_down_skel
  have hS0 : scr.IsWhole := Memref.isWhole_whole _
  have hT0 : tb0.IsWhole := Memref.isWhole_whole _
  have hT1 : tb1.IsWhole := Memref.isWhole_whole _
  have hT2 : tb2.IsWhole := Memref.isWhole_whole _
  rw [owns_eq_rep (c : Thread nD τ) arg5, owns_eq_rep (c : Thread nD τ) arg6, owns_eq_rep (c : Thread nD τ) arg7]
  unfold owns
  rcases hone with ⟨h2, h3, h4, h5⟩ | ⟨h2, h3, h4, h5⟩ | ⟨h2, h3, h4, h5⟩ | ⟨h2, h3, h4, h5⟩ <;> by_cases hc : changed i T0 = 1#1
  all_goals
    iintro ⟨H0, H1, H2, HT0, HT1, HT2, ⟨%d3, %f3, -, HO3⟩, HS0, Hk⟩
    sl_exec! (disch := first | (guard_target = Scalar.cmpi = _; exact hc) | (guard_target = ¬(Scalar.cmpi = _); exact hc) | exact h2 | exact h3 | exact h4 | exact h5)
    sl_step
    iapply Hk
    isplitl [H0]; · iexact H0
    isplitl [H1]; · iexact H1
    isplitl [H2]; · iexact H2
    isplitl [HT0]; · iexact HT0
    isplitl [HT1]; · iexact HT1
    isplitl [HT2]; · iexact HT2
    isplitl [HO3]
    · iexists _; isplitr; swap
      · iexact HO3
      · ipureintro
        rw [View.read_writes_junk_eq_canon]
        first
          | unfold run.sl.HO3_1 | unfold run.sl.HO3_1_1 | unfold run.sl.HO3_1_2 | unfold run.sl.HO3_1_3
          | unfold run.sl.HO3_2 | unfold run.sl.HO3_2_1 | unfold run.sl.HO3_2_2 | unfold run.sl.HO3_2_3
        simp only [outL, pcs512, pcs256, pcs128, pcs0, wNew, h2, h3, h4, hc, if_true, if_false, View.readAt_eq_ld, View.read_rep]
        all_goals try first
          | unfold run.sl.v35 | unfold run.sl.v37 | unfold run.sl.v37_1 | unfold run.sl.v37_2
        all_goals try first
          | unfold run.sl.HS0_1 | unfold run.sl.HS0_1_1 | unfold run.sl.HS0_1_2 | unfold run.sl.HS0_1_3
        all_goals simp only [ld_x0, ld_x1, ld_x2, ld_scr, View.readAt_eq_ld, View.read_rep, read_scr]
        all_goals first
          | exact congrArg (fun w => View.canon (pcs512 x0 w x2)) (readCov_scr _)
          | exact congrArg (fun w => View.canon (pcs256 x0 w x2)) (readCov_scr _)
          | exact congrArg (fun w => View.canon (pcs128 x0 w x2)) (readCov_scr _)
    · first
        | unfold run.sl.HS0_1 | unfold run.sl.HS0_1_1 | unfold run.sl.HS0_1_2 | unfold run.sl.HS0_1_3 | skip
      simp only [wNew, hc, if_true, if_false, View.readAt_eq_ld, View.read_rep, ld_x1]
      first
        | (guard_hyp hc : ¬ changed i T0 = 1#1; iexact HS0)
        | (rw [show (View.whole cc0_scratch0).writes (Elt F) (View.whole cc0_scratch0).junk _ = k0_pay1 x1 from writes_scr _]; iexact HS0)

end Cert.Kernel5Ideal.Down

end
-- ==== Proof.Moe.lean ====
/-
  What the experts' calls compute, without reference to any program: which rows of a tile are written, the down
  projection, the gated up projection, and the read of an expert's slice off a stack. The modules of both calls share it.
-/
module

public import proofs.«01_k».proof.Proof.InProj

@[expose] public section

set_option maxRecDepth 16384

noncomputable section

namespace Moe

open Idealize.ShloMosaic

/-! ## The rows that are written -/

/-- A tile's rows are its last: of a tile with `rows` rows the last 512, 256 or 128 are computed, the least of these that
    holds them, and none of an empty tile. -/
def reach (rows r : ℕ) : Prop := 256 < rows ∨ 128 < rows ∧ 256 ≤ r ∨ 0 < rows ∧ 384 ≤ r

instance (rows r : ℕ) : Decidable (reach rows r) := by unfold reach; infer_instance

/-- The rows of tile `i`, of which the table says `x`: none from the count `n` of tiles on. -/
def rowsAt (n x : BitVec 32) (i : ℕ) : ℕ := if (BitVec.ofNat 32 i).slt n then x.toNat else 0

theorem rowsAt_eq (n x : BitVec 32) (i : ℕ) :
    (Scalar.select (Scalar.cmpi .slt (BitVec.ofNat 32 i) n) x 0#32).toNat = rowsAt n x i := by
  unfold rowsAt Scalar.select Scalar.cmpi
  show (if BitVec.ofBool ((BitVec.ofNat 32 i).slt n) = 1#1 then x else 0#32).toNat = _
  cases (BitVec.ofNat 32 i).slt n <;> rfl

/-- A tile that has rows is one of the counted. -/
theorem slt_of_reach {n x : BitVec 32} {i r : ℕ} (h : reach (rowsAt n x i) r) : (BitVec.ofNat 32 i).slt n = true := by
  unfold reach rowsAt at h
  split at h
  · assumption
  · omega

/-- A counted tile's number stays as it is when clamped into the counted. -/
theorem clamp_eq {n : BitVec 32} {i : ℕ} (hi : i < 96) (h : (BitVec.ofNat 32 i).slt n = true) :
    (Scalar.maxsi (Scalar.minsi (BitVec.ofNat 32 i) (Scalar.subi n 1#32)) 0#32).toNat = i := by
  have e : (BitVec.ofNat 32 i).toNat = i := by rw [BitVec.toNat_ofNat]; exact Nat.mod_eq_of_lt (by omega)
  have hn := n.isLt
  have h1 : (Scalar.minsi (BitVec.ofNat 32 i) (Scalar.subi n 1#32)) = BitVec.ofNat 32 i := by
    unfold Scalar.minsi IntOp.minsi
    split
    · rfl
    · rename_i h2
      simp only [Scalar.subi, IntOp.subi, BitVec.slt, decide_eq_true_eq, BitVec.toInt_eq_toNat_cond, e, BitVec.toNat_sub, BitVec.toNat_ofNat] at h h2 ⊢
      apply BitVec.eq_of_toNat_eq
      simp only [BitVec.toNat_sub, BitVec.toNat_ofNat]
      omega
  rw [h1]
  unfold Scalar.maxsi IntOp.maxsi
  split
  · exact e
  · rename_i h2
    simp only [BitVec.slt, decide_eq_true_eq, BitVec.toInt_eq_toNat_cond, e, BitVec.toNat_ofNat] at h h2
    simp only [BitVec.toNat_ofNat]
    omega

/-- The reference's test of a row, as one bit. -/
theorem bit_iff (n x : BitVec 32) (i j : ℕ) (hx : x.toNat ≤ 512) (hj : j < 512) :
    IntOp.andi (IntOp.cmpi .slt (BitVec.ofNat 32 i) n)
      (IntOp.ori (IntOp.ori (IntOp.cmpi .sgt x 256#32) (IntOp.andi (IntOp.cmpi .sgt x 128#32) (IntOp.cmpi .sge (BitVec.ofNat 32 j) 256#32)))
        (IntOp.andi (IntOp.cmpi .sgt x 0#32) (IntOp.cmpi .sge (BitVec.ofNat 32 j) 384#32))) = 1#1 ↔ reach (rowsAt n x i) j := by
  have ex : x.toInt = x.toNat := by rw [BitVec.toInt_eq_toNat_cond]; split <;> omega
  have ej : (BitVec.ofNat 32 j).toInt = j := by rw [BitVec.toInt_eq_toNat_cond, BitVec.toNat_ofNat, Nat.mod_eq_of_lt (by omega)]; split <;> omega
  have b : ∀ p q : Bool, IntOp.andi (BitVec.ofBool p) (BitVec.ofBool q) = BitVec.ofBool (p && q) := by decide
  have b' : ∀ p q : Bool, IntOp.ori (BitVec.ofBool p) (BitVec.ofBool q) = BitVec.ofBool (p || q) := by decide
  have b1 : ∀ p : Bool, BitVec.ofBool p = 1#1 ↔ p = true := by decide
  have c256 : (256#32).toInt = 256 := by decide
  have c128 : (128#32).toInt = 128 := by decide
  have c384 : (384#32).toInt = 384 := by decide
  have c0 : (0#32).toInt = 0 := by decide
  simp only [IntOp.cmpi, b, b', b1, Bool.and_eq_true, Bool.or_eq_true]
  unfold reach rowsAt
  simp only [BitVec.sle, BitVec.slt, decide_eq_true_eq, ex, ej, c256, c128, c384, c0]
  split <;> omega

/-! ## A slice of a stack -/

/-- The axes of `table[idx]` on a stack of `E` matrices of `A` rows and `B` columns, for `N` indices. -/
abbrev sliceDims (E N A B : ℕ) (wf : GatherDims.WF ⟨3, ![E, A, B]⟩ ⟨2, ![N, 1]⟩ ⟨3, ![N, A, B]⟩ [1, 2] [0] [] [0] [] 1 ![1, A, B]) :
    GatherDims ⟨3, ![E, A, B]⟩ ⟨2, ![N, 1]⟩ ⟨3, ![N, A, B]⟩ where
  offsetDims := [1, 2]
  collapsedSliceDims := [0]
  operandBatchingDims := []
  startIndicesBatchingDims := []
  startIndexMap := [0]
  indexVectorDim := 1
  sliceSizes := ![1, A, B]
  wf := wf

/-- Entry `(i, a, b)` of `table[idx]` is entry `(a, b)` of the table's matrix number `idx i`, clamped into the table. -/
theorem slice_apply {α : Type} {E N A B w : ℕ} (hE : 0 < E) (wf) (x : (⟨3, ![E, A, B]⟩ : Shape).Idx → α) (idx : IVec ⟨2, ![N, 1]⟩ w)
    (i : Fin N) (a : Fin A) (b : Fin B) :
    Host.gather (sliceDims E N A B wf) x idx (ix3 i a b) = x (ix3 ⟨min (idx (ix2 i 0)).toInt.toNat (E - 1), by omega⟩ a b) := by
  unfold Host.gather
  congr 1
  funext k
  refine Fin.ext ?_
  show (sliceDims E N A B wf).start (ix3 i a b) idx k + (sliceDims E N A B wf).batchCoord (ix3 i a b) k + (sliceDims E N A B wf).offCoord (ix3 i a b) k = _
  rw [GatherDims.batchCoord_eq_zero _ _ _ (fun h => by simp at h), Nat.add_zero]
  have h012 : k = 0 ∨ k = 1 ∨ k = 2 := by
    match k with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (sliceDims E N A B wf).startIndexMap from List.mem_singleton.mpr rfl)]
    have hs : (sliceDims E N A B wf).siIdx (ix3 i a b) ⟨List.idxOf (0 : Fin 3) (sliceDims E N A B wf).startIndexMap,
        List.idxOf_lt_length_iff.2 (List.mem_singleton.mpr rfl)⟩ = ix2 i 0 := by
      funext c; refine Fin.ext ?_
      match c with
      | ⟨0, _⟩ => rfl
      | ⟨1, _⟩ => rfl
    rw [hs]
    rfl
  · unfold GatherDims.start GatherDims.offCoord
    rw [dif_neg (show (1 : Fin 3) ∉ (sliceDims E N A B wf).startIndexMap from show (1 : Fin 3) ∉ [(0 : Fin 3)] from by decide),
      dif_pos (show (1 : Fin 3) ∈ (sliceDims E N A B wf).sKept from (GatherDims.mem_sKept _ _).2
        ⟨show (1 : Fin 3) ∉ [(0 : Fin 3)] from by decide, show (1 : Fin 3) ∉ ([] : List (Fin 3)) from by decide⟩), Nat.zero_add]
    rfl
  · unfold GatherDims.start GatherDims.offCoord
    rw [dif_neg (show (2 : Fin 3) ∉ (sliceDims E N A B wf).startIndexMap from show (2 : Fin 3) ∉ [(0 : Fin 3)] from by decide),
      dif_pos (show (2 : Fin 3) ∈ (sliceDims E N A B wf).sKept from (GatherDims.mem_sKept _ _).2
        ⟨show (2 : Fin 3) ∉ [(0 : Fin 3)] from by decide, show (2 : Fin 3) ∉ ([] : List (Fin 3)) from by decide⟩), Nat.zero_add]
    rfl

/-- An index that isn't negative is the one the reference reads at. -/
theorem wrap_eq (x : BitVec 32) (hx : x.toNat < 32) :
    (Scalar.select (IntOp.cmpi .slt x 0#32) (IntOp.addi x 32#32) x) = x := by
  unfold Scalar.select
  rw [if_neg]
  show ¬BitVec.ofBool (x.slt 0#32) = 1#1
  have : x.slt 0#32 = false := by
    simp only [BitVec.slt, decide_eq_false_iff_not, BitVec.toInt_eq_toNat_cond, BitVec.toNat_ofNat]
    split <;> omega
  rw [this]; decide

/-! ## The down projection -/

/-- The tile of a row, -/
def tile (p : Fin 49152) : Fin 96 := ⟨p.val / 512, Nat.div_lt_of_lt_mul p.isLt⟩
/-- the expert of a tile. -/
def expert (te : (⟨1, ![96]⟩ : Shape).Idx → BitVec 32) (i : Fin 96) : Fin 32 := ⟨min (te (ix1 i)).toNat 31, by omega⟩
/-- Whether a row is written. -/
def written (n : (⟨1, ![1]⟩ : Shape).Idx → BitVec 32) (tr : (⟨1, ![96]⟩ : Shape).Idx → BitVec 32) (p : Fin 49152) : Prop :=
  reach (rowsAt (n (ix1 0)) (tr (ix1 (tile p))) (tile p)) (p.val % 512)
instance (n tr p) : Decidable (written n tr p) := by unfold written; infer_instance
/-- The column of a lane. -/
def col (q : Fin 32) (l : Fin 128) : Fin 4096 := ⟨q.val * 128 + l.val, by omega⟩

/-- Row `p`, column `128 q + l` of the result: the row of activations against the column of its expert's weights, plus the
    column's bias; zero where the row isn't written. -/
def downAt (te : (⟨1, ![96]⟩ : Shape).Idx → BitVec 32) (n : (⟨1, ![1]⟩ : Shape).Idx → BitVec 32) (tr : (⟨1, ![96]⟩ : Shape).Idx → BitVec 32)
    (x : (⟨2, ![49152, 1024]⟩ : Shape).Idx → EReal) (w : (⟨3, ![32, 1024, 4096]⟩ : Shape).Idx → EReal)
    (b : (⟨3, ![32, 1, 4096]⟩ : Shape).Idx → EReal) (p : Fin 49152) (q : Fin 32) (l : Fin 128) : EReal :=
  if written n tr p then
    (∑ k : Fin 1024, x (ix2 p k) * w (ix3 (expert te (tile p)) k (col q l))) + b (ix3 (expert te (tile p)) 0 (col q l))
  else 0

/-- The down projection's result. -/
def down (te : (⟨1, ![96]⟩ : Shape).Idx → BitVec 32) (n : (⟨1, ![1]⟩ : Shape).Idx → BitVec 32) (tr : (⟨1, ![96]⟩ : Shape).Idx → BitVec 32)
    (x : (⟨2, ![49152, 1024]⟩ : Shape).Idx → EReal) (w : (⟨3, ![32, 1024, 4096]⟩ : Shape).Idx → EReal)
    (b : (⟨3, ![32, 1, 4096]⟩ : Shape).Idx → EReal) : (⟨3, ![49152, 32, 128]⟩ : Shape).Idx → EReal := fun y =>
  downAt te n tr x w b (y 0) (y 1) (y 2)

/-! ## The up projection and the gate -/

/-- The gated product of a gate `g` and a linear part `u`, as 32-bit floats name its constants: both clamped to 7, `u` below to
    -7 too, then `(u + 1) g / (1 + exp (-1.702 g))`. -/
def swiglu (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

/-- The two places of a feature of the 4096: its group of 128, -/
def grp (k : Fin 4096) : Fin 32 := ⟨k.val / 128, Nat.div_lt_of_lt_mul k.isLt⟩
/-- and its place in the group. -/
def ofs (k : Fin 4096) : Fin 128 := ⟨k.val % 128, Nat.mod_lt _ (by decide)⟩
/-- A row of the grouped activations is one of those the tiles hold. -/
def row (p : Fin 49152) : Fin 49664 := ⟨p.val, by omega⟩
/-- A column of the gate half, -/
def gcol (o : Fin 1024) : Fin 2048 := ⟨o.val, by omega⟩
/-- of the linear half. -/
def ucol (o : Fin 1024) : Fin 2048 := ⟨1024 + o.val, by omega⟩

/-- A row of activations against a column of an expert's weights, plus the column's bias. -/
def lin (x : (⟨3, ![49664, 32, 128]⟩ : Shape).Idx → EReal) (w : (⟨3, ![32, 4096, 2048]⟩ : Shape).Idx → EReal)
    (b : (⟨3, ![32, 1, 2048]⟩ : Shape).Idx → EReal) (p : Fin 49664) (e : Fin 32) (j : Fin 2048) : EReal :=
  (∑ k : Fin 4096, x (ix3 p (grp k) (ofs k)) * w (ix3 e k j)) + b (ix3 e 0 j)

/-- Row `p`, column `o` of the result: the gated product of the row's two columns; zero where the row isn't written. -/
def upAt (te : (⟨1, ![96]⟩ : Shape).Idx → BitVec 32) (n : (⟨1, ![1]⟩ : Shape).Idx → BitVec 32) (tr : (⟨1, ![96]⟩ : Shape).Idx → BitVec 32)
    (x : (⟨3, ![49664, 32, 128]⟩ : Shape).Idx → EReal) (wg wu : (⟨3, ![32, 4096, 2048]⟩ : Shape).Idx → EReal)
    (bg bu : (⟨3, ![32, 1, 2048]⟩ : Shape).Idx → EReal) (p : Fin 49152) (o : Fin 1024) : EReal :=
  if written n tr p then swiglu (lin x wg bg (row p) (expert te (tile p)) (gcol o)) (lin x wu bu (row p) (expert te (tile p)) (ucol o)) else 0

/-- The up projection's result. -/
def up (te : (⟨1, ![96]⟩ : Shape).Idx → BitVec 32) (n : (⟨1, ![1]⟩ : Shape).Idx → BitVec 32) (tr : (⟨1, ![96]⟩ : Shape).Idx → BitVec 32)
    (x : (⟨3, ![49664, 32, 128]⟩ : Shape).Idx → EReal) (wg wu : (⟨3, ![32, 4096, 2048]⟩ : Shape).Idx → EReal)
    (bg bu : (⟨3, ![32, 1, 2048]⟩ : Shape).Idx → EReal) : (⟨2, ![49152, 1024]⟩ : Shape).Idx → EReal := fun y =>
  upAt te n tr x wg wu bg bu (y 0) (y 1)

end Moe
end
-- ==== Proof.MoeTables.lean ====
/-
  The tables that steer the experts' calls, as functions of the router's counts: of each of the 96 tiles its expert and
  its rows, and the number of tiles that are used. What their host operations compute, the ranges of the entries, and that
  the experts of the used tiles are what they were before the tables are clamped.
-/
module

public import proofs.«01_k».proof.Proof.Moe
public import proofs.«01_k».proof.Proof.Gen.Kernel5Ideal.Launch
public import Idealize.ShloMosaic.Lib.Routing.OpsSet
public import Idealize.ShloMosaic.Lib.Pointwise

@[expose] public section

set_option maxRecDepth 16384

noncomputable section

namespace Moe

open Cert.Kernel5Ideal Cert.Kernel5Ideal.Gen Idealize.ShloMosaic Idealize.ShloMosaic.TcCoe

variable {F : FTy → Type} [FloatOps F]

/-! ## What the host operations compute -/

/-- The counts of the 32 experts as integers. -/
def ints (c : FVec F S1x128 .f32) : IVec S32 32 :=
  fptosi 32 (shapeCast S32 (extractStridedSlice S1x32 ![0, 0] c slices_S1x128_S1x32_0_0) shapeCasts_S1x32_S32)

/-- A constant at 32 places, -/
abbrev b32 (x : BitVec 32) : IVec S32 32 := broadcastInDim S32 ![] bcast_S_S32 (constantI S_ 32 x)
/-- at 96. -/
abbrev b96 (x : BitVec 32) : IVec S96 32 := broadcastInDim S96 ![] bcast_S_S96 (constantI S_ 32 x)

/-- Entries divided by 512 and rounded down. -/
def div512 (s : Shape) (hb : S_.BroadcastsInDim s (![] : Fin 0 → Fin s.rank)) (x : IVec s 32) : IVec s 32 :=
  select (andi (cmpi .ne (signi x) (broadcastInDim s ![] hb (signi (id (constantI S_ 32 512#32)))))
      (cmpi .ne (Host.remsi x (broadcastInDim s ![] hb (id (constantI S_ 32 512#32)))) (broadcastInDim s ![] hb (constantI S_ 32 0#32))))
    (subi (Host.divsi x (broadcastInDim s ![] hb (id (constantI S_ 32 512#32)))) (broadcastInDim s ![] hb (constantI S_ 32 1#32)))
    (Host.divsi x (broadcastInDim s ![] hb (id (constantI S_ 32 512#32))))

/-- Where each expert's tiles end: the running sums of the counts, each rounded up to whole tiles. -/
def ends (c : FVec F S1x128 .f32) : IVec S32 32 :=
  Host.reduceWindow IntOp.addi ![32] ![1] ![31] ![0] (muli (div512 S32 bcast_S_S32 (subi (addi (ints c) (b32 512#32)) (b32 1#32))) (b32 512#32))
    (broadcastInDim S_ ![] bcast_S_S_ (constantI S_ 32 0#32)) reduceWindows_S32_S32_w32s1p31_0 h_S_

/-- Where each tile starts. -/
def starts : IVec S96 32 := muli (iotaInDim S96 32 0) (b96 512#32)

/-- Whether an expert's tiles end at or before a tile's start. -/
def past (c : FVec F S1x128 .f32) : IVec S96x32 1 :=
  cmpi .sle (broadcastInDim S96x32 ![0, 1] bcast_S1x32_S96x32_0_1 (broadcastInDim S1x32 ![1] bcast_S32_S1x32_1 (ends c)))
    (broadcastInDim S96x32 ![0, 1] bcast_S96x1_S96x32_0_1 (broadcastInDim S96x1 ![0] bcast_S96_S96x1_0 starts))

/-- The expert of each tile: the number of experts whose tiles end before it, at most the last. -/
def owner (c : FVec F S1x128 .f32) : IVec S96 32 :=
  minsi (Host.reduce IntOp.addi (extui 32 (past c) natLt_1_32) (constantI S_ 32 0#32) reducesTo_S96x32_S96_d1 h_S_) (b96 31#32)

/-- The number of tiles used. -/
def used (c : FVec F S1x128 .f32) : IVec S1 32 :=
  div512 S1 bcast_S_S1 (extractStridedSlice S1 ![31] (ends c) slices_S32_S1_31)

/-- An index as a column, a negative one counted from the end of a table of `n`. -/
def wrap (n : BitVec 32) (x : IVec S96 32) : IVec S96x1 32 :=
  broadcastInDim S96x1 ![0] bcast_S96_S96x1_0 (select (cmpi .slt x (b96 0#32)) (addi x (b96 n)) x)

/-- The rows of each tile, from 0 to 512: an expert's rows lie at the end of its tiles. -/
def rows (c : FVec F S1x128 .f32) : IVec S96 32 :=
  minsi (broadcastInDim S96 ![] bcast_S_S96 (id (constantI S_ 32 512#32)))
    (maxsi (broadcastInDim S96 ![] bcast_S_S96 (id (constantI S_ 32 0#32)))
      (subi (addi starts (b96 512#32))
        (Host.gather gather_S32_S96x1_S96_n_0_n_n_0_1_1 (subi (ends c) (ints c)) (wrap 32#32 (owner c)))))

/-- A tile's number clamped into the used tiles. -/
def clamped (n : IVec S1 32) : IVec S96 32 :=
  maxsi (minsi (iotaInDim S96 32 0) (broadcastInDim S96 ![] bcast_S_S96 (subi (shapeCast S_ n shapeCasts_S1_S_) (constantI S_ 32 1#32)))) (b96 0#32)

/-- The experts with the clamp: a tile beyond the used ones has the last used one's. -/
def experts (c : FVec F S1x128 .f32) : IVec S96 32 :=
  Host.gather gather_S96_S96x1_S96_n_0_n_n_0_1_1 (owner c) (wrap 96#32 (clamped (used c)))

/-! ## Their ranges -/

/-- A number of at most 32, cut off at 31, is below 32. -/
theorem min31 : ∀ n : Fin 33, (IntOp.minsi (BitVec.ofNat 32 n.val) 31#32).toNat < 32 := by decide

/-- The sum over the experts is at most 32. -/
theorem count_le (c : FVec F S1x128 .f32) (j : Fin 96) :
    ∃ k : Fin 33, Host.reduce IntOp.addi (extui 32 (past c) natLt_1_32) (constantI S_ 32 0#32) reducesTo_S96x32_S96_d1 h_S_ (ix1 j) = BitVec.ofNat 32 k.val := by
  classical
  generalize past c = msk
  have e := Idealize.ShloMosaic.Routing.reduce_count (n := 96) (m := 32) (by decide) msk natLt_1_32 reducesTo_S96x32_S96_d1 h_S_ j
    (fun q => ∃ h : q < 32, msk (ix2 j ⟨q, h⟩) = 1#1) (fun q => ⟨fun h => ⟨q.isLt, h⟩, fun ⟨_, h⟩ => h⟩)
  have hk := Nat.count_le (p := fun q => ∃ h : q < 32, msk (ix2 j ⟨q, h⟩) = 1#1) (n := 32)
  generalize Nat.count (fun q => ∃ h : q < 32, msk (ix2 j ⟨q, h⟩) = 1#1) 32 = k at e hk
  exact ⟨⟨k, Nat.lt_succ_of_le hk⟩, e⟩

/-- An expert's number is below 32. -/
theorem owner_lt (c : FVec F S1x128 .f32) (i : S96.Idx) : (owner c i).toNat < 32 := by
  obtain ⟨j, rfl⟩ : ∃ j : Fin 96, i = ix1 j := ⟨i 0, eq_ix1 i⟩
  obtain ⟨k, e⟩ := count_le c j
  exact (congrArg (fun z => (IntOp.minsi z 31#32).toNat) e).trans_lt (min31 k)

/-- An entry clipped between 0 and 512 is at most 512. -/
theorem clip512 (x : BitVec 32) : (IntOp.minsi 512#32 (IntOp.maxsi 0#32 x)).toNat ≤ 512 := by
  have h512 : (512#32).toInt = 512 := by decide
  have h0 : (0#32).toInt = 0 := by decide
  have hx := BitVec.toInt_eq_toNat_cond x
  have hb := x.isLt
  unfold IntOp.minsi IntOp.maxsi
  by_cases h1 : x.slt 0#32 = true
  · rw [if_pos h1]; decide
  · rw [if_neg h1]
    by_cases h2 : (512#32).slt x = true
    · rw [if_pos h2]; decide
    · rw [if_neg h2]
      simp only [BitVec.slt, decide_eq_true_eq, h0, h512] at h1 h2
      omega

/-- A tile has at most 512 rows. -/
theorem rows_le (c : FVec F S1x128 .f32) (i : S96.Idx) : (rows c i).toNat ≤ 512 := clip512 _

/-- A clamped expert's number is below 32. -/
theorem experts_lt (c : FVec F S1x128 .f32) (i : S96.Idx) : (experts c i).toNat < 32 := by
  unfold experts Host.gather
  exact owner_lt c _

/-! ## The clamp doesn't matter -/

/-- A used tile's expert is the one it had. -/
theorem experts_at (c : FVec F S1x128 .f32) (i : Fin 96) (h : (BitVec.ofNat 32 i.val).slt (used c (ix1 0)) = true) :
    experts c (ix1 i) = owner c (ix1 i) := by
  have hn : (clamped (used c) (ix1 i)).toNat = i.val := by
    refine Eq.trans (congrArg BitVec.toNat ?_) (clamp_eq i.isLt h)
    unfold clamped
    pointwise
    rfl
  have hn' : clamped (used c) (ix1 i) = BitVec.ofNat 32 i.val :=
    BitVec.eq_of_toNat_eq (by rw [hn, BitVec.toNat_ofNat]; exact (Nat.mod_eq_of_lt (by omega)).symm)
  have hw : wrap 96#32 (clamped (used c)) (ix2 i 0) = BitVec.ofNat 32 i.val := by
    have e : wrap 96#32 (clamped (used c)) (ix2 i 0) = Scalar.select (IntOp.cmpi .slt (clamped (used c) (ix1 i)) 0#32) (IntOp.addi (clamped (used c) (ix1 i)) 96#32) (clamped (used c) (ix1 i)) := by
      unfold wrap
      pointwise
    rw [e, hn']
    have : ∀ j : Fin 96, Scalar.select (IntOp.cmpi .slt (BitVec.ofNat 32 j.val) 0#32) (IntOp.addi (BitVec.ofNat 32 j.val) 96#32) (BitVec.ofNat 32 j.val) = BitVec.ofNat 32 j.val := by decide +kernel
    exact this i
  exact Idealize.ShloMosaic.Routing.gather_take1 (N := 96) (n := 96) gather_S96_S96x1_S96_n_0_n_n_0_1_1 rfl rfl rfl rfl (owner c) _ i i hw (by decide)

/-- A row that is written lies in a used tile. -/
theorem expert_of_written (c : FVec F S1x128 .f32) (p : Fin 49152) (h : written (used c) (rows c) p) :
    expert (experts c) (tile p) = expert (owner c) (tile p) := by
  unfold expert
  refine Fin.ext ?_
  show min _ 31 = min _ 31
  rw [experts_at c (tile p) (slt_of_reach h)]

/-- So the down projection is the same with the clamped table, -/
theorem down_experts (c : FVec F S1x128 .f32) (x) (w) (b) : down (experts c) (used c) (rows c) x w b = down (owner c) (used c) (rows c) x w b := by
  funext y
  show downAt _ _ _ _ _ _ _ _ _ = downAt _ _ _ _ _ _ _ _ _
  unfold downAt
  split
  · rename_i h
    rw [expert_of_written c _ h]
  · rfl

/-- and the gated up projection. -/
theorem up_experts (c : FVec F S1x128 .f32) (x) (wg wu) (bg bu) :
    up (experts c) (used c) (rows c) x wg wu bg bu = up (owner c) (used c) (rows c) x wg wu bg bu := by
  funext y
  show upAt _ _ _ _ _ _ _ _ _ _ = upAt _ _ _ _ _ _ _ _ _ _
  unfold upAt
  split
  · rename_i h
    rw [expert_of_written c _ h]
  · rfl

end Moe
end
-- ==== Proof.MoeDownFrame.lean ====
/-
  The down projection of the experts: from any tables in their ranges the call terminates, leaves its arguments unchanged and
  every counter at zero, and the result array is what the stores of the grid points make it. At any float instance.
-/
module

public import proofs.«01_k».proof.Proof.MoeDownRun
public import proofs.«01_k».proof.Proof.MoeDownEntry
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel5Ideal.Down

open Cert.Kernel5Ideal Cert.Kernel5Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the staging cells. -/
abbrev EP : Emb (UR sig nD τ) 𝕄 := emb₁

/-! ## The tables -/

/-- The offsets at which a grid point reads the tables. -/
theorem offs : ∀ i : grid0.Coords, k0_off1 i = ![(i 1).val] ∧ k0_off2 i = ![(i 1).val - 1] ∧ k0_off3 i = ![(i 1).val] := by decide +kernel

/-- The number of rows the point's tile holds, as the kernel computes it. -/
def rowsOf (i : grid0.Coords) (b1 b2 : BitVec 32) : BitVec 32 :=
  Scalar.select (Scalar.cmpi .slt (BitVec.ofNat 32 (i 1).val) b1) b2 0#32

/-- The kernel's four conditions on that number. -/
def c512 (r : BitVec 32) : BitVec 1 := Scalar.cmpi .ne (Scalar.extui (Scalar.andi (Scalar.cmpi .sgt r 256#32) (Scalar.cmpi .sle r 512#32)) : BitVec 32) 0#32
def c256 (r : BitVec 32) : BitVec 1 := Scalar.cmpi .ne (Scalar.extui (Scalar.andi (Scalar.cmpi .sgt r 128#32) (Scalar.cmpi .sle r 256#32)) : BitVec 32) 0#32
def c128 (r : BitVec 32) : BitVec 1 := Scalar.cmpi .ne (Scalar.extui (Scalar.andi (Scalar.cmpi .sgt r 0#32) (Scalar.cmpi .sle r 128#32)) : BitVec 32) 0#32
def c0 (r : BitVec 32) : BitVec 1 := Scalar.cmpi .ne (Scalar.extui (Scalar.cmpi .eq r 0#32) : BitVec 32) 0#32

theorem cond2_eq (i : grid0.Coords) (b1 b2 : BitVec 32) : k0_cond2 i b1 b2 = c512 (rowsOf i b1 b2) := rfl
theorem cond3_eq (i : grid0.Coords) (b1 b2 : BitVec 32) : k0_cond3 i b1 b2 = c256 (rowsOf i b1 b2) := rfl
theorem cond4_eq (i : grid0.Coords) (b1 b2 : BitVec 32) : k0_cond4 i b1 b2 = c128 (rowsOf i b1 b2) := rfl
theorem cond5_eq (i : grid0.Coords) (b1 b2 : BitVec 32) : k0_cond5 i b1 b2 = c0 (rowsOf i b1 b2) := rfl

/-- The four conditions at every number from 0 to 512. -/
theorem conds : ∀ n : Fin 513, (c512 (BitVec.ofNat 32 n) = 1#1 ↔ 256 < n.val) ∧ (c256 (BitVec.ofNat 32 n) = 1#1 ↔ 128 < n.val ∧ n.val ≤ 256)
    ∧ (c128 (BitVec.ofNat 32 n) = 1#1 ↔ 0 < n.val ∧ n.val ≤ 128) ∧ (c0 (BitVec.ofNat 32 n) = 1#1 ↔ n.val = 0) := by decide +kernel

theorem rowsOf_le (i : grid0.Coords) (b1 b2 : BitVec 32) (h : b2.toNat ≤ 512) : (rowsOf i b1 b2).toNat ≤ 512 := by
  unfold rowsOf Scalar.select
  split
  · exact h
  · decide

/-- The conditions by the number of rows. -/
theorem conds_at (i : grid0.Coords) (b1 b2 : BitVec 32) (h : b2.toNat ≤ 512) :
    (k0_cond2 i b1 b2 = 1#1 ↔ 256 < (rowsOf i b1 b2).toNat)
    ∧ (k0_cond3 i b1 b2 = 1#1 ↔ 128 < (rowsOf i b1 b2).toNat ∧ (rowsOf i b1 b2).toNat ≤ 256)
    ∧ (k0_cond4 i b1 b2 = 1#1 ↔ 0 < (rowsOf i b1 b2).toNat ∧ (rowsOf i b1 b2).toNat ≤ 128)
    ∧ (k0_cond5 i b1 b2 = 1#1 ↔ (rowsOf i b1 b2).toNat = 0) := by
  have hr := rowsOf_le i b1 b2 h
  have := conds ⟨(rowsOf i b1 b2).toNat, by omega⟩
  simp only [BitVec.ofNat_toNat, BitVec.setWidth_eq] at this
  rw [cond2_eq, cond3_eq, cond4_eq, cond5_eq]
  exact this

theorem oneCase (i : grid0.Coords) (b1 b2 : BitVec 32) (h : b2.toNat ≤ 512) : OneCase i b1 b2 := by
  obtain ⟨h2, h3, h4, h5⟩ := conds_at i b1 b2 h
  unfold OneCase
  rw [h2, h3, h4, h5]
  omega

/-- A scalar read of a table is the table at the offset. -/
theorem read_tb (off : Fin 1 → Nat) (inb : ∀ a, off a + S1.size a ≤ S96.size a) (T : S96.Idx → BitVec 32) (k : Fin 96) (h : off = ![k.val]) :
    T ((Rect.unit (s := S96) off S1.size inb).emb (Shape.Idx.first (numel1_S1.symm ▸ Nat.one_pos))) = T (ix1 k) := by
  subst h
  congr 1
  funext a
  fin_cases a
  apply Fin.ext
  rfl

theorem word0_eq (i : grid0.Coords) (T : S96.Idx → Elt F .i32) : word0 i T = T (ix1 (i 1)) :=
  read_tb _ (k0_off1_inb i) T (i 1) (offs i).1
theorem word0'_eq (i : grid0.Coords) (T : S96.Idx → Elt F .i32) : word0' i T = T (ix1 ⟨(i 1).val - 1, lt_of_le_of_lt (Nat.sub_le _ _) (i 1).isLt⟩) :=
  read_tb _ (k0_off2_inb i) T ⟨(i 1).val - 1, lt_of_le_of_lt (Nat.sub_le _ _) (i 1).isLt⟩ (offs i).2.1
theorem word2_eq (i : grid0.Coords) (T : S96.Idx → Elt F .i32) : word2 i T = T (ix1 (i 1)) :=
  read_tb _ (k0_off3_inb i) T (i 1) (offs i).2.2
theorem word1_eq (T : S1.Idx → Elt F .i32) : word1 T = T (ix1 0) := by
  show T _ = T _
  congr 1
  funext a
  fin_cases a
  apply Fin.ext
  rfl

/-- Where the scratch is not refreshed the tile is not the first one and its expert is the expert of the tile before. -/
theorem not_changed (i : grid0.Coords) (T : S96.Idx → Elt F .i32) (h : ¬changed i T = 1#1) : (i 1).val ≠ 0 ∧ word0 i T = word0' i T := by
  unfold changed at h
  by_cases h0 : (i 1).val = 0
  · exfalso; apply h
    rw [h0]
    generalize Scalar.cmpi .ne (word0 i T) (word0' i T) = b
    revert b; decide
  · refine ⟨h0, ?_⟩
    by_contra hne
    apply h
    rw [show Scalar.cmpi .ne (word0 i T) (word0' i T) = 1#1 from by
      show BitVec.ofBool (word0 i T != word0' i T) = 1#1
      rw [show (word0 i T != word0' i T) = true from bne_iff_ne.2 hne]; rfl]
    generalize Scalar.cmpi .eq (BitVec.ofNat 32 (i 1).val) 0#32 = b
    revert b; decide

/-- A tile number clamped into the tiles stays below 96. -/
theorem clamp_lt (n : Nat) (hn : n < 96) (x : BitVec 32) : (Scalar.maxsi (Scalar.minsi (BitVec.ofNat 32 n) x) 0#32).toNat < 96 := by
  have e : (BitVec.ofNat 32 n).toNat = n := by rw [BitVec.toNat_ofNat]; exact Nat.mod_eq_of_lt (by omega)
  unfold Scalar.maxsi Scalar.minsi IntOp.maxsi IntOp.minsi
  split <;> split
  · omega
  · decide
  · rename_i h1 h2
    simp only [BitVec.slt, decide_eq_true_eq, BitVec.toInt_eq_toNat_cond, e, Bool.not_eq_true, decide_eq_false_iff_not] at h1 h2
    simp only [BitVec.toNat_ofNat] at *
    omega
  · decide

section

variable (m : (ℓ : Loc nD τ sig) → Buf (Elt F) ℓ) (ρ : Dev nD → PrngReg)

/-- The tables as the launch memory holds them. -/
abbrev T0 : S96.Idx → Elt F .i32 := m (((0 : Dev nD) : Thread nD τ).loc main_v50)
abbrev T1 : S1.Idx → Elt F .i32 := m (((0 : Dev nD) : Thread nD τ).loc main_v36)
abbrev T2 : S96.Idx → Elt F .i32 := m (((0 : Dev nD) : Thread nD τ).loc main_v34)

/-- The tables are in their ranges: an expert is one of the 32, a tile has at most 512 rows. -/
def Ranges : Prop := (∀ x, (T0 m x).toNat < 32) ∧ (∀ x, (T2 m x).toNat ≤ 512)

/-- The tables' contents. -/
def pf : pre0.Contents (Elt F) := fun | ⟨0, _⟩ => T0 m | ⟨1, _⟩ => T1 m | ⟨2, _⟩ => T2 m | ⟨_ + 3, h⟩ => absurd h (by simp)

theorem le96 {k : Nat} (h : k < 96) : (k + 1) * 512 ≤ 49152 := by omega
theorem le32 {k : Nat} (h : k < 32) : (k + 1) * 1 ≤ 32 := by omega

variable {m} in
/-- In their ranges, every block lies inside its array. -/
theorem ok (hr : Ranges m) : ok0 (F := F) (pf m) := by
  refine ⟨fun i => ⟨?_, .inr (Affine.block_words_dvd (s := S49152x1024) (p := EltTy.packing .bf16) (by decide) (by decide))⟩,
    fun i => ⟨?_, .inl rfl⟩, fun i => ⟨?_, .inl rfl⟩⟩
  · intro a
    fin_cases a
    · show ((Scalar.maxsi (Scalar.minsi (BitVec.ofNat 32 (i 1).val) _) 0#32).toNat + 1) * 512 ≤ 49152
      exact le96 (clamp_lt (i 1).val (i 1).isLt _)
    · show (0 + 1) * 1024 ≤ 1024
      omega
  · intro a
    fin_cases a
    · show ((T0 m _).toNat + 1) * 1 ≤ 32
      exact le32 (hr.1 _)
    · show (0 + 1) * 1024 ≤ 1024
      omega
    · show ((BitVec.ofNat 32 (i 0).val).toNat + 1) * 2048 ≤ 4096
      have : (i 0).val < 2 := (i 0).isLt
      rw [BitVec.toNat_ofNat, Nat.mod_eq_of_lt (by omega)]
      omega
  · intro a
    fin_cases a
    · show ((T0 m _).toNat + 1) * 1 ≤ 32
      exact le32 (hr.1 _)
    · show (0 + 1) * 1 ≤ 1
      omega
    · show ((BitVec.ofNat 32 (i 0).val).toNat + 1) * 2048 ≤ 4096
      have : (i 0).val < 2 := (i 0).isLt
      rw [BitVec.toNat_ofNat, Nat.mod_eq_of_lt (by omega)]
      omega

/-! ## The pipeline at the tables -/

variable (hr : Ranges m)

/-- The admissible contents, and the pipeline at them. -/
def adm : (pcfg0 (F := F)).Adm := ⟨pf m, ok hr⟩
abbrev cfgA : Pipeline.Cfg sig Λ₀ := cfg0 (F := F) (adm m hr)
abbrev pcs : Fin 1 → Pipeline.Cfg sig Λ₀ := Pipeline.pin (pcfgs (F := F)) fun _ => adm m hr

/-- Point `t`'s coordinates, its windows' staging memrefs, and the blocks of the input windows at launch. -/
abbrev crd (t : Fin (cfgA m hr).N) : grid0.Coords := grid0.coords t
abbrev ms0 (t : Fin (cfgA m hr).N) : Memref sig .tc .vmem S512x1024 .bf16 := spec0_0.stage ((cfgA m hr).slots t (0 : Fin 4))
abbrev hs0 (t : Fin (cfgA m hr).N) : (ms0 m hr t).IsWhole := hstage0_0 (((cfgA m hr).slots t (0 : Fin 4)).cast nbuf0_0)
abbrev ms1 (t : Fin (cfgA m hr).N) : Memref sig .tc .vmem S1x1024x2048 .f32 := spec0_1.stage ((cfgA m hr).slots t (1 : Fin 4))
abbrev hs1 (t : Fin (cfgA m hr).N) : (ms1 m hr t).IsWhole := hstage0_1 (((cfgA m hr).slots t (1 : Fin 4)).cast nbuf0_1)
abbrev ms2 (t : Fin (cfgA m hr).N) : Memref sig .tc .vmem S1x1x2048 .f32 := spec0_2.stage ((cfgA m hr).slots t (2 : Fin 4))
abbrev hs2 (t : Fin (cfgA m hr).N) : (ms2 m hr t).IsWhole := hstage0_2 (((cfgA m hr).slots t (2 : Fin 4)).cast nbuf0_2)
abbrev ms3 (t : Fin (cfgA m hr).N) : Memref sig .tc .vmem S512x16x128 .bf16 := spec0_3.stage ((cfgA m hr).slots t (3 : Fin 4))
abbrev hs3 (t : Fin (cfgA m hr).N) : (ms3 m hr t).IsWhole := hstage0_3 (((cfgA m hr).slots t (3 : Fin 4)).cast nbuf0_3)

def iblk (c : Dev nD) (w : Fin (cfgA m hr).W) (t : Fin (cfgA m hr).N) : (((cfgA m hr).win w).xblock ((cfgA m hr).grid.coords t)).Idx → Elt F ((cfgA m hr).win w).elt :=
  (((cfgA m hr).win w).blk t).view.read (Elt F) ((s₀ m ρ).mem (((cfgA m hr).win w).arr.view.loc (c : Thread nD τ)))

/-- The three input blocks at point `t`, at their shapes. -/
abbrev blk0 (c : Dev nD) (t : Fin (cfgA m hr).N) : S512x1024.Idx → Elt F .bf16 := iblk m ρ hr c (0 : Fin 4) t
abbrev blk1 (c : Dev nD) (t : Fin (cfgA m hr).N) : S1x1024x2048.Idx → Elt F .f32 := iblk m ρ hr c (1 : Fin 4) t
abbrev blk2 (c : Dev nD) (t : Fin (cfgA m hr).N) : S1x1x2048.Idx → Elt F .f32 := iblk m ρ hr c (2 : Fin 4) t

/-- Where the window of weights lies at point `t`. -/
theorem index1 (t : Fin (cfgA m hr).N) : ((cfgA m hr).win (1 : Fin 4)).index t = ![(T0 m (ix1 (crd m hr t 1))).toNat, 0, (crd m hr t 0).val] := by
  have e := word0_eq (F := F) (crd m hr t) (T0 m)
  have h0 : (crd m hr t 0).val < 2 := (crd m hr t 0).isLt
  funext a
  fin_cases a
  · exact congrArg BitVec.toNat e
  · rfl
  · show (BitVec.ofNat 32 (crd m hr t 0).val).toNat = (crd m hr t 0).val
    rw [BitVec.toNat_ofNat, Nat.mod_eq_of_lt (by omega)]

/-- The block of weights at point `t`, read off the array. -/
theorem blk1_apply (c : Dev nD) (t : Fin (cfgA m hr).N) (y : S1x1024x2048.Idx) :
    blk1 m ρ hr c t y = m ((c : Thread nD τ).loc main_arg2) ((((cfgA m hr).win (1 : Fin 4)).rect t).emb y) := rfl

/-- A point's coordinates: the half of the columns, then the tile. -/
theorem crd0 (t : Fin grid0.N) : (grid0.coords t 0).val = t.val / 96 % 2 := Pipeline.Grid.coords_val t 0 (by decide) rfl
theorem crd1 (t : Fin grid0.N) : (grid0.coords t 1).val = t.val / 1 % 96 := Pipeline.Grid.coords_val t 1 (by decide) rfl

/-- Where the scratch is not refreshed the block of weights is that of the point before. -/
theorem blk1_held (c : Dev nD) (t t' : Fin (cfgA m hr).N) (ht : t.val = t'.val + 1) (h : ¬changed (crd m hr t) (T0 m) = 1#1) :
    blk1 m ρ hr c t = blk1 m ρ hr c t' := by
  obtain ⟨h0, hw⟩ := not_changed _ _ h
  rw [word0_eq, word0'_eq] at hw
  have e : ((cfgA m hr).win (1 : Fin 4)).index t = ((cfgA m hr).win (1 : Fin 4)).index t' := by
    rw [index1, index1, hw]
    have a1 := crd1 t; have a1' := crd1 t'; have a0 := crd0 t; have a0' := crd0 t'
    rw [show (⟨(crd m hr t 1).val - 1, lt_of_le_of_lt (Nat.sub_le _ _) (crd m hr t 1).isLt⟩ : Fin 96) = crd m hr t' 1 from Fin.ext (by
        show (grid0.coords t 1).val - 1 = (grid0.coords t' 1).val
        have : (grid0.coords t 1).val ≠ 0 := h0
        omega)]
    rw [show (crd m hr t 0).val = (crd m hr t' 0).val from by
        show (grid0.coords t 0).val = (grid0.coords t' 0).val
        have : (grid0.coords t 1).val ≠ 0 := h0
        omega]
  funext y
  rw [blk1_apply, blk1_apply]
  congr 1
  funext a
  apply Fin.ext
  exact (Pipeline.Window.rect_emb_val _ t y a).trans ((by rw [e] : _ = _).trans (Pipeline.Window.rect_emb_val ((cfgA m hr).win (1 : Fin 4)) t' y a).symm)

/-! ## The proof data -/

/-- What the body stores of the output block at point `t`. -/
def stored (c : Dev nD) (t : Fin (cfgA m hr).N) : List (View.Piece (Elt F) S512x16x128 .bf16) :=
  outL (crd m hr t) (word1 (T1 m)) (word2 (crd m hr t) (T2 m)) (blk0 m ρ hr c t) (k0_pay1 (blk1 m ρ hr c t)) (blk2 m ρ hr c t)

/-- Between the points: the scratch holds the weights of the point before, the tables are as at launch. -/
def Phi (c : Dev nD) (n : Nat) : sProp 𝕄 :=
  iprop((∃ a : S1024x2048.Idx → Elt F .bf16, ⌜∀ t : Fin (cfgA m hr).N, n = t.val + 1 → a = k0_pay1 (blk1 m ρ hr c t)⌝ ∗ (scr.view.loc (c : Thread nD τ) ↦{fullShare} a))
    ∗ (tb0.view.loc (c : Thread nD τ) ↦{fullShare.right} T0 m)
    ∗ (tb1.view.loc (c : Thread nD τ) ↦{fullShare.right} T1 m)
    ∗ (tb2.view.loc (c : Thread nD τ) ↦{fullShare.right} T2 m))

/-- Each window's block after the body, and the invariant between the points. -/
def dats (_ : Fin 1) (c : Dev nD) : Pipeline.Dat τ (Elt F) Unit ℕ (UR sig nD τ) ℕ (cfgA m hr) c where
  A w := (s₀ m ρ).mem (((cfgA m hr).win w).arr.view.loc (c : Thread nD τ))
  after w t := match w with
    | ⟨0, _⟩ => iblk m ρ hr c (0 : Fin 4) t
    | ⟨1, _⟩ => iblk m ρ hr c (1 : Fin 4) t
    | ⟨2, _⟩ => iblk m ρ hr c (2 : Fin 4) t
    | ⟨3, _⟩ => View.canon (stored m ρ hr c t)
  Φ t := Phi m ρ hr c t.val
  q _ := fullShare
  owed _ := 0

theorem Phi_at (c : Dev nD) (x : Fin ((cfgA m hr).N + 1)) : (dats m ρ hr 0 c).Φ x = Phi m ρ hr c x.val := rfl
theorem owes_at (c : Dev nD) (t : Fin (cfgA m hr).N) : (dats m ρ hr 0 c).owesAt () t.succ = (dats m ρ hr 0 c).owesAt () t.castSucc := rfl
theorem after_0 (c : Dev nD) (t : Fin (cfgA m hr).N) : (dats m ρ hr 0 c).after (0 : Fin 4) t = iblk m ρ hr c (0 : Fin 4) t := rfl
theorem after_1 (c : Dev nD) (t : Fin (cfgA m hr).N) : (dats m ρ hr 0 c).after (1 : Fin 4) t = iblk m ρ hr c (1 : Fin 4) t := rfl
theorem after_2 (c : Dev nD) (t : Fin (cfgA m hr).N) : (dats m ρ hr 0 c).after (2 : Fin 4) t = iblk m ρ hr c (2 : Fin 4) t := rfl
theorem after_3 (c : Dev nD) (t : Fin (cfgA m hr).N) : (dats m ρ hr 0 c).after (3 : Fin 4) t = View.canon (stored m ρ hr c t) := rfl

/-- An input window holds its block when the body runs. -/
theorem before_0 (c : Dev nD) (t : Fin (cfgA m hr).N) (d) : (dats m ρ hr 0 c).before (0 : Fin 4) t d = iblk m ρ hr c (0 : Fin 4) t :=
  ((dats m ρ hr 0 c).before_in_eq_fetched (0 : Fin 4) rfl (fun _ => rfl) (fun _ _ _ => rfl) (fun t => by rw [after_0]; unfold Pipeline.Dat.blockOf iblk; rfl) t d).trans
    (by unfold Pipeline.Dat.fetched Pipeline.Dat.blockOf iblk; rfl)
theorem before_1 (c : Dev nD) (t : Fin (cfgA m hr).N) (d) : (dats m ρ hr 0 c).before (1 : Fin 4) t d = iblk m ρ hr c (1 : Fin 4) t :=
  ((dats m ρ hr 0 c).before_in_eq_fetched (1 : Fin 4) rfl (fun _ => rfl) (fun _ _ _ => rfl) (fun t => by rw [after_1]; unfold Pipeline.Dat.blockOf iblk; rfl) t d).trans
    (by unfold Pipeline.Dat.fetched Pipeline.Dat.blockOf iblk; rfl)
theorem before_2 (c : Dev nD) (t : Fin (cfgA m hr).N) (d) : (dats m ρ hr 0 c).before (2 : Fin 4) t d = iblk m ρ hr c (2 : Fin 4) t :=
  ((dats m ρ hr 0 c).before_in_eq_fetched (2 : Fin 4) rfl (fun _ => rfl) (fun _ _ _ => rfl) (fun t => by rw [after_2]; unfold Pipeline.Dat.blockOf iblk; rfl) t d).trans
    (by unfold Pipeline.Dat.fetched Pipeline.Dat.blockOf iblk; rfl)

/-- One of the four cases holds at every point. -/
theorem one_at (t : Fin (cfgA m hr).N) : OneCase (crd m hr t) (word1 (T1 m)) (word2 (crd m hr t) (T2 m)) :=
  oneCase _ _ _ (by rw [word2_eq]; exact hr.2 _)

/-- A table read with its bounds checked, inside them. -/
theorem atD2 (i : grid0.Coords) : (pf m).atD 2 (k0_off3 i) = word2 i (T2 m) := by
  unfold Pipeline.Prefetch.Contents.atD
  split
  case isFalse h => exact absurd (show ∀ a : Fin 1, k0_off3 i a + 1 ≤ S96.size a from fun a => by have := k0_off3_inb i a; fin_cases a; exact this) h
  show T2 m _ = T2 m _
  congr 1
theorem atD1 : (pf m).atD 1 ![0] = word1 (T1 m) := by
  unfold Pipeline.Prefetch.Contents.atD
  split
  case isFalse h => exact absurd (show ∀ a : Fin 1, (![0] : Fin 1 → Nat) a + 1 ≤ S1.size a by decide) h
  show T1 m _ = T1 m _
  congr 1

/-- Every point stores its output block. -/
theorem idle3 (t : Fin (cfgA m hr).N) : (cfgA m hr).idle (3 : Fin 4) ((cfgA m hr).grid.coords t) = false := by
  have h := one_at m hr t
  show (!(k0_cond2 (crd m hr t) ((pf m).atD 1 ![0]) ((pf m).atD 2 (k0_off3 (crd m hr t))) == 1#1) && !(k0_cond3 (crd m hr t) ((pf m).atD 1 ![0]) ((pf m).atD 2 (k0_off3 (crd m hr t))) == 1#1) && !(k0_cond4 (crd m hr t) ((pf m).atD 1 ![0]) ((pf m).atD 2 (k0_off3 (crd m hr t))) == 1#1) && !(k0_cond5 (crd m hr t) ((pf m).atD 1 ![0]) ((pf m).atD 2 (k0_off3 (crd m hr t))) == 1#1)) = false
  rw [atD1, atD2]
  rcases h with ⟨h2, h3, h4, h5⟩ | ⟨h2, h3, h4, h5⟩ | ⟨h2, h3, h4, h5⟩ | ⟨h2, h3, h4, h5⟩ <;> simp [h2, h3, h4, h5]

/-! ## The body obligation -/

/-- The body at point `t` on its staging memrefs, as the pipeline calls it. -/
abbrev bodyAt (t : Fin (cfgA m hr).N) : Prog (TpuEff nD τ sig (Elt F) Λ₀ .tc) PUnit :=
  cc0_moe_down (crd m hr t) tb0 (Memref.isWhole_whole _) tb1 (Memref.isWhole_whole _) tb2 (Memref.isWhole_whole _) (ms0 m hr t) (hs0 m hr t) (ms1 m hr t) (hs1 m hr t) (ms2 m hr t) (hs2 m hr t) (ms3 m hr t) (hs3 m hr t) scr (Memref.isWhole_whole _)

/-- After the body the scratch holds the point's weights. -/
theorem wNew_eq (c : Dev nD) (t : Fin (cfgA m hr).N) (a : S1024x2048.Idx → Elt F .bf16)
    (ha : ∀ t' : Fin (cfgA m hr).N, t.val = t'.val + 1 → a = k0_pay1 (blk1 m ρ hr c t')) :
    wNew (crd m hr t) (T0 m) (blk1 m ρ hr c t) a = k0_pay1 (blk1 m ρ hr c t) := by
  unfold wNew
  split
  · rfl
  · rename_i h
    obtain ⟨h0, -⟩ := not_changed _ _ h
    have v1 := crd1 t
    have hne : t.val ≠ 0 := fun h => h0 (by show (grid0.coords t 1).val = 0; rw [v1, h])
    have hlt : t.val < (cfgA m hr).N := t.isLt
    have ht : t.val = (⟨t.val - 1, lt_of_le_of_lt (Nat.sub_le _ _) hlt⟩ : Fin (cfgA m hr).N).val + 1 := (Nat.succ_pred_eq_of_ne_zero hne).symm
    rw [ha _ ht, blk1_held m ρ hr c t _ ht h]

set_option maxHeartbeats 4800000 in
/-- The body keeps its promise at every point. -/
theorem sound_body (c : Dev nD) (t : Fin (cfgA m hr).N) :
    iprop((dats m ρ hr 0 c).Φ t.castSucc ∗ (dats m ρ hr 0 c).owesAt () t.castSucc
        ∗ (∃ d, owns (c : Thread nD τ) (ms0 m hr t) fullShare ((dats m ρ hr 0 c).before (0 : Fin 4) t d))
        ∗ (∃ d, owns (c : Thread nD τ) (ms1 m hr t) fullShare ((dats m ρ hr 0 c).before (1 : Fin 4) t d))
        ∗ (∃ d, owns (c : Thread nD τ) (ms2 m hr t) fullShare ((dats m ρ hr 0 c).before (2 : Fin 4) t d))
        ∗ (∃ d, owns (c : Thread nD τ) (ms3 m hr t) fullShare ((dats m ρ hr 0 c).before (3 : Fin 4) t d)))
      ⊢ wp frame (wpE (defs₀ (F := F)) Variants.none c none) Set.univ (bodyAt m hr t) fun _ =>
          iprop((dats m ρ hr 0 c).Φ t.succ ∗ (dats m ρ hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m ρ hr 0 c).before w t d))
                  | true => owns (c : Thread nD τ) (((cfgA m hr).win w).stage ((cfgA m hr).slots t w)) fullShare ((dats m ρ hr 0 c).after w t)
                | false => owns (c : Thread nD τ) (((cfgA m hr).win w).stage ((cfgA m hr).slots t w)) fullShare ((dats m ρ hr 0 c).after w t)) := by
  rw [bigSep_W0]
  rewrite [idle3]
  simp only [before_0, before_1, before_2, after_0, after_1, after_2, after_3]
  rewrite [Phi_at, Phi_at, Fin.val_castSucc, Fin.val_succ, owes_at]
  unfold Phi
  iintro ⟨⟨⟨%a0, %ha0, HS0⟩, HT0, HT1, HT2⟩, Ho, ⟨%d0, H0⟩, ⟨%d1, H1⟩, ⟨%d2, H2⟩, ⟨%d3, H3⟩⟩
  have hw := wNew_eq m ρ hr c t a0 ha0
  iapply (run c (crd m hr t) (ms0 m hr t) (hs0 m hr t) (ms1 m hr t) (hs1 m hr t) (ms2 m hr t) (hs2 m hr t) (ms3 m hr t) (hs3 m hr t) (T0 m) (T1 m) (T2 m) (blk0 m ρ hr c t) (blk1 m ρ hr c t) (blk2 m ρ hr c t) a0 (one_at m hr t) _)
  isplitl [H0]; · iexact H0
  isplitl [H1]; · iexact H1
  isplitl [H2]; · iexact H2
  isplitl [HT0]; · iexact HT0
  isplitl [HT1]; · iexact HT1
  isplitl [HT2]; · iexact HT2
  isplitl [H3]; · iexists _; iexact H3
  isplitl [HS0]; · iexact HS0
  rw [hw]
  iintro ⟨H0, H1, H2, HT0, HT1, HT2, H3, HS0⟩
  isplitl [HS0 HT0 HT1 HT2]
  · isplitl [HS0]
    · iexists _; isplitr; swap
      · iexact HS0
      · ipureintro; intro t' ht'
        rw [show t = t' from Fin.ext (by omega)]
    isplitl [HT0]
    · iexact HT0
    isplitl [HT1]
    · iexact HT1
    iexact HT2
  isplitl [Ho]; · iexact Ho
  isplitl [H0]; · iexact H0
  isplitl [H1]; · iexact H1
  isplitl [H2]; · iexact H2
  iexact H3

theorem body_obligation (c : Dev nD) : Pipeline.BodyObligation (dats m ρ hr 0 c) (defs₀ (F := F)) Variants.none () Set.univ := fun t => by
  rw [bigSep_W0]
  exact sound_body m ρ hr c t

/-! ## The launch -/

/-- The launch element. -/
def u₀ : UR sig nD τ :=
  initOf (Pipeline.cells (pcs m hr) ((launch0 (F := F)).cellOf_inj fun _ => adm m hr))
    (Pipeline.launchToks (pcs m hr) ((launch0 (F := F)).cellOf_inj fun _ => adm m hr))

theorem share_eq (c : Dev nD) (w : Fin (cfgA m hr).W) : (dats m ρ hr 0 c).share w = fullShare := by unfold Pipeline.Dat.share; split <;> rfl

/-- The tables one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v50) ↦{q 0} v 0) ∗ (((c : Thread nD τ).loc main_v36) ↦{q 1} v 1) ∗ (((c : Thread nD τ).loc main_v34) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point; -/
theorem phi_intro (c : Dev nD) :
    iprop(BI.emp ∗ Pipeline.prefHeld pre0 c (fun _ => fullShare.right) (adm m hr).1 ∗ Pipeline.scopedRest spec0 c) ⊢ (dats m ρ hr 0 c).Φ 0 := by
  rw [prefHeld_eq, scopedRest0_eq, show (dats m ρ hr 0 c).Φ 0 = Phi m ρ hr c 0 from rfl]
  unfold Phi
  iintro ⟨-, ⟨HT0, HT1, HT2⟩, ⟨%a0, HS0⟩⟩
  isplitl [HS0]
  · iexists a0; isplitr; swap
    · iexact HS0
    · ipureintro; intro t h; exact absurd h (by omega)
  isplitl [HT0]
  · iexact HT0
  isplitl [HT1]
  · iexact HT1
  iexact HT2

/-- at the last point it gives the scratch back. -/
theorem phi_exit (c : Dev nD) : (dats m ρ hr 0 c).Φ (Fin.last (cfgA m hr).N) ⊢ iprop(BI.emp ∗ Pipeline.scopedRest spec0 c) := by
  rw [scopedRest0_eq, show (dats m ρ hr 0 c).Φ (Fin.last (cfgA m hr).N) = Phi m ρ hr c (cfgA m hr).N from rfl]
  unfold Phi
  iintro ⟨⟨%a0, -, HS0⟩, -, -, -⟩
  isplitr; · iempintro
  iexists a0; iexact HS0

/-- The tables of the launch are the memory's. -/
theorem V_pre (c : Dev nD) (j : Fin 3) : m ((c : Thread nD τ).loc (pre0.ref j)) = (adm m hr).1 j := by
  rw [Subsingleton.elim c (0 : Dev nD)]
  fin_cases j <;> rfl

/-- Where every array ends as the pipeline computes it, those that are only read end as they began. -/
theorem read_kept (s : MemSt nD τ sig (Elt F)) (c : Dev nD)
    (h : ∀ w : Fin (cfgA m hr).W, s.mem (((cfgA m hr).win w).arr.view.loc (c : Thread nD τ)) = (dats m ρ hr 0 c).arrAt w (cfgA m hr).N) :
    s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3) :=
  ⟨(h (0 : Fin 4)).trans ((dats m ρ hr 0 c).arrAt_in (0 : Fin 4) rfl _),
    (h (1 : Fin 4)).trans ((dats m ρ hr 0 c).arrAt_in (1 : Fin 4) rfl _),
    (h (2 : Fin 4)).trans ((dats m ρ hr 0 c).arrAt_in (2 : Fin 4) rfl _)⟩

end

/-! ## From the counts on -/

variable (m : (ℓ : Loc nD τ sig) → Buf (Elt F) ℓ) (ρ : Dev nD → PrngReg)

/-- The tables that the host prepares are in their ranges. -/
theorem ranges : Ranges (entry m) :=
  ⟨fun x => by rw [show T0 (entry m) = Moe.experts _ from entry_experts m 0]; exact Moe.experts_lt _ x,
    fun x => by rw [show T2 (entry m) = Moe.rows _ from entry_rows m 0]; exact Moe.rows_le _ x⟩

/-- Every array ends as the pipeline computes it, every array that isn't the call's as the host left it. -/
def QC : PUnit × MemSt nD τ sig (Elt F) → Prop := fun r =>
  ∀ c : Dev nD, (∀ w : Fin (cfgA (entry m) (ranges m)).W, r.2.mem (((cfgA (entry m) (ranges m)).win w).arr.view.loc (c : Thread nD τ))
      = (dats (entry m) ρ (ranges m) 0 c).arrAt w (cfgA (entry m) (ranges m)).N)
    ∧ ∀ b ∈ Pipeline.restRefsP sig pre0 spec0, r.2.mem ((c.tc : Thread nD τ).loc b) = entry m ((c.tc : Thread nD τ).loc b)

set_option backward.isDefEq.respectTransparency.types false in
set_option maxHeartbeats 4000000 in
/-- Every run ends, with the arrays as computed and every counter at zero. -/
theorem run_main : θ_run (defs (F := F)) (onTc (τ := τ) (main (F := F))) (s₀ m ρ) (fun r => QC m ρ r ∧ r.2.sem = fun _ => 0) :=
  Pipeline.θ_run_region_noSem_pf_quiescent pcfgs (fun _ => adm (entry m) (ranges m)) (dats (entry m) ρ (ranges m)) ()
    ((launch0 (F := F)).cellOf_inj fun _ => adm (entry m) (ranges m)) (0 : Fin 1)
    (launch0 (F := F)).win.to₀ (launch0 (F := F)).pre EP defs₀ Variants.none m ρ main
    (hbody := fun c => (body_obligation (entry m) ρ (ranges m) c).loose) (hne := (launch0 (F := F)).block_pos)
    (harr := (launch0 (F := F)).arr_whole) (hstage := (launch0 (F := F)).stage_whole) (howed := fun _ _ => rfl)
    (u₀ := u₀ (entry m) (ranges m)) (hu₀ := .rfl)
    (V := fun c b => entry m ((c : Thread nD τ).loc b))
    (hmain := Pipeline.hmainP_prefixes pcfgs 0 defs₀ Variants.none m main opss opss_sub opss_fresh main_chain)
    (hsplit := fun c => Pipeline.arrays_split (pcs (entry m) (ranges m)) (dats (entry m) ρ (ranges m)) 0 (launch0 (F := F)).win.arr_inj c (launch0 (F := F)).arr_whole
      (share_eq (entry m) ρ (ranges m) c) _ _ fun _ => rfl)
    (hpf := V_pre (entry m) (ranges m))
    (X := fun _ => iprop(emp)) (Y := fun _ => iprop(emp))
    (Z := fun c => Pipeline.unscopedRestP (Ix := Unit) (Name := ℕ) (U := UR sig nD τ) (Lvl := ℕ) pre0 spec0 c fun b => entry m ((c : Thread nD τ).loc b))
    (hX := fun c => by iintro H; isplitr; · iempintro
                       iexact H)
    (hin := phi_intro (entry m) ρ (ranges m))
    (hout := phi_exit (entry m) ρ (ranges m))
    (QY := fun c s => ∀ b ∈ Pipeline.restRefsP sig pre0 spec0, s.mem ((c.tc : Thread nD τ).loc b) = entry m ((c.tc : Thread nD τ).loc b))
    (hY := fun c s' => by
      iintro ⟨-, HU, HSI⟩
      unfold Pipeline.unscopedRestP
      imodintro
      iapply (pointsTo_read_all (Pipeline.restRefsP sig pre0 spec0) (fun b => (c.tc : Thread nD τ).loc b) (fun b => entry m ((c : Thread nD τ).loc b)) s')
      isplitl [HU] <;> iassumption)
    (hQ := fun _ h hz => ⟨fun c => ⟨(h c).1, (h c).2.2⟩, hz⟩)

/-- Such a state has the arguments as they began. -/
theorem args_kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  have ⟨h1, h2, h3⟩ := read_kept (entry m) ρ (ranges m) r.2 c (h c).1
  ⟨((h c).2 main_arg0 (by decide)).trans (entry_arg0 m c), h1.trans (entry_arg1 m c), h2.trans (entry_arg2 m c), h3.trans (entry_arg3 m c)⟩

/-- The arguments end unchanged and every counter at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨args_kept m ρ r h.1, h.2⟩) (run_main m ρ)

end Cert.Kernel5Ideal.Down

end
-- ==== Proof.MoeDown.lean ====
module

public import proofs.«01_k».proof.Proof.MoeDownFrame
public import proofs.«01_k».proof.Proof.Gen.Kernel5
public import proofs.«01_k».proof.Defs

@[expose] public section

noncomputable section

namespace Cert.Kernel5Ideal.Down

open Idealize.ShloMosaic Idealize.ShloMosaic.TcCoe
open Idealize.SL.Sem

/-- The frame read at the ideal instance; -/
theorem quiescent_ideal : Cert.quiescent_Kernel5Ideal := fun m ρ _ => frame m ρ

set_option maxHeartbeats 8000000 in
/-- As compiled the program has the same text: the same body, -/
theorem body_eq : Cert.Kernel5.cc0_moe_down (F := Bits) = cc0_moe_down (F := Bits) := by
  unfold Cert.Kernel5.cc0_moe_down cc0_moe_down
  rfl

set_option maxHeartbeats 2000000 in
/-- at every grid point. -/
theorem defs0_eq : Cert.Kernel5.defs₀ (F := Bits) = defs₀ (F := Bits) := by
  unfold Cert.Kernel5.defs₀ defs₀
  rw [body_eq]
  congr 1
  funext p x
  match p, x with
  | 0, (t, s) => rfl

set_option maxHeartbeats 2000000 in
/-- The host's operations are the same, -/
theorem main_eq : Cert.Kernel5.main (F := Bits) = main (F := Bits) := by sl_kernel_rfl

set_option maxHeartbeats 2000000 in
/-- so it has the frame as compiled too. -/
theorem quiescent_bits : Cert.quiescent_Kernel5 := fun m ρ _ => by
  have e := frame (F := Bits) m ρ
  unfold defs at e
  unfold Cert.Kernel5.defs
  rw [defs0_eq, main_eq]
  exact e

end Cert.Kernel5Ideal.Down

end
-- ==== Proof.MoeDownValue.lean ====
/-
  The down projection of the experts at the ideal instance: the kernel's result array and the reference's are both
  `Moe.down` of the arguments.
-/
module

public import proofs.«01_k».proof.Proof.MoeDown
public import proofs.«01_k».proof.Proof.Moe
public import Idealize.ShloMosaic.Lib.Pipeline.Covers
public import proofs.«01_k».proof.Proof.Gen.Reference5Ideal.Run

@[expose] public section

set_option maxRecDepth 16384

noncomputable section

namespace Cert.Kernel5Ideal.Down

open Cert.Kernel5Ideal Cert.Kernel5Ideal.Gen Idealize.ShloMosaic Idealize.ShloMosaic.TcCoe Idealize.SL.Sem
open Idealize.ShloMosaic.Pipeline (Dat)
open InProj (emb_unit_val)

/-! ## The payloads -/

/-- Column `128 q + l` of the block's 2048. -/
def lane (q : Fin 16) (l : Fin 128) : Fin 2048 := ⟨q.val * 128 + l.val, by omega⟩

/-- The weights rounded: the block without its axis of one. -/
theorem pay1_apply (v : Vec Ideal S1x1024x2048 .f32) (k : Fin 1024) (o : Fin 2048) : k0_pay1 (F := Ideal) v (ix2 k o) = v (ix3 0 k o) := by
  pointwise [k0_pay1]

/-- The product of all 512 rows plus the bias; -/
theorem pay2_apply (x : Vec Ideal S512x1024 .bf16) (w : Vec Ideal S1024x2048 .bf16) (b : Vec Ideal S1x1x2048 .f32) (r : Fin 512) (q : Fin 16) (l : Fin 128) :
    k0_pay2 (F := Ideal) x w b (ix3 r q l) = (∑ k : Fin 1024, x (ix2 r k) * w (ix2 k (lane q l))) + b (ix3 0 0 (lane q l)) := by
  unfold lane
  pointwise [k0_pay2]

/-- of 256; -/
theorem pay4_apply (x : Vec Ideal S256x1024 .bf16) (w : Vec Ideal S1024x2048 .bf16) (b : Vec Ideal S1x1x2048 .f32) (r : Fin 256) (q : Fin 16) (l : Fin 128) :
    k0_pay4 (F := Ideal) x w b (ix3 r q l) = (∑ k : Fin 1024, x (ix2 r k) * w (ix2 k (lane q l))) + b (ix3 0 0 (lane q l)) := by
  unfold lane
  pointwise [k0_pay4]

/-- of 128. -/
theorem pay6_apply (x : Vec Ideal S128x1024 .bf16) (w : Vec Ideal S1024x2048 .bf16) (b : Vec Ideal S1x1x2048 .f32) (r : Fin 128) (q : Fin 16) (l : Fin 128) :
    k0_pay6 (F := Ideal) x w b (ix3 r q l) = (∑ k : Fin 1024, x (ix2 r k) * w (ix2 k (lane q l))) + b (ix3 0 0 (lane q l)) := by
  unfold lane
  pointwise [k0_pay6]

/-- The rows before them are zeros. -/
theorem pay3_apply (y : S256x16x128.Idx) : k0_pay3 (F := Ideal) y = 0 := by pointwise [k0_pay3]
theorem pay5_apply (y : S384x16x128.Idx) : k0_pay5 (F := Ideal) y = 0 := by pointwise [k0_pay5]
theorem pay7_apply (y : S512x16x128.Idx) : k0_pay7 (F := Ideal) y = 0 := by pointwise [k0_pay7]

/-! ## The block a grid point leaves -/

/-- Of a tile with `n` rows: the products of the rows that are written, zeros before them. -/
def block (n : ℕ) (x : Vec Ideal S512x1024 .bf16) (w : Vec Ideal S1024x2048 .bf16) (b : Vec Ideal S1x1x2048 .f32) (r : Fin 512) (q : Fin 16) (l : Fin 128) : EReal :=
  if Moe.reach n r then (∑ k : Fin 1024, x (ix2 r k) * w (ix2 k (lane q l))) + b (ix3 0 0 (lane q l)) else 0

/-- A place of a piece that starts at row `o` of the block is the same place `o` rows on. -/
theorem emb_row {o n : ℕ} (ho : o + n ≤ 512) (inb) (r : Fin n) (q : Fin 16) (l : Fin 128) :
    (Rect.unit (s := S512x16x128) ![o, 0, 0] ![n, 16, 128] inb).emb (ix3 r q l) = ix3 ⟨o + r.val, by omega⟩ q l := by
  funext a
  refine Fin.ext ((emb_unit_val _ a).trans ?_)
  match a with
  | ⟨0, _⟩ => rfl
  | ⟨1, _⟩ => exact Nat.zero_add _
  | ⟨2, _⟩ => exact Nat.zero_add _

/-- A piece agrees with a function of the block where its payload does. -/
theorem piece {o n : ℕ} (ho : o + n ≤ 512) (inb) (P : (⟨3, ![n, 16, 128]⟩ : Shape).Idx → EReal) (G : Fin 512 → Fin 16 → Fin 128 → EReal)
    (h : ∀ (r : Fin n) (q : Fin 16) (l : Fin 128), P (ix3 r q l) = G ⟨o + r.val, by omega⟩ q l) (z : (⟨3, ![n, 16, 128]⟩ : Shape).Idx) :
    P z = (fun y : S512x16x128.Idx => G (y 0) (y 1) (y 2)) ((Rect.unit (s := S512x16x128) ![o, 0, 0] ![n, 16, 128] inb).emb z) := by
  obtain ⟨r, q, l, rfl⟩ : ∃ (r : Fin n) (q : Fin 16) (l : Fin 128), z = ix3 r q l := ⟨z 0, z 1, z 2, eq_ix3 z⟩
  rw [emb_row ho]
  exact h _ _ _

/-- A load of `n` rows from row `o` on reads the row `o` further. -/
theorem ld_row {o n : ℕ} (ho : o + n ≤ 512) (inb) (x : Vec Ideal S512x1024 .bf16) (r : Fin n) (k : Fin 1024) :
    View.ld x (Rect.unit (s := S512x1024) ![o, 0] ![n, 1024] inb) (ix2 r k) = x (ix2 ⟨o + r.val, by omega⟩ k) := by
  refine congrArg x ?_
  funext a
  refine Fin.ext ((emb_unit_val _ a).trans ?_)
  match a with
  | ⟨0, _⟩ => rfl
  | ⟨1, _⟩ => exact Nat.zero_add _

/-- The rows a piece covers. -/
theorem mem_rows {o n : ℕ} (inb) (r : Fin 512) (q : Fin 16) (l : Fin 128) (h : o ≤ r.val ∧ r.val < o + n) :
    (ix3 r q l : S512x16x128.Idx) ∈ (Rect.unit (s := S512x16x128) ![o, 0, 0] ![n, 16, 128] inb).set := by
  refine Rect.mem_set_unit.2 fun a => ?_
  match a with
  | ⟨0, _⟩ => exact h
  | ⟨1, _⟩ => exact ⟨Nat.zero_le _, by show q.val < 0 + 16; omega⟩
  | ⟨2, _⟩ => exact ⟨Nat.zero_le _, by show l.val < 0 + 128; omega⟩

/-- What the stores leave of the block. -/
theorem canon_outL (i : grid0.Coords) (b1 b2 : BitVec 32) (h : b2.toNat ≤ 512) (x : Vec Ideal S512x1024 .bf16) (w : Vec Ideal S1024x2048 .bf16)
    (b : Vec Ideal S1x1x2048 .f32) (r : Fin 512) (q : Fin 16) (l : Fin 128) :
    View.canon (Val := Elt Ideal) (outL (F := Ideal) i b1 b2 x w b) (ix3 r q l) = block (rowsOf i b1 b2).toNat x w b r q l := by
  obtain ⟨h2, h3, h4, h5⟩ := conds_at i b1 b2 h
  have hle := rowsOf_le i b1 b2 h
  refine View.canon_apply_of_pieces (Val := Elt Ideal) (e := .bf16) (S := S512x16x128)
    (fun y => block (rowsOf i b1 b2).toNat x w b (y 0) (y 1) (y 2)) _ ?_ (ix3 r q l) ?_
  · unfold outL
    split
    · rename_i c
      have c := h2.1 c
      intro p hp
      obtain rfl := List.mem_singleton.mp hp
      refine piece (o := 0) (n := 512) (by omega) inb_S512x16x128_S512x16x128_0_0_0 _ _ fun r q l => ?_
      refine (pay2_apply x w b r q l).trans ?_
      have e : (⟨0 + r.val, by omega⟩ : Fin 512) = r := Fin.ext (Nat.zero_add _)
      rw [e]
      exact (if_pos (Or.inl c)).symm
    · rename_i n2
      have n2 : ¬256 < (rowsOf i b1 b2).toNat := fun k => n2 (h2.2 k)
      split
      · rename_i c
        have c := h3.1 c
        intro p hp
        rcases List.mem_cons.mp hp with rfl | hp
        · refine piece (o := 256) (n := 256) (by omega) inb_S512x16x128_S256x16x128_256_0_0 _ _ fun r q l => ?_
          refine (pay4_apply _ w b r q l).trans ?_
          refine Eq.trans ?_ (if_pos (Or.inr (Or.inl ⟨c.1, Nat.le_add_right _ _⟩))).symm
          congr 1
          refine Fin.sum_fin_congr fun k => ?_
          congr 1
          exact ld_row (by omega) _ x r k
        · obtain rfl := List.mem_singleton.mp hp
          refine piece (o := 0) (n := 256) (by omega) inb_S512x16x128_S256x16x128_0_0_0 _ _ fun r q l => ?_
          refine (pay3_apply (ix3 r q l)).trans (if_neg ?_).symm
          have := r.isLt
          unfold Moe.reach
          show ¬(_ ∨ _ ∧ 256 ≤ 0 + r.val ∨ _ ∧ 384 ≤ 0 + r.val)
          omega
      · rename_i n3
        have n3 : ¬(128 < (rowsOf i b1 b2).toNat ∧ (rowsOf i b1 b2).toNat ≤ 256) := fun k => n3 (h3.2 k)
        split
        · rename_i c
          have c := h4.1 c
          intro p hp
          rcases List.mem_cons.mp hp with rfl | hp
          · refine piece (o := 384) (n := 128) (by omega) inb_S512x16x128_S128x16x128_384_0_0 _ _ fun r q l => ?_
            refine (pay6_apply _ w b r q l).trans ?_
            refine Eq.trans ?_ (if_pos (Or.inr (Or.inr ⟨c.1, Nat.le_add_right _ _⟩))).symm
            congr 1
            refine Fin.sum_fin_congr fun k => ?_
            congr 1
            exact ld_row (by omega) _ x r k
          · obtain rfl := List.mem_singleton.mp hp
            refine piece (o := 0) (n := 384) (by omega) inb_S512x16x128_S384x16x128_0_0_0 _ _ fun r q l => ?_
            refine (pay5_apply (ix3 r q l)).trans (if_neg ?_).symm
            have := r.isLt
            unfold Moe.reach
            show ¬(_ ∨ _ ∧ 256 ≤ 0 + r.val ∨ _ ∧ 384 ≤ 0 + r.val)
            omega
        · rename_i n4
          have n4 : ¬(0 < (rowsOf i b1 b2).toNat ∧ (rowsOf i b1 b2).toNat ≤ 128) := fun k => n4 (h4.2 k)
          intro p hp
          obtain rfl := List.mem_singleton.mp hp
          refine piece (o := 0) (n := 512) (by omega) inb_S512x16x128_S512x16x128_0_0_0 _ _ fun r q l => ?_
          refine (pay7_apply (ix3 r q l)).trans (if_neg ?_).symm
          unfold Moe.reach
          omega
  · have hr := r.isLt
    unfold outL
    split
    · exact ⟨_, List.mem_singleton.2 rfl, mem_rows (n := 512) inb_S512x16x128_S512x16x128_0_0_0 r q l ⟨Nat.zero_le _, by omega⟩⟩
    · split
      · by_cases c : 256 ≤ r.val
        · exact ⟨_, List.mem_cons_self, mem_rows (n := 256) inb_S512x16x128_S256x16x128_256_0_0 r q l ⟨c, by omega⟩⟩
        · exact ⟨_, List.mem_cons_of_mem _ (List.mem_singleton.2 rfl), mem_rows (n := 256) inb_S512x16x128_S256x16x128_0_0_0 r q l ⟨Nat.zero_le _, by omega⟩⟩
      · split
        · by_cases c : 384 ≤ r.val
          · exact ⟨_, List.mem_cons_self, mem_rows (n := 128) inb_S512x16x128_S128x16x128_384_0_0 r q l ⟨c, by omega⟩⟩
          · exact ⟨_, List.mem_cons_of_mem _ (List.mem_singleton.2 rfl), mem_rows (n := 384) inb_S512x16x128_S384x16x128_0_0_0 r q l ⟨Nat.zero_le _, by omega⟩⟩
        · exact ⟨_, List.mem_singleton.2 rfl, mem_rows (n := 512) inb_S512x16x128_S512x16x128_0_0_0 r q l ⟨Nat.zero_le _, by omega⟩⟩

/-! ## The result array -/

variable (m : (ℓ : Loc nD τ sig) → Buf (Elt Ideal) ℓ) (ρ : Dev nD → PrngReg) (hr : Ranges m)

/-- The index map of the activations, at the tables. -/
theorem map0 (i : grid0.Coords) : cc0_transform_0 inb_S1_S1_0 numel1_S1 (pf m) i
    = ![(Scalar.maxsi (Scalar.minsi (BitVec.ofNat 32 (i 1).val) (Scalar.subi (T1 m (ix1 0)) 1#32)) 0#32).toNat, 0] := by
  have e : (pf m).at 1 (Rect.unit (s := S1) ![0] S1.size inb_S1_S1_0) numel1_S1 = T1 m (ix1 0) := word1_eq (F := Ideal) (T1 m)
  unfold cc0_transform_0
  rw [e]
  rfl
/-- Where the window of activations lies: at the tile's number, clamped into the counted tiles. -/
theorem index0 (t : Fin (cfgA m hr).N) : ((cfgA m hr).win (0 : Fin 4)).index t
    = ![(Scalar.maxsi (Scalar.minsi (BitVec.ofNat 32 (crd m hr t 1).val) (Scalar.subi (T1 m (ix1 0)) 1#32)) 0#32).toNat, 0] :=
  Eq.trans rfl (map0 m (crd m hr t))
/-- Where the window of biases lies: at the tile's expert. -/
theorem index2 (t : Fin (cfgA m hr).N) : ((cfgA m hr).win (2 : Fin 4)).index t = ![(T0 m (ix1 (crd m hr t 1))).toNat, 0, (crd m hr t 0).val] := by
  have e := word0_eq (F := Ideal) (crd m hr t) (T0 m)
  have h0 : (crd m hr t 0).val < 2 := (crd m hr t 0).isLt
  funext a
  fin_cases a
  · exact congrArg BitVec.toNat e
  · rfl
  · show (BitVec.ofNat 32 (crd m hr t 0).val).toNat = (crd m hr t 0).val
    rw [BitVec.toNat_ofNat, Nat.mod_eq_of_lt (by omega)]
/-- Where the window of the result lies: at the tile. -/
theorem index3 (t : Fin (cfgA m hr).N) : ((cfgA m hr).win (3 : Fin 4)).index t = ![(crd m hr t 1).val, (crd m hr t 0).val, 0] := by
  have h0 : (crd m hr t 0).val < 2 := (crd m hr t 0).isLt
  have h1 : (crd m hr t 1).val < 96 := (crd m hr t 1).isLt
  funext a
  fin_cases a
  · show (BitVec.ofNat 32 (crd m hr t 1).val).toNat = (crd m hr t 1).val
    rw [BitVec.toNat_ofNat, Nat.mod_eq_of_lt (by omega)]
  · show (BitVec.ofNat 32 (crd m hr t 0).val).toNat = (crd m hr t 0).val
    rw [BitVec.toNat_ofNat, Nat.mod_eq_of_lt (by omega)]
  · rfl

/-- The activations' block, where the tile is one of the counted. -/
theorem blk0_apply (c : Dev nD) (t : Fin (cfgA m hr).N) (h : (BitVec.ofNat 32 (crd m hr t 1).val).slt (T1 m (ix1 0)) = true) (r : Fin 512) (k : Fin 1024) (p : Fin 49152)
    (hp : p.val = 512 * (crd m hr t 1).val + r.val) :
    blk0 m ρ hr c t (ix2 r k) = m ((c : Thread nD τ).loc main_arg1) (ix2 p k) := by
  show m ((c : Thread nD τ).loc main_arg1) ((((cfgA m hr).win (0 : Fin 4)).rect t).emb (ix2 r k)) = _
  congr 1
  funext a
  apply Fin.ext
  refine (Pipeline.Window.rect_emb_val ((cfgA m hr).win (0 : Fin 4)) t (ix2 r k) a).trans ?_
  rw [index0]
  match a with
  | ⟨0, _⟩ =>
    refine Eq.trans ?_ hp.symm
    show (Scalar.maxsi (Scalar.minsi (BitVec.ofNat 32 (crd m hr t 1).val) (Scalar.subi (T1 m (ix1 0)) 1#32)) 0#32).toNat * 512 + r.val = _
    rw [Moe.clamp_eq (crd m hr t 1).isLt h, Nat.mul_comm]
  | ⟨1, _⟩ => show 0 * 1024 + k.val = k.val; omega

/-- The weights' block. -/
theorem blk1_at (c : Dev nD) (t : Fin (cfgA m hr).N) (k : Fin 1024) (o : Fin 2048) (e : Fin 32) (j : Fin 4096)
    (he : e.val = (T0 m (ix1 (crd m hr t 1))).toNat) (hj : j.val = (crd m hr t 0).val * 2048 + o.val) :
    blk1 m ρ hr c t (ix3 0 k o) = m ((c : Thread nD τ).loc main_arg2) (ix3 e k j) := by
  rw [blk1_apply]
  congr 1
  funext a
  apply Fin.ext
  refine (Pipeline.Window.rect_emb_val ((cfgA m hr).win (1 : Fin 4)) t (ix3 0 k o) a).trans ?_
  rw [index1]
  match a with
  | ⟨0, _⟩ => exact (show (T0 m (ix1 (crd m hr t 1))).toNat * 1 + 0 = (T0 m (ix1 (crd m hr t 1))).toNat by omega).trans he.symm
  | ⟨1, _⟩ => show 0 * 1024 + k.val = k.val; omega
  | ⟨2, _⟩ => exact hj.symm

/-- The biases' block. -/
theorem blk2_at (c : Dev nD) (t : Fin (cfgA m hr).N) (o : Fin 2048) (e : Fin 32) (j : Fin 4096)
    (he : e.val = (T0 m (ix1 (crd m hr t 1))).toNat) (hj : j.val = (crd m hr t 0).val * 2048 + o.val) :
    blk2 m ρ hr c t (ix3 0 0 o) = m ((c : Thread nD τ).loc main_arg3) (ix3 e 0 j) := by
  show m ((c : Thread nD τ).loc main_arg3) ((((cfgA m hr).win (2 : Fin 4)).rect t).emb (ix3 0 0 o)) = _
  congr 1
  funext a
  apply Fin.ext
  refine (Pipeline.Window.rect_emb_val ((cfgA m hr).win (2 : Fin 4)) t (ix3 0 0 o) a).trans ?_
  rw [index2]
  match a with
  | ⟨0, _⟩ => exact (show (T0 m (ix1 (crd m hr t 1))).toNat * 1 + 0 = (T0 m (ix1 (crd m hr t 1))).toNat by omega).trans he.symm
  | ⟨1, _⟩ => rfl
  | ⟨2, _⟩ => exact hj.symm

/-- What grid point `t` leaves at a place of the result's block is `Moe.down` at that place of the array. -/
theorem after_down (c : Dev nD) (t : Fin (cfgA m hr).N) (r : Fin 512) (q : Fin 16) (l : Fin 128) (p : Fin 49152) (o : Fin 32)
    (hp : p.val = 512 * (crd m hr t 1).val + r.val) (ho : o.val = (crd m hr t 0).val * 16 + q.val) :
    View.canon (Val := Elt Ideal) (stored m ρ hr c t) (ix3 r q l)
      = Moe.downAt (T0 m) (T1 m) (T2 m) (m ((c : Thread nD τ).loc main_arg1)) (m ((c : Thread nD τ).loc main_arg2)) (m ((c : Thread nD τ).loc main_arg3)) p o l := by
  have hi : (crd m hr t 1).val < 96 := (crd m hr t 1).isLt
  have hrr := r.isLt
  have ht : Moe.tile p = crd m hr t 1 := Fin.ext (by show p.val / 512 = (crd m hr t 1).val; omega)
  have hm : p.val % 512 = r.val := by omega
  have hw2 : (word2 (crd m hr t) (T2 m)).toNat ≤ 512 := by rw [word2_eq]; exact hr.2 _
  unfold stored
  rw [canon_outL _ _ _ hw2]
  have hn : (rowsOf (crd m hr t) (word1 (T1 m)) (word2 (crd m hr t) (T2 m))).toNat = Moe.rowsAt (T1 m (ix1 0)) (T2 m (ix1 (crd m hr t 1))) (crd m hr t 1).val := by
    rw [word1_eq, word2_eq]
    exact Moe.rowsAt_eq _ _ _
  rw [hn]
  have hwr : Moe.written (T1 m) (T2 m) p ↔ Moe.reach (Moe.rowsAt (T1 m (ix1 0)) (T2 m (ix1 (crd m hr t 1))) (crd m hr t 1).val) r.val := by
    unfold Moe.written
    rw [ht, hm]
  unfold block Moe.downAt
  rw [ht]
  have he : (Moe.expert (T0 m) (crd m hr t 1)).val = (T0 m (ix1 (crd m hr t 1))).toNat := by
    have h32 : (T0 m (ix1 (crd m hr t 1))).toNat ≤ 31 := Nat.le_of_lt_succ (hr.1 _)
    exact Nat.min_eq_left h32
  have hj : (Moe.col o l).val = (crd m hr t 0).val * 2048 + (lane q l).val := by
    show o.val * 128 + l.val = (crd m hr t 0).val * 2048 + (q.val * 128 + l.val)
    omega
  by_cases h : Moe.reach (Moe.rowsAt (T1 m (ix1 0)) (T2 m (ix1 (crd m hr t 1))) (crd m hr t 1).val) r.val
  · rw [if_pos h, if_pos (hwr.2 h)]
    congr 1
    · refine Fin.sum_fin_congr fun k => ?_
      congr 1
      · exact blk0_apply m ρ hr c t (Moe.slt_of_reach h) r k p hp
      · exact (pay1_apply _ k _).trans (blk1_at m ρ hr c t k _ _ _ he hj)
    · exact blk2_at m ρ hr c t _ _ _ he hj
  · rw [if_neg h, if_neg fun k => h (hwr.1 k)]

/-- The result's blocks cover its array. -/
theorem covers3 : ((cfgA m hr).win (3 : Fin 4)).Covers := by
  refine Pipeline.Window.covers_of_index_surj _ rfl (fun a => ?_) fun β => ?_
  · match a with
    | ⟨0, _⟩ => exact (by decide : 0 < 512)
    | ⟨1, _⟩ => exact (by decide : 0 < 16)
    | ⟨2, _⟩ => exact (by decide : 0 < 128)
  have b0 : (β (0 : Fin 3)).val < 96 := lt_of_lt_of_eq (β (0 : Fin 3)).isLt (show (49152 + 512 - 1) / 512 = 96 from by decide)
  have b1 : (β (1 : Fin 3)).val < 2 := lt_of_lt_of_eq (β (1 : Fin 3)).isLt (show (32 + 16 - 1) / 16 = 2 from by decide)
  have b2 : (β (2 : Fin 3)).val < 1 := lt_of_lt_of_eq (β (2 : Fin 3)).isLt (show (128 + 128 - 1) / 128 = 1 from by decide)
  obtain ⟨t, ht⟩ := grid0.coords_surjective (fun | ⟨0, _⟩ => (⟨(β (1 : Fin 3)).val, b1⟩ : Fin 2) | ⟨1, _⟩ => (⟨(β (0 : Fin 3)).val, b0⟩ : Fin 96))
  refine ⟨t, fun a => ?_⟩
  rw [index3]
  have h0 : (grid0.coords t 0).val = (β (1 : Fin 3)).val := by rw [ht]
  have h1 : (grid0.coords t 1).val = (β (0 : Fin 3)).val := by rw [ht]
  match a with
  | ⟨0, _⟩ => exact h1
  | ⟨1, _⟩ => exact h0
  | ⟨2, _⟩ => exact (Nat.lt_one_iff.1 b2).symm

/-- The result array after the run is the down projection of the arguments. -/
theorem value (c : Dev nD) : (dats m ρ hr 0 c).arrAt (3 : Fin 4) (cfgA m hr).N
    = Moe.down (T0 m) (T1 m) (T2 m) (m ((c : Thread nD τ).loc main_arg1)) (m ((c : Thread nD τ).loc main_arg2)) (m ((c : Thread nD τ).loc main_arg3)) := by
  refine (dats m ρ hr 0 c).arrAt_eq_of_covers (3 : Fin 4) _ (covers3 m hr) fun t hf y => ?_
  obtain ⟨r, q, l, rfl⟩ : ∃ (r : Fin 512) (q : Fin 16) (l : Fin 128), y = ix3 r q l := ⟨y 0, y 1, y 2, eq_ix3 y⟩
  have hi : (crd m hr t 1).val < 96 := (crd m hr t 1).isLt
  have hi0 : (crd m hr t 0).val < 2 := (crd m hr t 0).isLt
  have hrr := r.isLt
  have hq := q.isLt
  have e : ((((cfgA m hr).win (3 : Fin 4)).rect t).emb (ix3 r q l) : S49152x32x128.Idx)
      = ix3 ⟨512 * (crd m hr t 1).val + r.val, by omega⟩ ⟨(crd m hr t 0).val * 16 + q.val, by omega⟩ l := by
    funext a
    apply Fin.ext
    refine (Pipeline.Window.rect_emb_val ((cfgA m hr).win (3 : Fin 4)) t (ix3 r q l) a).trans ?_
    rw [index3]
    match a with
    | ⟨0, _⟩ => show (crd m hr t 1).val * 512 + r.val = 512 * (crd m hr t 1).val + r.val; omega
    | ⟨1, _⟩ => rfl
    | ⟨2, _⟩ => show 0 * 128 + l.val = l.val; omega
  show View.canon (Val := Elt Ideal) (stored m ρ hr c t) (ix3 r q l) = Moe.down _ _ _ _ _ _ ((((cfgA m hr).win (3 : Fin 4)).rect t).emb (ix3 r q l))
  rw [e]
  exact after_down m ρ hr c t r q l _ _ rfl rfl

/-- With the tables that the host prepares: the down projection by the experts and rows that the counts give. -/
theorem value_counts (m : (ℓ : Loc nD τ sig) → Buf (Elt Ideal) ℓ) (ρ : Dev nD → PrngReg) (c : Dev nD) :
    (dats (entry m) ρ (ranges m) 0 c).arrAt (3 : Fin 4) (cfgA (entry m) (ranges m)).N
      = Moe.down (Moe.owner (F := Ideal) (m ((c.tc : Thread nD τ).loc main_arg0))) (Moe.used (F := Ideal) (m ((c.tc : Thread nD τ).loc main_arg0))) (Moe.rows (F := Ideal) (m ((c.tc : Thread nD τ).loc main_arg0)))
        (m ((c.tc : Thread nD τ).loc main_arg1)) (m ((c.tc : Thread nD τ).loc main_arg2)) (m ((c.tc : Thread nD τ).loc main_arg3)) := by
  have h0 : T0 (entry m) = Moe.experts (F := Ideal) (m ((c.tc : Thread nD τ).loc main_arg0)) := by rw [Subsingleton.elim c (0 : Dev nD)]; exact entry_experts m 0
  have h1 : T1 (entry m) = Moe.used (F := Ideal) (m ((c.tc : Thread nD τ).loc main_arg0)) := by rw [Subsingleton.elim c (0 : Dev nD)]; exact entry_used m 0
  have h2 : T2 (entry m) = Moe.rows (F := Ideal) (m ((c.tc : Thread nD τ).loc main_arg0)) := by rw [Subsingleton.elim c (0 : Dev nD)]; exact entry_rows m 0
  refine (value (entry m) ρ (ranges m) c).trans ?_
  rw [h0, h1, h2, entry_arg1 m c, entry_arg2 m c, entry_arg3 m c]
  exact Moe.down_experts (F := Ideal) _ _ _ _

end Cert.Kernel5Ideal.Down

namespace Cert.Reference5Ideal.Val

open Cert.Reference5Ideal Cert.Reference5Ideal.Gen Idealize.ShloMosaic Idealize.ShloMosaic.TcCoe Idealize.SL.Sem

/-- The reference's operations from the experts' slices and the rows' bits on, read at one place. -/
theorem result_at (M : IVec S96x512 1) (x : FVec Ideal S49152x1024 .bf16) (w : FVec Ideal S96x1024x4096 .f32) (b : FVec Ideal S96x1x4096 .f32)
    (p : Fin 49152) (q : Fin 32) (l : Fin 128) :
    truncf .bf16 (shapeCast S49152x32x128 (select (broadcastInDim S96x512x4096 ![0, 1, 2] bcast_S96x512x1_S96x512x4096_0_1_2 (broadcastInDim S96x512x1 ![0, 1] bcast_S96x512_S96x512x1_0_1 M))
      (addf (Host.dotGeneral dot_S96x512x1024_S96x1024x4096_S96x512x4096_2_1_1_2_0_0 none (shapeCast S96x512x1024 x shapeCasts_S49152x1024_S96x512x1024) (truncf .bf16 w bitsLt_bf16_f32))
        (broadcastInDim S96x512x4096 ![0, 1, 2] bcast_S96x1x4096_S96x512x4096_0_1_2 b))
      (broadcastInDim S96x512x4096 ![] bcast_S_S96x512x4096 (constant (F := Ideal) S_ .f32 0x00000000#32))) shapeCasts_S96x512x4096_S49152x32x128) bitsLt_bf16_f32 (ix3 p q l)
      = if M (ix2 (Moe.tile p) ⟨p.val % 512, Nat.mod_lt _ (by decide)⟩) = 1#1 then
          (∑ k : Fin 1024, x (ix2 p k) * w (ix3 (Moe.tile p) k (Moe.col q l))) + b (ix3 (Moe.tile p) 0 (Moe.col q l))
        else 0 := by
  unfold Moe.tile Moe.col
  pointwise
  rfl

/-- The bit of row `j` of tile `i`. -/
def mask (n : IVec S1 32) (tr : IVec S96 32) : IVec S96x512 1 :=
  andi (broadcastInDim S96x512 ![0, 1] bcast_S96x1_S96x512_0_1 (broadcastInDim S96x1 ![0] bcast_S96_S96x1_0 (cmpi .slt (iotaInDim S96 32 0) (broadcastInDim S96 ![0] bcast_S1_S96_0 n))))
    (ori (ori (broadcastInDim S96x512 ![0, 1] bcast_S96x1_S96x512_0_1 (cmpi .sgt (broadcastInDim S96x1 ![0] bcast_S96_S96x1_0 tr) (broadcastInDim S96x1 ![] bcast_S_S96x1 (constantI S_ 32 256#32))))
        (andi (broadcastInDim S96x512 ![0, 1] bcast_S96x1_S96x512_0_1 (cmpi .sgt (broadcastInDim S96x1 ![0] bcast_S96_S96x1_0 tr) (broadcastInDim S96x1 ![] bcast_S_S96x1 (constantI S_ 32 128#32))))
          (broadcastInDim S96x512 ![0, 1] bcast_S1x512_S96x512_0_1 (broadcastInDim S1x512 ![1] bcast_S512_S1x512_1 (cmpi .sge (iotaInDim S512 32 0) (broadcastInDim S512 ![] bcast_S_S512 (constantI S_ 32 256#32)))))))
      (andi (broadcastInDim S96x512 ![0, 1] bcast_S96x1_S96x512_0_1 (cmpi .sgt (broadcastInDim S96x1 ![0] bcast_S96_S96x1_0 tr) (broadcastInDim S96x1 ![] bcast_S_S96x1 (constantI S_ 32 0#32))))
        (broadcastInDim S96x512 ![0, 1] bcast_S1x512_S96x512_0_1 (broadcastInDim S1x512 ![1] bcast_S512_S1x512_1 (cmpi .sge (iotaInDim S512 32 0) (broadcastInDim S512 ![] bcast_S_S512 (constantI S_ 32 384#32)))))))

/-- It is the bit that `Moe.bit_iff` speaks of. -/
theorem mask_iff (n : IVec S1 32) (tr : IVec S96 32) (p : Fin 49152) (h : ∀ i, (tr i).toNat ≤ 512) :
    mask n tr (ix2 (Moe.tile p) ⟨p.val % 512, Nat.mod_lt _ (by decide)⟩) = 1#1 ↔ Moe.written n tr p :=
  Iff.trans (by
    unfold mask
    pointwise) (Moe.bit_iff (n (ix1 0)) (tr (ix1 (Moe.tile p))) (Moe.tile p).val (p.val % 512) (h _) (Nat.mod_lt _ (by decide)))

/-- The index at which the reference reads a stack for tile `i`. -/
def at96 (te : IVec S96 32) : IVec S96x1 32 :=
  broadcastInDim S96x1 ![0] bcast_S96_S96x1_0 (select (cmpi .slt te (broadcastInDim S96 ![] bcast_S_S96 (constantI S_ 32 0#32))) (addi te (broadcastInDim S96 ![] bcast_S_S96 (constantI S_ 32 32#32))) te)

/-- It is the table's entry. -/
theorem at96_apply (te : IVec S96 32) (h : ∀ i, (te i).toNat < 32) (i : Fin 96) : at96 te (ix2 i 0) = te (ix1 i) := by
  refine Eq.trans ?_ (Moe.wrap_eq (te (ix1 i)) (h _))
  unfold at96
  pointwise

theorem toInt_small (x : BitVec 32) (h : x.toNat < 32) : x.toInt.toNat = x.toNat := by
  rw [BitVec.toInt_eq_toNat_cond]; split <;> omega

/-- The experts' weights, tile by tile; -/
theorem weights_apply (w : FVec Ideal S32x1024x4096 .f32) (te : IVec S96 32) (h : ∀ i, (te i).toNat < 32) (i : Fin 96) (k : Fin 1024) (o : Fin 4096) :
    Host.gather gather_S32x1024x4096_S96x1_S96x1024x4096_12_0_n_n_0_1_110244096 w (at96 te) (ix3 i k o) = w (ix3 (Moe.expert te i) k o) := by
  refine (Moe.slice_apply (by decide) _ w (at96 te) i k o).trans ?_
  have e : (⟨min (at96 te (ix2 i 0)).toInt.toNat (32 - 1), by omega⟩ : Fin 32) = Moe.expert te i := Fin.ext (by
    show min (at96 te (ix2 i 0)).toInt.toNat (32 - 1) = min (te (ix1 i)).toNat 31
    rw [at96_apply te h, toInt_small _ (h _)])
  rw [e]
/-- and their biases. -/
theorem biases_apply (b : FVec Ideal S32x1x4096 .f32) (te : IVec S96 32) (h : ∀ i, (te i).toNat < 32) (i : Fin 96) (o : Fin 4096) :
    Host.gather gather_S32x1x4096_S96x1_S96x1x4096_12_0_n_n_0_1_114096 b (at96 te) (ix3 i 0 o) = b (ix3 (Moe.expert te i) 0 o) := by
  refine (Moe.slice_apply (by decide) _ b (at96 te) i 0 o).trans ?_
  have e : (⟨min (at96 te (ix2 i 0)).toInt.toNat (32 - 1), by omega⟩ : Fin 32) = Moe.expert te i := Fin.ext (by
    show min (at96 te (ix2 i 0)).toInt.toNat (32 - 1) = min (te (ix1 i)).toNat 31
    rw [at96_apply te h, toInt_small _ (h _)])
  rw [e]

/-- The reference's result as a term of its arguments is the down projection. -/
theorem result (te : IVec S96 32) (n : IVec S1 32) (tr : IVec S96 32) (x : FVec Ideal S49152x1024 .bf16) (w : FVec Ideal S32x1024x4096 .f32) (b : FVec Ideal S32x1x4096 .f32)
    (he : ∀ i, (te i).toNat < 32) (hr : ∀ i, (tr i).toNat ≤ 512) :
    truncf .bf16 (shapeCast S49152x32x128 (select (broadcastInDim S96x512x4096 ![0, 1, 2] bcast_S96x512x1_S96x512x4096_0_1_2 (broadcastInDim S96x512x1 ![0, 1] bcast_S96x512_S96x512x1_0_1 (mask n tr)))
      (addf (Host.dotGeneral dot_S96x512x1024_S96x1024x4096_S96x512x4096_2_1_1_2_0_0 none (shapeCast S96x512x1024 x shapeCasts_S49152x1024_S96x512x1024)
          (truncf .bf16 (Host.gather gather_S32x1024x4096_S96x1_S96x1024x4096_12_0_n_n_0_1_110244096 w (at96 te)) bitsLt_bf16_f32))
        (broadcastInDim S96x512x4096 ![0, 1, 2] bcast_S96x1x4096_S96x512x4096_0_1_2 (Host.gather gather_S32x1x4096_S96x1_S96x1x4096_12_0_n_n_0_1_114096 b (at96 te))))
      (broadcastInDim S96x512x4096 ![] bcast_S_S96x512x4096 (constant (F := Ideal) S_ .f32 0x00000000#32))) shapeCasts_S96x512x4096_S49152x32x128) bitsLt_bf16_f32
      = Moe.down te n tr x w b := by
  funext y
  obtain ⟨p, q, l, rfl⟩ : ∃ (p : Fin 49152) (q : Fin 32) (l : Fin 128), y = ix3 p q l := ⟨y 0, y 1, y 2, eq_ix3 y⟩
  refine (result_at _ x _ _ p q l).trans ?_
  show _ = Moe.downAt te n tr x w b p q l
  unfold Moe.downAt
  by_cases h : Moe.written n tr p
  · rw [if_pos h, if_pos ((mask_iff n tr p hr).2 h), biases_apply b te he]
    congr 1
    refine Fin.sum_fin_congr fun k => ?_
    rw [weights_apply w te he]
  · rw [if_neg h, if_neg fun k => h ((mask_iff n tr p hr).1 k)]

set_option maxHeartbeats 4000000 in
/-- The reference's result is the down projection by the experts and rows that the counts give, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v90) = Moe.down (Moe.owner (F := Ideal) (m ((c.tc : Thread nD τ).loc main_arg0))) (Moe.used (F := Ideal) (m ((c.tc : Thread nD τ).loc main_arg0))) (Moe.rows (F := Ideal) (m ((c.tc : Thread nD τ).loc main_arg0)))
        (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result (Moe.owner (F := Ideal) (m ((c.tc : Thread nD τ).loc main_arg0))) (Moe.used (F := Ideal) (m ((c.tc : Thread nD τ).loc main_arg0))) (Moe.rows (F := Ideal) (m ((c.tc : Thread nD τ).loc main_arg0)))
    (m ((c.tc : Thread nD τ).loc main_arg1)) (m ((c.tc : Thread nD τ).loc main_arg2)) (m ((c.tc : Thread nD τ).loc main_arg3))
    (Moe.owner_lt _) (Moe.rows_le _)), (h c).2⟩) (Cert.Reference5Ideal.Value.run m ρ)

end Cert.Reference5Ideal.Val
end
-- ==== Proof.MoeUpRun.lean ====
module

public import proofs.«01_k».proof.Proof.Gen.Kernel4Ideal.Skeleton
public import proofs.«01_k».proof.Proof.Gen.Kernel4Ideal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Pipeline.Value
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

noncomputable section

namespace Cert.Kernel4Ideal.Up

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The table of the tiles' experts. -/
abbrev tb0 : Memref sig .tc .smem S96 .i32 := Memref.whole main_v50
/-- The count of tiles that hold rows. -/
abbrev tb1 : Memref sig .tc .smem S1 .i32 := Memref.whole main_v36
/-- The table of the tiles' rows. -/
abbrev tb2 : Memref sig .tc .smem S96 .i32 := Memref.whole main_v34
/-- The scratch that carries the expert's gate weights from tile to tile; -/
abbrev scrG : Memref sig .tc .vmem S4096x512 .bf16 := Memref.whole cc0_scratch0
/-- the one that carries its linear weights. -/
abbrev scrU : Memref sig .tc .vmem S4096x512 .bf16 := Memref.whole cc0_scratch1

/-- The expert of the point's tile. -/
abbrev word0 (i : grid0.Coords) (T0 : S96.Idx → Elt F .i32) : Elt F .i32 :=
  View.readAt (Elt F) tb0.view (Rect.unit (s := S96) (k0_off1 i) S1.size (k0_off1_inb i)).toLoadRect T0 (Shape.Idx.first (numel1_S1.symm ▸ Nat.one_pos))
/-- The expert of the tile before it (of tile 0 at tile 0). -/
abbrev word0' (i : grid0.Coords) (T0 : S96.Idx → Elt F .i32) : Elt F .i32 :=
  View.readAt (Elt F) tb0.view (Rect.unit (s := S96) (k0_off2 i) S1.size (k0_off2_inb i)).toLoadRect T0 (Shape.Idx.first (numel1_S1.symm ▸ Nat.one_pos))
/-- The number of tiles that hold rows. -/
abbrev word1 (T1 : S1.Idx → Elt F .i32) : Elt F .i32 :=
  View.readAt (Elt F) tb1.view (Rect.unit (s := S1) ![0] S1.size inb_S1_S1_0).toLoadRect T1 (Shape.Idx.first (numel1_S1.symm ▸ Nat.one_pos))
/-- The number of rows of the point's tile. -/
abbrev word2 (i : grid0.Coords) (T2 : S96.Idx → Elt F .i32) : Elt F .i32 :=
  View.readAt (Elt F) tb2.view (Rect.unit (s := S96) (k0_off3 i) S1.size (k0_off3_inb i)).toLoadRect T2 (Shape.Idx.first (numel1_S1.symm ▸ Nat.one_pos))

/-- The kernel's test that the expert changed. -/
abbrev changed (i : grid0.Coords) (T0 : S96.Idx → Elt F .i32) : BitVec 1 :=
  Scalar.cmpi .ne (Scalar.extui (Scalar.ori (Scalar.cmpi .eq (BitVec.ofNat 32 (i 1).val) 0#32) (Scalar.cmpi .ne (word0 i T0) (word0' i T0)))) 0#32

/-- The weights the scratches hold after the body: the fetched blocks', where the expert changed. -/
def gNew (i : grid0.Coords) (T0 : S96.Idx → Elt F .i32) (x1 : S1x4096x512.Idx → Elt F .f32) (xa : S4096x512.Idx → Elt F .bf16) :
    S4096x512.Idx → Elt F .bf16 :=
  if changed i T0 = 1#1 then k0_pay1 x1 else xa
def uNew (i : grid0.Coords) (T0 : S96.Idx → Elt F .i32) (x2 : S1x4096x512.Idx → Elt F .f32) (xb : S4096x512.Idx → Elt F .bf16) :
    S4096x512.Idx → Elt F .bf16 :=
  if changed i T0 = 1#1 then k0_pay2 x2 else xb

/-- The stores of the output block where the tile has more than 256 rows: the gated product of all 512; -/
def pcs512 (x0 : S512x32x128.Idx → Elt F .bf16) (g : S4096x512.Idx → Elt F .bf16) (x3 : S1x1x512.Idx → Elt F .f32)
    (u : S4096x512.Idx → Elt F .bf16) (x4 : S1x1x512.Idx → Elt F .f32) : List (View.Piece (Elt F) S512x512 .bf16) :=
  [⟨Rect.unit (s := S512x512) ![0, 0] S512x512.size inb_S512x512_S512x512_0_0, k0_pay3 x0 g x3 u x4⟩]
/-- where it has 129 to 256, the last store first: the gated product of the last 256, zeros before them; -/
def pcs256 (x0 : S512x32x128.Idx → Elt F .bf16) (g : S4096x512.Idx → Elt F .bf16) (x3 : S1x1x512.Idx → Elt F .f32)
    (u : S4096x512.Idx → Elt F .bf16) (x4 : S1x1x512.Idx → Elt F .f32) : List (View.Piece (Elt F) S512x512 .bf16) :=
  [⟨Rect.unit (s := S512x512) ![256, 0] S256x512.size inb_S512x512_S256x512_256_0,
        k0_pay5 (View.ld x0 (Rect.unit (s := S512x32x128) ![256, 0, 0] S256x32x128.size inb_S512x32x128_S256x32x128_256_0_0)) g x3 u x4⟩,
   ⟨Rect.unit (s := S512x512) ![0, 0] S256x512.size inb_S512x512_S256x512_0_0, k0_pay4⟩]
/-- where it has 1 to 128: the gated product of the last 128, zeros before them; -/
def pcs128 (x0 : S512x32x128.Idx → Elt F .bf16) (g : S4096x512.Idx → Elt F .bf16) (x3 : S1x1x512.Idx → Elt F .f32)
    (u : S4096x512.Idx → Elt F .bf16) (x4 : S1x1x512.Idx → Elt F .f32) : List (View.Piece (Elt F) S512x512 .bf16) :=
  [⟨Rect.unit (s := S512x512) ![384, 0] S128x512.size inb_S512x512_S128x512_384_0,
        k0_pay7 (View.ld x0 (Rect.unit (s := S512x32x128) ![384, 0, 0] S128x32x128.size inb_S512x32x128_S128x32x128_384_0_0)) g x3 u x4⟩,
   ⟨Rect.unit (s := S512x512) ![0, 0] S384x512.size inb_S512x512_S384x512_0_0, k0_pay6⟩]
/-- where it has none: zeros. -/
def pcs0 : List (View.Piece (Elt F) S512x512 .bf16) :=
  [⟨Rect.unit (s := S512x512) ![0, 0] S512x512.size inb_S512x512_S512x512_0_0, k0_pay8⟩]
/-- The stores of the output block, by the number of rows. -/
def outL (i : grid0.Coords) (b1 b2 : BitVec 32) (x0 : S512x32x128.Idx → Elt F .bf16) (g : S4096x512.Idx → Elt F .bf16) (x3 : S1x1x512.Idx → Elt F .f32)
    (u : S4096x512.Idx → Elt F .bf16) (x4 : S1x1x512.Idx → Elt F .f32) : List (View.Piece (Elt F) S512x512 .bf16) :=
  if k0_cond2 i b1 b2 = 1#1 then pcs512 x0 g x3 u x4
  else if k0_cond3 i b1 b2 = 1#1 then pcs256 x0 g x3 u x4
  else if k0_cond4 i b1 b2 = 1#1 then pcs128 x0 g x3 u x4
  else pcs0

/-- One of the four conditions on the number of rows holds, and the others fail. -/
def OneCase (i : grid0.Coords) (b1 b2 : BitVec 32) : Prop :=
  (k0_cond2 i b1 b2 = 1#1 ∧ ¬k0_cond3 i b1 b2 = 1#1 ∧ ¬k0_cond4 i b1 b2 = 1#1 ∧ ¬k0_cond5 i b1 b2 = 1#1)
  ∨ (¬k0_cond2 i b1 b2 = 1#1 ∧ k0_cond3 i b1 b2 = 1#1 ∧ ¬k0_cond4 i b1 b2 = 1#1 ∧ ¬k0_cond5 i b1 b2 = 1#1)
  ∨ (¬k0_cond2 i b1 b2 = 1#1 ∧ ¬k0_cond3 i b1 b2 = 1#1 ∧ k0_cond4 i b1 b2 = 1#1 ∧ ¬k0_cond5 i b1 b2 = 1#1)
  ∨ (¬k0_cond2 i b1 b2 = 1#1 ∧ ¬k0_cond3 i b1 b2 = 1#1 ∧ ¬k0_cond4 i b1 b2 = 1#1 ∧ k0_cond5 i b1 b2 = 1#1)

theorem zeros2 : (![0, 0] : Fin 2 → Nat) = fun _ => 0 := by decide
theorem zeros3 : (![0, 0, 0] : Fin 3 → Nat) = fun _ => 0 := by decide
/-- Reading the whole of a scratch gives its contents; -/
theorem read_scrG (xa : S4096x512.Idx → Elt F .bf16) : View.read (Elt F) (View.whole cc0_scratch0) xa = xa := rfl
theorem read_scrU (xa : S4096x512.Idx → Elt F .bf16) : View.read (Elt F) (View.whole cc0_scratch1) xa = xa := rfl
/-- storing the whole of it leaves the payload. -/
theorem writes_scrG (w : S4096x512.Idx → Elt F .bf16) :
    (View.whole cc0_scratch0).writes (Elt F) (View.whole cc0_scratch0).junk
      [(⟨Rect.unit (s := S4096x512) ![0, 0] S4096x512.size inb_S4096x512_S4096x512_0_0, w⟩ : View.Piece (Elt F) S4096x512 .bf16)] = w := by
  have h := View.read_writes_junk_eq_canon (Val := Elt F) (View.whole cc0_scratch0)
    [(⟨Rect.unit (s := S4096x512) ![0, 0] S4096x512.size inb_S4096x512_S4096x512_0_0, w⟩ : View.Piece (Elt F) S4096x512 .bf16)]
  refine (read_scrG _).symm.trans (h.trans ?_)
  exact View.canon_unit_zero (S := S4096x512) zeros2 _ w
theorem writes_scrU (w : S4096x512.Idx → Elt F .bf16) :
    (View.whole cc0_scratch1).writes (Elt F) (View.whole cc0_scratch1).junk
      [(⟨Rect.unit (s := S4096x512) ![0, 0] S4096x512.size inb_S4096x512_S4096x512_0_0, w⟩ : View.Piece (Elt F) S4096x512 .bf16)] = w := by
  have h := View.read_writes_junk_eq_canon (Val := Elt F) (View.whole cc0_scratch1)
    [(⟨Rect.unit (s := S4096x512) ![0, 0] S4096x512.size inb_S4096x512_S4096x512_0_0, w⟩ : View.Piece (Elt F) S4096x512 .bf16)]
  refine (read_scrU _).symm.trans (h.trans ?_)
  exact View.canon_unit_zero (S := S4096x512) zeros2 _ w

/-- A load of a whole block gives the block. -/
theorem ld_x0 (x : S512x32x128.Idx → Elt F .bf16) : View.ld x (Rect.unit (s := S512x32x128) ![0, 0, 0] ![512, 32, 128] inb_S512x32x128_S512x32x128_0_0_0) = x :=
  View.ld_unit_zero zeros3 _ x
theorem ld_x1 (x : S1x4096x512.Idx → Elt F .f32) : View.ld x (Rect.unit (s := S1x4096x512) ![0, 0, 0] ![1, 4096, 512] inb_S1x4096x512_S1x4096x512_0_0_0) = x :=
  View.ld_unit_zero zeros3 _ x
theorem ld_x3 (x : S1x1x512.Idx → Elt F .f32) : View.ld x (Rect.unit (s := S1x1x512) ![0, 0, 0] ![1, 1, 512] inb_S1x1x512_S1x1x512_0_0_0) = x :=
  View.ld_unit_zero zeros3 _ x
theorem ld_scr (x : S4096x512.Idx → Elt F .bf16) : View.ld x (Rect.unit (s := S4096x512) ![0, 0] ![4096, 512] inb_S4096x512_S4096x512_0_0) = x :=
  View.ld_unit_zero zeros2 _ x
/-- A load of the whole of a scratch after a store of the whole of it gives the payload. -/
theorem readCov_scrG (w : S4096x512.Idx → Elt F .bf16) :
    (View.whole cc0_scratch0).readCov [(⟨Rect.unit (s := S4096x512) ![0, 0] ![4096, 512] inb_S4096x512_S4096x512_0_0, w⟩ : View.Piece (Elt F) S4096x512 .bf16)]
      (Rect.unit (s := S4096x512) ![0, 0] ![4096, 512] inb_S4096x512_S4096x512_0_0).toLoadRect = w :=
  View.readCov_unit_zero _ zeros2 _ w
theorem readCov_scrU (w : S4096x512.Idx → Elt F .bf16) :
    (View.whole cc0_scratch1).readCov [(⟨Rect.unit (s := S4096x512) ![0, 0] ![4096, 512] inb_S4096x512_S4096x512_0_0, w⟩ : View.Piece (Elt F) S4096x512 .bf16)]
      (Rect.unit (s := S4096x512) ![0, 0] ![4096, 512] inb_S4096x512_S4096x512_0_0).toLoadRect = w :=
  View.readCov_unit_zero _ zeros2 _ w

set_option maxHeartbeats 16000000 in
/-- The body at a point: from the five blocks, the tables and the scratches, it stores `outL` and leaves `gNew` and `uNew` in
    the scratches. -/
theorem run (c : Dev nD) (i : grid0.Coords) (arg5 : Memref sig .tc .vmem S512x32x128 .bf16) (harg5 : arg5.IsWhole) (arg6 : Memref sig .tc .vmem S1x4096x512 .f32) (harg6 : arg6.IsWhole) (arg7 : Memref sig .tc .vmem S1x4096x512 .f32) (harg7 : arg7.IsWhole)
    (arg8 : Memref sig .tc .vmem S1x1x512 .f32) (harg8 : arg8.IsWhole) (arg9 : Memref sig .tc .vmem S1x1x512 .f32) (harg9 : arg9.IsWhole) (arg10 : Memref sig .tc .vmem S512x512 .bf16) (harg10 : arg10.IsWhole)
    (T0 : S96.Idx → Elt F .i32) (T1 : S1.Idx → Elt F .i32) (T2 : S96.Idx → Elt F .i32)
    (x0 : S512x32x128.Idx → Elt F .bf16) (x1 x2 : S1x4096x512.Idx → Elt F .f32) (x3 x4 : S1x1x512.Idx → Elt F .f32) (xa xb : S4096x512.Idx → Elt F .bf16)
    (hone : OneCase i (word1 T1) (word2 i T2))
    (K : PUnit → sProp 𝕄) :
    iprop(owns (c : Thread nD τ) arg5 fullShare x0
      ∗ owns (c : Thread nD τ) arg6 fullShare x1
      ∗ owns (c : Thread nD τ) arg7 fullShare x2
      ∗ owns (c : Thread nD τ) arg8 fullShare x3
      ∗ owns (c : Thread nD τ) arg9 fullShare x4
      ∗ (tb0.view.loc (c : Thread nD τ) ↦{fullShare.right} T0)
      ∗ (tb1.view.loc (c : Thread nD τ) ↦{fullShare.right} T1)
      ∗ (tb2.view.loc (c : Thread nD τ) ↦{fullShare.right} T2)
      ∗ (∃ d, owns (c : Thread nD τ) arg10 fullShare d)
      ∗ (scrG.view.loc (c : Thread nD τ) ↦{fullShare} xa)
      ∗ (scrU.view.loc (c : Thread nD τ) ↦{fullShare} xb)
      ∗ (iprop(owns (c : Thread nD τ) arg5 fullShare x0
          ∗ owns (c : Thread nD τ) arg6 fullShare x1
          ∗ owns (c : Thread nD τ) arg7 fullShare x2
          ∗ owns (c : Thread nD τ) arg8 fullShare x3
          ∗ owns (c : Thread nD τ) arg9 fullShare x4
          ∗ (tb0.view.loc (c : Thread nD τ) ↦{fullShare.right} T0)
          ∗ (tb1.view.loc (c : Thread nD τ) ↦{fullShare.right} T1)
          ∗ (tb2.view.loc (c : Thread nD τ) ↦{fullShare.right} T2)
          ∗ owns (c : Thread nD τ) arg10 fullShare (View.canon (outL i (word1 T1) (word2 i T2) x0 (gNew i T0 x1 xa) x3 (uNew i T0 x2 xb) x4))
          ∗ (scrG.view.loc (c : Thread nD τ) ↦{fullShare} gNew i T0 x1 xa)
          ∗ (scrU.view.loc (c : Thread nD τ) ↦{fullShare} uNew i T0 x2 xb)) -∗ K ⟨⟩))
      ⊢ wp frame (wpE (defs₀ (F := F)) Variants.none c none) Set.univ (cc0_moe_up i tb0 (Memref.isWhole_whole _) tb1 (Memref.isWhole_whole _) tb2 (Memref.isWhole_whole _) arg5 harg5 arg6 harg6 arg7 harg7 arg8 harg8 arg9 harg9 arg10 harg10 scrG (Memref.isWhole_whole _) scrU (Memref.isWhole_whole _)) K := by
  rw [cc0_moe_up_eq_skeleton]; unfold cc0_moe_up_skel
  have hS0 : scrG.IsWhole := Memref.isWhole_whole _
  have hS1 : scrU.IsWhole := Memref.isWhole_whole _
  have hT0 : tb0.IsWhole := Memref.isWhole_whole _
  have hT1 : tb1.IsWhole := Memref.isWhole_whole _
  have hT2 : tb2.IsWhole := Memref.isWhole_whole _
  rw [owns_eq_rep (c : Thread nD τ) arg5, owns_eq_rep (c : Thread nD τ) arg6, owns_eq_rep (c : Thread nD τ) arg7, owns_eq_rep (c : Thread nD τ) arg8, owns_eq_rep (c : Thread nD τ) arg9]
  unfold owns
  rcases hone with ⟨h2, h3, h4, h5⟩ | ⟨h2, h3, h4, h5⟩ | ⟨h2, h3, h4, h5⟩ | ⟨h2, h3, h4, h5⟩ <;> by_cases hc : changed i T0 = 1#1
  all_goals
    iintro ⟨H0, H1, H2, H3, H4, HT0, HT1, HT2, ⟨%d5, %f5, -, HO5⟩, HS0, HS1, Hk⟩
    sl_exec! (disch := first | (guard_target = Scalar.cmpi = _; exact hc) | (guard_target = ¬(Scalar.cmpi = _); exact hc) | exact h2 | exact h3 | exact h4 | exact h5)
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HT2]; · iexact HT2
    isplitl [HO5]
    · iexists _; isplitr; swap
      · iexact HO5
      · ipureintro
        rw [View.read_writes_junk_eq_canon]
        first
          | unfold run.sl.HO5_1 | unfold run.sl.HO5_1_1 | unfold run.sl.HO5_1_2 | unfold run.sl.HO5_1_3
          | unfold run.sl.HO5_2 | unfold run.sl.HO5_2_1 | unfold run.sl.HO5_2_2 | unfold run.sl.HO5_2_3
        simp only [outL, pcs512, pcs256, pcs128, pcs0, gNew, uNew, h2, h3, h4, hc, if_true, if_false, View.readAt_eq_ld, View.read_rep]
        all_goals try first
          | unfold run.sl.v36 | unfold run.sl.v38 | unfold run.sl.v38_1 | unfold run.sl.v38_2
        all_goals try first
          | unfold run.sl.v42 | unfold run.sl.v44 | unfold run.sl.v44_1 | unfold run.sl.v44_2
        all_goals try first
          | unfold run.sl.HS0_1 | unfold run.sl.HS0_1_1 | unfold run.sl.HS0_1_2 | unfold run.sl.HS0_1_3
        all_goals try first
          | unfold run.sl.HS1_1 | unfold run.sl.HS1_1_1 | unfold run.sl.HS1_1_2 | unfold run.sl.HS1_1_3
        all_goals simp only [ld_x0, ld_x1, ld_x3, ld_scr, View.readAt_eq_ld, View.read_rep, read_scrG, read_scrU]
        all_goals first
          | exact congrArg₂ (fun g u => View.canon (pcs512 x0 g x3 u x4)) (readCov_scrG _) (readCov_scrU _)
          | exact congrArg₂ (fun g u => View.canon (pcs256 x0 g x3 u x4)) (readCov_scrG _) (readCov_scrU _)
          | exact congrArg₂ (fun g u => View.canon (pcs128 x0 g x3 u x4)) (readCov_scrG _) (readCov_scrU _)
    isplitl [HS0]
    · first
        | unfold run.sl.HS0_1 | unfold run.sl.HS0_1_1 | unfold run.sl.HS0_1_2 | unfold run.sl.HS0_1_3 | skip
      simp only [gNew, hc, if_true, if_false, View.readAt_eq_ld, View.read_rep, ld_x1]
      first
        | (guard_hyp hc : ¬ changed i T0 = 1#1; iexact HS0)
        | (rw [show (View.whole cc0_scratch0).writes (Elt F) (View.whole cc0_scratch0).junk _ = k0_pay1 x1 from writes_scrG _]; iexact HS0)
    · first
        | unfold run.sl.HS1_1 | unfold run.sl.HS1_1_1 | unfold run.sl.HS1_1_2 | unfold run.sl.HS1_1_3 | skip
      simp only [uNew, hc, if_true, if_false, View.readAt_eq_ld, View.read_rep, ld_x1]
      first
        | (guard_hyp hc : ¬ changed i T0 = 1#1; iexact HS1)
        | (rw [show (View.whole cc0_scratch1).writes (Elt F) (View.whole cc0_scratch1).junk _ = k0_pay2 x2 from writes_scrU _]; iexact HS1)

end Cert.Kernel4Ideal.Up

end
-- ==== Proof.MoeUpEntry.lean ====
/-
  The memory with which the experts' gated up projection begins, after the host has prepared the tables from the counts: the
  arguments as they were, the three tables as `Moe.experts`, `Moe.used` and `Moe.rows` of the counts.
-/
module

public import proofs.«01_k».proof.Proof.MoeTables
public import proofs.«01_k».proof.Proof.Gen.Kernel4Ideal.Launch

@[expose] public section

set_option maxRecDepth 16384

noncomputable section

namespace Cert.Kernel4Ideal.Up

open Cert.Kernel4Ideal Cert.Kernel4Ideal.Gen
open Idealize.ShloMosaic Idealize.ShloMosaic.TcCoe Idealize.ShloMosaic.StableHlo

variable {F : FTy → Type} [FloatOps F]

/-- The host operations that come before the call, stretch by stretch. -/
abbrev opss : List (List (HloOp τ sig (Elt F))) :=
  [hostOps0, hostOps0_1, hostOps0_2, hostOps0_3, hostOps0_4, hostOps0_5, hostOps0_6, hostOps0_7, hostOps0_8]

/-- Each touches the core's own arrays only. -/
theorem opss_sub : (opss (F := F)).Forall fun ops => ops.Forall fun op => op.bufs ⊆ tcRefs τ sig :=
  ⟨hostOps0_sub, hostOps0_1_sub, hostOps0_2_sub, hostOps0_3_sub, hostOps0_4_sub, hostOps0_5_sub, hostOps0_6_sub, hostOps0_7_sub, hostOps0_8_sub⟩

/-- None of them makes a new array. -/
theorem opss_fresh : (opss (F := F)).Forall fun ops => ops.Forall fun op => op.fresh = ∅ :=
  ⟨forall_fresh_of_map rfl, forall_fresh_of_map rfl, forall_fresh_of_map rfl, forall_fresh_of_map rfl, forall_fresh_of_map rfl,
    forall_fresh_of_map rfl, forall_fresh_of_map rfl, forall_fresh_of_map rfl, forall_fresh_of_map rfl⟩

/-- The memory after them. -/
def entry (m : (ℓ : Loc nD τ sig) → Buf (Elt F) ℓ) : (ℓ : Loc nD τ sig) → Buf (Elt F) ℓ := fun ℓ =>
  after (opss (F := F)).flatten (fun b => m (ℓ.1, b)) ℓ.2

variable (m : (ℓ : Loc nD τ sig) → Buf (Elt F) ℓ) (c : Dev nD)

set_option maxHeartbeats 20000000 in
/-- The table of the tiles' experts; -/
theorem entry_experts : entry m ((c.tc : Thread nD τ).loc main_v50) = Moe.experts (m ((c.tc : Thread nD τ).loc main_arg0)) := by
  unfold entry
  show after (opss (F := F)).flatten (fun b => m (c, b)) (Proc.devRef .tc main_v50) = _
  simp only [opss, List.flatten_cons, List.flatten_nil, List.append_nil, List.cons_append, List.nil_append, TRef.binary, TRef.nullary, TRef.ternary, TRef.unary, TRef.toBuf, TRef.ofBuf, cast_eq]
  after_results_simp
  rfl

set_option maxHeartbeats 20000000 in
/-- the number of tiles used; -/
theorem entry_used : entry m ((c.tc : Thread nD τ).loc main_v36) = Moe.used (m ((c.tc : Thread nD τ).loc main_arg0)) := by
  unfold entry
  show after (opss (F := F)).flatten (fun b => m (c, b)) (Proc.devRef .tc main_v36) = _
  simp only [opss, List.flatten_cons, List.flatten_nil, List.append_nil, List.cons_append, List.nil_append, TRef.binary, TRef.nullary, TRef.ternary, TRef.unary, TRef.toBuf, TRef.ofBuf, cast_eq]
  after_results_simp
  rfl

set_option maxHeartbeats 20000000 in
/-- the table of the tiles' rows. -/
theorem entry_rows : entry m ((c.tc : Thread nD τ).loc main_v34) = Moe.rows (m ((c.tc : Thread nD τ).loc main_arg0)) := by
  unfold entry
  show after (opss (F := F)).flatten (fun b => m (c, b)) (Proc.devRef .tc main_v34) = _
  simp only [opss, List.flatten_cons, List.flatten_nil, List.append_nil, List.cons_append, List.nil_append, TRef.binary, TRef.nullary, TRef.ternary, TRef.unary, TRef.toBuf, TRef.ofBuf, cast_eq]
  after_results_simp
  rfl

set_option maxHeartbeats 20000000 in
/-- The arguments are as they were: the counts, -/
theorem entry_arg0 : entry m ((c.tc : Thread nD τ).loc main_arg0) = m ((c.tc : Thread nD τ).loc main_arg0) := by
  unfold entry
  show after (opss (F := F)).flatten (fun b => m (c, b)) (Proc.devRef .tc main_arg0) = _
  simp only [opss, List.flatten_cons, List.flatten_nil, List.append_nil, List.cons_append, List.nil_append, TRef.binary, TRef.nullary, TRef.ternary, TRef.unary, TRef.toBuf, TRef.ofBuf, cast_eq]
  after_results_simp <;> rfl

set_option maxHeartbeats 20000000 in
/-- the activations, -/
theorem entry_arg1 : entry m ((c.tc : Thread nD τ).loc main_arg1) = m ((c.tc : Thread nD τ).loc main_arg1) := by
  unfold entry
  show after (opss (F := F)).flatten (fun b => m (c, b)) (Proc.devRef .tc main_arg1) = _
  simp only [opss, List.flatten_cons, List.flatten_nil, List.append_nil, List.cons_append, List.nil_append, TRef.binary, TRef.nullary, TRef.ternary, TRef.unary, TRef.toBuf, TRef.ofBuf, cast_eq]
  after_results_simp <;> rfl

set_option maxHeartbeats 20000000 in
/-- the gate weights, -/
theorem entry_arg2 : entry m ((c.tc : Thread nD τ).loc main_arg2) = m ((c.tc : Thread nD τ).loc main_arg2) := by
  unfold entry
  show after (opss (F := F)).flatten (fun b => m (c, b)) (Proc.devRef .tc main_arg2) = _
  simp only [opss, List.flatten_cons, List.flatten_nil, List.append_nil, List.cons_append, List.nil_append, TRef.binary, TRef.nullary, TRef.ternary, TRef.unary, TRef.toBuf, TRef.ofBuf, cast_eq]
  after_results_simp <;> rfl

set_option maxHeartbeats 20000000 in
/-- the linear weights, -/
theorem entry_arg3 : entry m ((c.tc : Thread nD τ).loc main_arg3) = m ((c.tc : Thread nD τ).loc main_arg3) := by
  unfold entry
  show after (opss (F := F)).flatten (fun b => m (c, b)) (Proc.devRef .tc main_arg3) = _
  simp only [opss, List.flatten_cons, List.flatten_nil, List.append_nil, List.cons_append, List.nil_append, TRef.binary, TRef.nullary, TRef.ternary, TRef.unary, TRef.toBuf, TRef.ofBuf, cast_eq]
  after_results_simp <;> rfl

set_option maxHeartbeats 20000000 in
/-- the gate biases, -/
theorem entry_arg4 : entry m ((c.tc : Thread nD τ).loc main_arg4) = m ((c.tc : Thread nD τ).loc main_arg4) := by
  unfold entry
  show after (opss (F := F)).flatten (fun b => m (c, b)) (Proc.devRef .tc main_arg4) = _
  simp only [opss, List.flatten_cons, List.flatten_nil, List.append_nil, List.cons_append, List.nil_append, TRef.binary, TRef.nullary, TRef.ternary, TRef.unary, TRef.toBuf, TRef.ofBuf, cast_eq]
  after_results_simp <;> rfl

set_option maxHeartbeats 20000000 in
/-- the linear biases. -/
theorem entry_arg5 : entry m ((c.tc : Thread nD τ).loc main_arg5) = m ((c.tc : Thread nD τ).loc main_arg5) := by
  unfold entry
  show after (opss (F := F)).flatten (fun b => m (c, b)) (Proc.devRef .tc main_arg5) = _
  simp only [opss, List.flatten_cons, List.flatten_nil, List.append_nil, List.cons_append, List.nil_append, TRef.binary, TRef.nullary, TRef.ternary, TRef.unary, TRef.toBuf, TRef.ofBuf, cast_eq]
  after_results_simp <;> rfl

end Cert.Kernel4Ideal.Up
end
-- ==== Proof.MoeUpFrame.lean ====
/-
  The up projection of the experts: from any tables in their ranges the call terminates, leaves its arguments unchanged and
  every counter at zero, and the result array is what the stores of the grid points make it. At any float instance.
-/
module

public import proofs.«01_k».proof.Proof.MoeUpRun
public import proofs.«01_k».proof.Proof.MoeUpEntry
public import proofs.«01_k».proof.Proof.MoeDownFrame
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Kernel4Ideal.Up

open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel5Ideal.Down (c512 c256 c128 c0 conds clamp_lt le32)
open Idealize.ShloMosaic.Pipeline (Dat Cfg Window BodyObligation BodyObligationLoose cellOf)

variable {F : FTy → Type} [FloatOps F]

local notation "𝕄" => MT nD τ sig Unit (Elt F) ℕ (UR sig nD τ) ℕ

/-- The resource algebra of the staging cells. -/
abbrev EP : Emb (UR sig nD τ) 𝕄 := emb₁

/-! ## The tables -/

/-- The offsets at which a grid point reads the tables. -/
theorem offs : ∀ i : grid0.Coords, k0_off1 i = ![(i 1).val] ∧ k0_off2 i = ![(i 1).val - 1] ∧ k0_off3 i = ![(i 1).val] := by decide +kernel

/-- The number of rows the point's tile holds, as the kernel computes it. -/
def rowsOf (i : grid0.Coords) (b1 b2 : BitVec 32) : BitVec 32 :=
  Scalar.select (Scalar.cmpi .slt (BitVec.ofNat 32 (i 1).val) b1) b2 0#32

/-- The kernel's four conditions are tests of that number. -/
theorem cond2_eq (i : grid0.Coords) (b1 b2 : BitVec 32) : k0_cond2 i b1 b2 = c512 (rowsOf i b1 b2) := rfl
theorem cond3_eq (i : grid0.Coords) (b1 b2 : BitVec 32) : k0_cond3 i b1 b2 = c256 (rowsOf i b1 b2) := rfl
theorem cond4_eq (i : grid0.Coords) (b1 b2 : BitVec 32) : k0_cond4 i b1 b2 = c128 (rowsOf i b1 b2) := rfl
theorem cond5_eq (i : grid0.Coords) (b1 b2 : BitVec 32) : k0_cond5 i b1 b2 = c0 (rowsOf i b1 b2) := rfl

theorem rowsOf_le (i : grid0.Coords) (b1 b2 : BitVec 32) (h : b2.toNat ≤ 512) : (rowsOf i b1 b2).toNat ≤ 512 := by
  unfold rowsOf Scalar.select
  split
  · exact h
  · decide

/-- The conditions by the number of rows. -/
theorem conds_at (i : grid0.Coords) (b1 b2 : BitVec 32) (h : b2.toNat ≤ 512) :
    (k0_cond2 i b1 b2 = 1#1 ↔ 256 < (rowsOf i b1 b2).toNat)
    ∧ (k0_cond3 i b1 b2 = 1#1 ↔ 128 < (rowsOf i b1 b2).toNat ∧ (rowsOf i b1 b2).toNat ≤ 256)
    ∧ (k0_cond4 i b1 b2 = 1#1 ↔ 0 < (rowsOf i b1 b2).toNat ∧ (rowsOf i b1 b2).toNat ≤ 128)
    ∧ (k0_cond5 i b1 b2 = 1#1 ↔ (rowsOf i b1 b2).toNat = 0) := by
  have hr := rowsOf_le i b1 b2 h
  have := conds ⟨(rowsOf i b1 b2).toNat, by omega⟩
  simp only [BitVec.ofNat_toNat, BitVec.setWidth_eq] at this
  rw [cond2_eq, cond3_eq, cond4_eq, cond5_eq]
  exact this

theorem oneCase (i : grid0.Coords) (b1 b2 : BitVec 32) (h : b2.toNat ≤ 512) : OneCase i b1 b2 := by
  obtain ⟨h2, h3, h4, h5⟩ := conds_at i b1 b2 h
  unfold OneCase
  rw [h2, h3, h4, h5]
  omega

/-- A scalar read of a table is the table at the offset. -/
theorem read_tb (off : Fin 1 → Nat) (inb : ∀ a, off a + S1.size a ≤ S96.size a) (T : S96.Idx → BitVec 32) (k : Fin 96) (h : off = ![k.val]) :
    T ((Rect.unit (s := S96) off S1.size inb).emb (Shape.Idx.first (numel1_S1.symm ▸ Nat.one_pos))) = T (ix1 k) := by
  subst h
  congr 1
  funext a
  fin_cases a
  apply Fin.ext
  rfl

theorem word0_eq (i : grid0.Coords) (T : S96.Idx → Elt F .i32) : word0 i T = T (ix1 (i 1)) :=
  read_tb _ (k0_off1_inb i) T (i 1) (offs i).1
theorem word0'_eq (i : grid0.Coords) (T : S96.Idx → Elt F .i32) : word0' i T = T (ix1 ⟨(i 1).val - 1, lt_of_le_of_lt (Nat.sub_le _ _) (i 1).isLt⟩) :=
  read_tb _ (k0_off2_inb i) T ⟨(i 1).val - 1, lt_of_le_of_lt (Nat.sub_le _ _) (i 1).isLt⟩ (offs i).2.1
theorem word2_eq (i : grid0.Coords) (T : S96.Idx → Elt F .i32) : word2 i T = T (ix1 (i 1)) :=
  read_tb _ (k0_off3_inb i) T (i 1) (offs i).2.2
theorem word1_eq (T : S1.Idx → Elt F .i32) : word1 T = T (ix1 0) := by
  show T _ = T _
  congr 1
  funext a
  fin_cases a
  apply Fin.ext
  rfl

/-- Where the scratch is not refreshed the tile is not the first one and its expert is the expert of the tile before. -/
theorem not_changed (i : grid0.Coords) (T : S96.Idx → Elt F .i32) (h : ¬changed i T = 1#1) : (i 1).val ≠ 0 ∧ word0 i T = word0' i T := by
  unfold changed at h
  by_cases h0 : (i 1).val = 0
  · exfalso; apply h
    rw [h0]
    generalize Scalar.cmpi .ne (word0 i T) (word0' i T) = b
    revert b; decide
  · refine ⟨h0, ?_⟩
    by_contra hne
    apply h
    rw [show Scalar.cmpi .ne (word0 i T) (word0' i T) = 1#1 from by
      show BitVec.ofBool (word0 i T != word0' i T) = 1#1
      rw [show (word0 i T != word0' i T) = true from bne_iff_ne.2 hne]; rfl]
    generalize Scalar.cmpi .eq (BitVec.ofNat 32 (i 1).val) 0#32 = b
    revert b; decide

section

variable (m : (ℓ : Loc nD τ sig) → Buf (Elt F) ℓ) (ρ : Dev nD → PrngReg)

/-- The tables as the launch memory holds them. -/
abbrev T0 : S96.Idx → Elt F .i32 := m (((0 : Dev nD) : Thread nD τ).loc main_v50)
abbrev T1 : S1.Idx → Elt F .i32 := m (((0 : Dev nD) : Thread nD τ).loc main_v36)
abbrev T2 : S96.Idx → Elt F .i32 := m (((0 : Dev nD) : Thread nD τ).loc main_v34)

/-- The tables are in their ranges: an expert is one of the 32, a tile has at most 512 rows. -/
def Ranges : Prop := (∀ x, (T0 m x).toNat < 32) ∧ (∀ x, (T2 m x).toNat ≤ 512)

/-- The tables' contents. -/
def pf : pre0.Contents (Elt F) := fun | ⟨0, _⟩ => T0 m | ⟨1, _⟩ => T1 m | ⟨2, _⟩ => T2 m | ⟨_ + 3, h⟩ => absurd h (by simp)

/-- The linear half's blocks lie two blocks of columns behind the gate half's. -/
theorem half_val (k : Nat) (h : k < 2) : (Scalar.addi 2#32 (BitVec.ofNat 32 k)).toNat = 2 + k := by
  show (2#32 + BitVec.ofNat 32 k).toNat = 2 + k
  rw [BitVec.toNat_add, BitVec.toNat_ofNat, BitVec.toNat_ofNat]
  omega
theorem le97 {k : Nat} (h : k < 96) : (k + 1) * 512 ≤ 49664 := by omega

variable {m} in
/-- In their ranges, every block lies inside its array. -/
theorem ok (hr : Ranges m) : ok0 (F := F) (pf m) := by
  refine ⟨fun i => ⟨?_, .inr (Affine.block_words_dvd (s := S49664x32x128) (p := EltTy.packing .bf16) (by decide) (by decide))⟩,
    fun i => ⟨?_, .inl rfl⟩, fun i => ⟨?_, .inl rfl⟩, fun i => ⟨?_, .inl rfl⟩, fun i => ⟨?_, .inl rfl⟩⟩
  · intro a
    fin_cases a
    · show ((Scalar.maxsi (Scalar.minsi (BitVec.ofNat 32 (i 1).val) _) 0#32).toNat + 1) * 512 ≤ 49664
      exact le97 (clamp_lt (i 1).val (i 1).isLt _)
    · show (0 + 1) * 32 ≤ 32
      omega
    · show (0 + 1) * 128 ≤ 128
      omega
  · intro a
    fin_cases a
    · show ((T0 m _).toNat + 1) * 1 ≤ 32
      exact le32 (hr.1 _)
    · show (0 + 1) * 4096 ≤ 4096
      omega
    · show ((BitVec.ofNat 32 (i 0).val).toNat + 1) * 512 ≤ 2048
      have : (i 0).val < 2 := (i 0).isLt
      rw [BitVec.toNat_ofNat, Nat.mod_eq_of_lt (by omega)]
      omega
  · intro a
    fin_cases a
    · show ((T0 m _).toNat + 1) * 1 ≤ 32
      exact le32 (hr.1 _)
    · show (0 + 1) * 4096 ≤ 4096
      omega
    · show ((Scalar.addi 2#32 (BitVec.ofNat 32 (i 0).val)).toNat + 1) * 512 ≤ 2048
      have : (i 0).val < 2 := (i 0).isLt
      rw [half_val _ this]
      omega
  · intro a
    fin_cases a
    · show ((T0 m _).toNat + 1) * 1 ≤ 32
      exact le32 (hr.1 _)
    · show (0 + 1) * 1 ≤ 1
      omega
    · show ((BitVec.ofNat 32 (i 0).val).toNat + 1) * 512 ≤ 2048
      have : (i 0).val < 2 := (i 0).isLt
      rw [BitVec.toNat_ofNat, Nat.mod_eq_of_lt (by omega)]
      omega
  · intro a
    fin_cases a
    · show ((T0 m _).toNat + 1) * 1 ≤ 32
      exact le32 (hr.1 _)
    · show (0 + 1) * 1 ≤ 1
      omega
    · show ((Scalar.addi 2#32 (BitVec.ofNat 32 (i 0).val)).toNat + 1) * 512 ≤ 2048
      have : (i 0).val < 2 := (i 0).isLt
      rw [half_val _ this]
      omega

/-! ## The pipeline at the tables -/

variable (hr : Ranges m)

/-- The admissible contents, and the pipeline at them. -/
def adm : (pcfg0 (F := F)).Adm := ⟨pf m, ok hr⟩
abbrev cfgA : Pipeline.Cfg sig Λ₀ := cfg0 (F := F) (adm m hr)
abbrev pcs : Fin 1 → Pipeline.Cfg sig Λ₀ := Pipeline.pin (pcfgs (F := F)) fun _ => adm m hr

/-- Point `t`'s coordinates, its windows' staging memrefs, and the blocks of the input windows at launch. -/
abbrev crd (t : Fin (cfgA m hr).N) : grid0.Coords := grid0.coords t
abbrev ms0 (t : Fin (cfgA m hr).N) : Memref sig .tc .vmem S512x32x128 .bf16 := spec0_0.stage ((cfgA m hr).slots t (0 : Fin 6))
abbrev hs0 (t : Fin (cfgA m hr).N) : (ms0 m hr t).IsWhole := hstage0_0 (((cfgA m hr).slots t (0 : Fin 6)).cast nbuf0_0)
abbrev ms1 (t : Fin (cfgA m hr).N) : Memref sig .tc .vmem S1x4096x512 .f32 := spec0_1.stage ((cfgA m hr).slots t (1 : Fin 6))
abbrev hs1 (t : Fin (cfgA m hr).N) : (ms1 m hr t).IsWhole := hstage0_1 (((cfgA m hr).slots t (1 : Fin 6)).cast nbuf0_1)
abbrev ms2 (t : Fin (cfgA m hr).N) : Memref sig .tc .vmem S1x4096x512 .f32 := spec0_2.stage ((cfgA m hr).slots t (2 : Fin 6))
abbrev hs2 (t : Fin (cfgA m hr).N) : (ms2 m hr t).IsWhole := hstage0_2 (((cfgA m hr).slots t (2 : Fin 6)).cast nbuf0_2)
abbrev ms3 (t : Fin (cfgA m hr).N) : Memref sig .tc .vmem S1x1x512 .f32 := spec0_3.stage ((cfgA m hr).slots t (3 : Fin 6))
abbrev hs3 (t : Fin (cfgA m hr).N) : (ms3 m hr t).IsWhole := hstage0_3 (((cfgA m hr).slots t (3 : Fin 6)).cast nbuf0_3)
abbrev ms4 (t : Fin (cfgA m hr).N) : Memref sig .tc .vmem S1x1x512 .f32 := spec0_4.stage ((cfgA m hr).slots t (4 : Fin 6))
abbrev hs4 (t : Fin (cfgA m hr).N) : (ms4 m hr t).IsWhole := hstage0_4 (((cfgA m hr).slots t (4 : Fin 6)).cast nbuf0_4)
abbrev ms5 (t : Fin (cfgA m hr).N) : Memref sig .tc .vmem S512x512 .bf16 := spec0_5.stage ((cfgA m hr).slots t (5 : Fin 6))
abbrev hs5 (t : Fin (cfgA m hr).N) : (ms5 m hr t).IsWhole := hstage0_5 (((cfgA m hr).slots t (5 : Fin 6)).cast nbuf0_5)

def iblk (c : Dev nD) (w : Fin (cfgA m hr).W) (t : Fin (cfgA m hr).N) : (((cfgA m hr).win w).xblock ((cfgA m hr).grid.coords t)).Idx → Elt F ((cfgA m hr).win w).elt :=
  (((cfgA m hr).win w).blk t).view.read (Elt F) ((s₀ m ρ).mem (((cfgA m hr).win w).arr.view.loc (c : Thread nD τ)))

/-- The five input blocks at point `t`, at their shapes. -/
abbrev blk0 (c : Dev nD) (t : Fin (cfgA m hr).N) : S512x32x128.Idx → Elt F .bf16 := iblk m ρ hr c (0 : Fin 6) t
abbrev blk1 (c : Dev nD) (t : Fin (cfgA m hr).N) : S1x4096x512.Idx → Elt F .f32 := iblk m ρ hr c (1 : Fin 6) t
abbrev blk2 (c : Dev nD) (t : Fin (cfgA m hr).N) : S1x4096x512.Idx → Elt F .f32 := iblk m ρ hr c (2 : Fin 6) t
abbrev blk3 (c : Dev nD) (t : Fin (cfgA m hr).N) : S1x1x512.Idx → Elt F .f32 := iblk m ρ hr c (3 : Fin 6) t
abbrev blk4 (c : Dev nD) (t : Fin (cfgA m hr).N) : S1x1x512.Idx → Elt F .f32 := iblk m ρ hr c (4 : Fin 6) t

/-- Where the window of gate weights lies at point `t`: -/
theorem index1 (t : Fin (cfgA m hr).N) : ((cfgA m hr).win (1 : Fin 6)).index t = ![(T0 m (ix1 (crd m hr t 1))).toNat, 0, (crd m hr t 0).val] := by
  have e := word0_eq (F := F) (crd m hr t) (T0 m)
  have h0 : (crd m hr t 0).val < 2 := (crd m hr t 0).isLt
  funext a
  fin_cases a
  · exact congrArg BitVec.toNat e
  · rfl
  · show (BitVec.ofNat 32 (crd m hr t 0).val).toNat = (crd m hr t 0).val
    rw [BitVec.toNat_ofNat, Nat.mod_eq_of_lt (by omega)]

/-- of linear weights, -/
theorem index2 (t : Fin (cfgA m hr).N) : ((cfgA m hr).win (2 : Fin 6)).index t = ![(T0 m (ix1 (crd m hr t 1))).toNat, 0, 2 + (crd m hr t 0).val] := by
  have e := word0_eq (F := F) (crd m hr t) (T0 m)
  have h0 : (crd m hr t 0).val < 2 := (crd m hr t 0).isLt
  funext a
  fin_cases a
  · exact congrArg BitVec.toNat e
  · rfl
  · show (Scalar.addi 2#32 (BitVec.ofNat 32 (crd m hr t 0).val)).toNat = 2 + (crd m hr t 0).val
    rw [half_val _ h0]

/-- of gate biases, -/
theorem index3 (t : Fin (cfgA m hr).N) : ((cfgA m hr).win (3 : Fin 6)).index t = ![(T0 m (ix1 (crd m hr t 1))).toNat, 0, (crd m hr t 0).val] := by
  have e := word0_eq (F := F) (crd m hr t) (T0 m)
  have h0 : (crd m hr t 0).val < 2 := (crd m hr t 0).isLt
  funext a
  fin_cases a
  · exact congrArg BitVec.toNat e
  · rfl
  · show (BitVec.ofNat 32 (crd m hr t 0).val).toNat = (crd m hr t 0).val
    rw [BitVec.toNat_ofNat, Nat.mod_eq_of_lt (by omega)]

/-- of linear biases. -/
theorem index4 (t : Fin (cfgA m hr).N) : ((cfgA m hr).win (4 : Fin 6)).index t = ![(T0 m (ix1 (crd m hr t 1))).toNat, 0, 2 + (crd m hr t 0).val] := by
  have e := word0_eq (F := F) (crd m hr t) (T0 m)
  have h0 : (crd m hr t 0).val < 2 := (crd m hr t 0).isLt
  funext a
  fin_cases a
  · exact congrArg BitVec.toNat e
  · rfl
  · show (Scalar.addi 2#32 (BitVec.ofNat 32 (crd m hr t 0).val)).toNat = 2 + (crd m hr t 0).val
    rw [half_val _ h0]

/-- The blocks of weights at point `t`, read off their arrays. -/
theorem blk1_apply (c : Dev nD) (t : Fin (cfgA m hr).N) (y : S1x4096x512.Idx) :
    blk1 m ρ hr c t y = m ((c : Thread nD τ).loc main_arg2) ((((cfgA m hr).win (1 : Fin 6)).rect t).emb y) := rfl
theorem blk2_apply (c : Dev nD) (t : Fin (cfgA m hr).N) (y : S1x4096x512.Idx) :
    blk2 m ρ hr c t y = m ((c : Thread nD τ).loc main_arg3) ((((cfgA m hr).win (2 : Fin 6)).rect t).emb y) := rfl

/-- A point's coordinates: the half of the columns, then the tile. -/
theorem crd0 (t : Fin grid0.N) : (grid0.coords t 0).val = t.val / 96 % 2 := Pipeline.Grid.coords_val t 0 (by decide) rfl
theorem crd1 (t : Fin grid0.N) : (grid0.coords t 1).val = t.val / 1 % 96 := Pipeline.Grid.coords_val t 1 (by decide) rfl

/-- Where the scratches are not refreshed the point before has the same expert and the same columns. -/
theorem same_point (t t' : Fin (cfgA m hr).N) (ht : t.val = t'.val + 1) (h : ¬changed (crd m hr t) (T0 m) = 1#1) :
    T0 m (ix1 (crd m hr t 1)) = T0 m (ix1 (crd m hr t' 1)) ∧ (crd m hr t 0).val = (crd m hr t' 0).val := by
  obtain ⟨h0, hw⟩ := not_changed _ _ h
  rw [word0_eq, word0'_eq] at hw
  have a1 := crd1 t; have a1' := crd1 t'; have a0 := crd0 t; have a0' := crd0 t'
  have h0 : (grid0.coords t 1).val ≠ 0 := h0
  constructor
  · rw [hw, show (⟨(crd m hr t 1).val - 1, lt_of_le_of_lt (Nat.sub_le _ _) (crd m hr t 1).isLt⟩ : Fin 96) = crd m hr t' 1 from Fin.ext (by
        show (grid0.coords t 1).val - 1 = (grid0.coords t' 1).val
        omega)]
  · show (grid0.coords t 0).val = (grid0.coords t' 0).val
    omega

/-- So the block of gate weights is that of the point before, -/
theorem blk1_held (c : Dev nD) (t t' : Fin (cfgA m hr).N) (ht : t.val = t'.val + 1) (h : ¬changed (crd m hr t) (T0 m) = 1#1) :
    blk1 m ρ hr c t = blk1 m ρ hr c t' := by
  obtain ⟨h1, h0⟩ := same_point m hr t t' ht h
  have e : ((cfgA m hr).win (1 : Fin 6)).index t = ((cfgA m hr).win (1 : Fin 6)).index t' := by
    rw [index1, index1, h1, h0]
  funext y
  rw [blk1_apply, blk1_apply]
  congr 1
  funext a
  apply Fin.ext
  exact (Pipeline.Window.rect_emb_val _ t y a).trans ((by rw [e] : _ = _).trans (Pipeline.Window.rect_emb_val ((cfgA m hr).win (1 : Fin 6)) t' y a).symm)

/-- and so is the block of linear weights. -/
theorem blk2_held (c : Dev nD) (t t' : Fin (cfgA m hr).N) (ht : t.val = t'.val + 1) (h : ¬changed (crd m hr t) (T0 m) = 1#1) :
    blk2 m ρ hr c t = blk2 m ρ hr c t' := by
  obtain ⟨h1, h0⟩ := same_point m hr t t' ht h
  have e : ((cfgA m hr).win (2 : Fin 6)).index t = ((cfgA m hr).win (2 : Fin 6)).index t' := by
    rw [index2, index2, h1, h0]
  funext y
  rw [blk2_apply, blk2_apply]
  congr 1
  funext a
  apply Fin.ext
  exact (Pipeline.Window.rect_emb_val _ t y a).trans ((by rw [e] : _ = _).trans (Pipeline.Window.rect_emb_val ((cfgA m hr).win (2 : Fin 6)) t' y a).symm)

/-! ## The proof data -/

/-- What the body stores of the output block at point `t`. -/
def stored (c : Dev nD) (t : Fin (cfgA m hr).N) : List (View.Piece (Elt F) S512x512 .bf16) :=
  outL (crd m hr t) (word1 (T1 m)) (word2 (crd m hr t) (T2 m)) (blk0 m ρ hr c t) (k0_pay1 (blk1 m ρ hr c t)) (blk3 m ρ hr c t) (k0_pay2 (blk2 m ρ hr c t)) (blk4 m ρ hr c t)

/-- Between the points: the scratches hold the weights of the point before, the tables are as at launch. -/
def Phi (c : Dev nD) (n : Nat) : sProp 𝕄 :=
  iprop((∃ a : S4096x512.Idx → Elt F .bf16, ⌜∀ t : Fin (cfgA m hr).N, n = t.val + 1 → a = k0_pay1 (blk1 m ρ hr c t)⌝ ∗ (scrG.view.loc (c : Thread nD τ) ↦{fullShare} a))
    ∗ (∃ b : S4096x512.Idx → Elt F .bf16, ⌜∀ t : Fin (cfgA m hr).N, n = t.val + 1 → b = k0_pay2 (blk2 m ρ hr c t)⌝ ∗ (scrU.view.loc (c : Thread nD τ) ↦{fullShare} b))
    ∗ (tb0.view.loc (c : Thread nD τ) ↦{fullShare.right} T0 m)
    ∗ (tb1.view.loc (c : Thread nD τ) ↦{fullShare.right} T1 m)
    ∗ (tb2.view.loc (c : Thread nD τ) ↦{fullShare.right} T2 m))

/-- Each window's block after the body, and the invariant between the points. -/
def dats (_ : Fin 1) (c : Dev nD) : Pipeline.Dat τ (Elt F) Unit ℕ (UR sig nD τ) ℕ (cfgA m hr) c where
  A w := (s₀ m ρ).mem (((cfgA m hr).win w).arr.view.loc (c : Thread nD τ))
  after w t := match w with
    | ⟨0, _⟩ => iblk m ρ hr c (0 : Fin 6) t
    | ⟨1, _⟩ => iblk m ρ hr c (1 : Fin 6) t
    | ⟨2, _⟩ => iblk m ρ hr c (2 : Fin 6) t
    | ⟨3, _⟩ => iblk m ρ hr c (3 : Fin 6) t
    | ⟨4, _⟩ => iblk m ρ hr c (4 : Fin 6) t
    | ⟨5, _⟩ => View.canon (stored m ρ hr c t)
  Φ t := Phi m ρ hr c t.val
  q _ := fullShare
  owed _ := 0

theorem Phi_at (c : Dev nD) (x : Fin ((cfgA m hr).N + 1)) : (dats m ρ hr 0 c).Φ x = Phi m ρ hr c x.val := rfl
theorem owes_at (c : Dev nD) (t : Fin (cfgA m hr).N) : (dats m ρ hr 0 c).owesAt () t.succ = (dats m ρ hr 0 c).owesAt () t.castSucc := rfl
theorem after_0 (c : Dev nD) (t : Fin (cfgA m hr).N) : (dats m ρ hr 0 c).after (0 : Fin 6) t = iblk m ρ hr c (0 : Fin 6) t := rfl
theorem after_1 (c : Dev nD) (t : Fin (cfgA m hr).N) : (dats m ρ hr 0 c).after (1 : Fin 6) t = iblk m ρ hr c (1 : Fin 6) t := rfl
theorem after_2 (c : Dev nD) (t : Fin (cfgA m hr).N) : (dats m ρ hr 0 c).after (2 : Fin 6) t = iblk m ρ hr c (2 : Fin 6) t := rfl
theorem after_3 (c : Dev nD) (t : Fin (cfgA m hr).N) : (dats m ρ hr 0 c).after (3 : Fin 6) t = iblk m ρ hr c (3 : Fin 6) t := rfl
theorem after_4 (c : Dev nD) (t : Fin (cfgA m hr).N) : (dats m ρ hr 0 c).after (4 : Fin 6) t = iblk m ρ hr c (4 : Fin 6) t := rfl
theorem after_5 (c : Dev nD) (t : Fin (cfgA m hr).N) : (dats m ρ hr 0 c).after (5 : Fin 6) t = View.canon (stored m ρ hr c t) := rfl

/-- An input window holds its block when the body runs. -/
theorem before_0 (c : Dev nD) (t : Fin (cfgA m hr).N) (d) : (dats m ρ hr 0 c).before (0 : Fin 6) t d = iblk m ρ hr c (0 : Fin 6) t :=
  ((dats m ρ hr 0 c).before_in_eq_fetched (0 : Fin 6) rfl (fun _ => rfl) (fun _ _ _ => rfl) (fun t => by rw [after_0]; unfold Pipeline.Dat.blockOf iblk; rfl) t d).trans
    (by unfold Pipeline.Dat.fetched Pipeline.Dat.blockOf iblk; rfl)
theorem before_1 (c : Dev nD) (t : Fin (cfgA m hr).N) (d) : (dats m ρ hr 0 c).before (1 : Fin 6) t d = iblk m ρ hr c (1 : Fin 6) t :=
  ((dats m ρ hr 0 c).before_in_eq_fetched (1 : Fin 6) rfl (fun _ => rfl) (fun _ _ _ => rfl) (fun t => by rw [after_1]; unfold Pipeline.Dat.blockOf iblk; rfl) t d).trans
    (by unfold Pipeline.Dat.fetched Pipeline.Dat.blockOf iblk; rfl)
theorem before_2 (c : Dev nD) (t : Fin (cfgA m hr).N) (d) : (dats m ρ hr 0 c).before (2 : Fin 6) t d = iblk m ρ hr c (2 : Fin 6) t :=
  ((dats m ρ hr 0 c).before_in_eq_fetched (2 : Fin 6) rfl (fun _ => rfl) (fun _ _ _ => rfl) (fun t => by rw [after_2]; unfold Pipeline.Dat.blockOf iblk; rfl) t d).trans
    (by unfold Pipeline.Dat.fetched Pipeline.Dat.blockOf iblk; rfl)
theorem before_3 (c : Dev nD) (t : Fin (cfgA m hr).N) (d) : (dats m ρ hr 0 c).before (3 : Fin 6) t d = iblk m ρ hr c (3 : Fin 6) t :=
  ((dats m ρ hr 0 c).before_in_eq_fetched (3 : Fin 6) rfl (fun _ => rfl) (fun _ _ _ => rfl) (fun t => by rw [after_3]; unfold Pipeline.Dat.blockOf iblk; rfl) t d).trans
    (by unfold Pipeline.Dat.fetched Pipeline.Dat.blockOf iblk; rfl)
theorem before_4 (c : Dev nD) (t : Fin (cfgA m hr).N) (d) : (dats m ρ hr 0 c).before (4 : Fin 6) t d = iblk m ρ hr c (4 : Fin 6) t :=
  ((dats m ρ hr 0 c).before_in_eq_fetched (4 : Fin 6) rfl (fun _ => rfl) (fun _ _ _ => rfl) (fun t => by rw [after_4]; unfold Pipeline.Dat.blockOf iblk; rfl) t d).trans
    (by unfold Pipeline.Dat.fetched Pipeline.Dat.blockOf iblk; rfl)

/-- One of the four cases holds at every point. -/
theorem one_at (t : Fin (cfgA m hr).N) : OneCase (crd m hr t) (word1 (T1 m)) (word2 (crd m hr t) (T2 m)) :=
  oneCase _ _ _ (by rw [word2_eq]; exact hr.2 _)

/-- A table read with its bounds checked, inside them. -/
theorem atD2 (i : grid0.Coords) : (pf m).atD 2 (k0_off3 i) = word2 i (T2 m) := by
  unfold Pipeline.Prefetch.Contents.atD
  split
  case isFalse h => exact absurd (show ∀ a : Fin 1, k0_off3 i a + 1 ≤ S96.size a from fun a => by have := k0_off3_inb i a; fin_cases a; exact this) h
  show T2 m _ = T2 m _
  congr 1
theorem atD1 : (pf m).atD 1 ![0] = word1 (T1 m) := by
  unfold Pipeline.Prefetch.Contents.atD
  split
  case isFalse h => exact absurd (show ∀ a : Fin 1, (![0] : Fin 1 → Nat) a + 1 ≤ S1.size a by decide) h
  show T1 m _ = T1 m _
  congr 1

/-- Every point stores its output block. -/
theorem idle5 (t : Fin (cfgA m hr).N) : (cfgA m hr).idle (5 : Fin 6) ((cfgA m hr).grid.coords t) = false := by
  have h := one_at m hr t
  show (!(k0_cond2 (crd m hr t) ((pf m).atD 1 ![0]) ((pf m).atD 2 (k0_off3 (crd m hr t))) == 1#1) && !(k0_cond3 (crd m hr t) ((pf m).atD 1 ![0]) ((pf m).atD 2 (k0_off3 (crd m hr t))) == 1#1) && !(k0_cond4 (crd m hr t) ((pf m).atD 1 ![0]) ((pf m).atD 2 (k0_off3 (crd m hr t))) == 1#1) && !(k0_cond5 (crd m hr t) ((pf m).atD 1 ![0]) ((pf m).atD 2 (k0_off3 (crd m hr t))) == 1#1)) = false
  rw [atD1, atD2]
  rcases h with ⟨h2, h3, h4, h5⟩ | ⟨h2, h3, h4, h5⟩ | ⟨h2, h3, h4, h5⟩ | ⟨h2, h3, h4, h5⟩ <;> simp [h2, h3, h4, h5]

/-! ## The body obligation -/

/-- The body at point `t` on its staging memrefs, as the pipeline calls it. -/
abbrev bodyAt (t : Fin (cfgA m hr).N) : Prog (TpuEff nD τ sig (Elt F) Λ₀ .tc) PUnit :=
  cc0_moe_up (crd m hr t) tb0 (Memref.isWhole_whole _) tb1 (Memref.isWhole_whole _) tb2 (Memref.isWhole_whole _) (ms0 m hr t) (hs0 m hr t) (ms1 m hr t) (hs1 m hr t) (ms2 m hr t) (hs2 m hr t) (ms3 m hr t) (hs3 m hr t) (ms4 m hr t) (hs4 m hr t) (ms5 m hr t) (hs5 m hr t) scrG (Memref.isWhole_whole _) scrU (Memref.isWhole_whole _)

/-- A point at which the scratches are not refreshed has a point before it. -/
theorem pred_point (t : Fin (cfgA m hr).N) (h : ¬changed (crd m hr t) (T0 m) = 1#1) : ∃ t' : Fin (cfgA m hr).N, t.val = t'.val + 1 := by
  obtain ⟨h0, -⟩ := not_changed _ _ h
  have v1 := crd1 t
  have hne : t.val ≠ 0 := fun h => h0 (by show (grid0.coords t 1).val = 0; rw [v1, h])
  have hlt : t.val < (cfgA m hr).N := t.isLt
  exact ⟨⟨t.val - 1, lt_of_le_of_lt (Nat.sub_le _ _) hlt⟩, (Nat.succ_pred_eq_of_ne_zero hne).symm⟩

/-- After the body the scratches hold the point's weights. -/
theorem gNew_eq (c : Dev nD) (t : Fin (cfgA m hr).N) (a : S4096x512.Idx → Elt F .bf16)
    (ha : ∀ t' : Fin (cfgA m hr).N, t.val = t'.val + 1 → a = k0_pay1 (blk1 m ρ hr c t')) :
    gNew (crd m hr t) (T0 m) (blk1 m ρ hr c t) a = k0_pay1 (blk1 m ρ hr c t) := by
  unfold gNew
  split
  · rfl
  · rename_i h
    obtain ⟨t', ht⟩ := pred_point m hr t h
    rw [ha _ ht, blk1_held m ρ hr c t _ ht h]
theorem uNew_eq (c : Dev nD) (t : Fin (cfgA m hr).N) (a : S4096x512.Idx → Elt F .bf16)
    (ha : ∀ t' : Fin (cfgA m hr).N, t.val = t'.val + 1 → a = k0_pay2 (blk2 m ρ hr c t')) :
    uNew (crd m hr t) (T0 m) (blk2 m ρ hr c t) a = k0_pay2 (blk2 m ρ hr c t) := by
  unfold uNew
  split
  · rfl
  · rename_i h
    obtain ⟨t', ht⟩ := pred_point m hr t h
    rw [ha _ ht, blk2_held m ρ hr c t _ ht h]

set_option maxHeartbeats 4800000 in
/-- The body keeps its promise at every point. -/
theorem sound_body (c : Dev nD) (t : Fin (cfgA m hr).N) :
    iprop((dats m ρ hr 0 c).Φ t.castSucc ∗ (dats m ρ hr 0 c).owesAt () t.castSucc
        ∗ (∃ d, owns (c : Thread nD τ) (ms0 m hr t) fullShare ((dats m ρ hr 0 c).before (0 : Fin 6) t d))
        ∗ (∃ d, owns (c : Thread nD τ) (ms1 m hr t) fullShare ((dats m ρ hr 0 c).before (1 : Fin 6) t d))
        ∗ (∃ d, owns (c : Thread nD τ) (ms2 m hr t) fullShare ((dats m ρ hr 0 c).before (2 : Fin 6) t d))
        ∗ (∃ d, owns (c : Thread nD τ) (ms3 m hr t) fullShare ((dats m ρ hr 0 c).before (3 : Fin 6) t d))
        ∗ (∃ d, owns (c : Thread nD τ) (ms4 m hr t) fullShare ((dats m ρ hr 0 c).before (4 : Fin 6) t d))
        ∗ (∃ d, owns (c : Thread nD τ) (ms5 m hr t) fullShare ((dats m ρ hr 0 c).before (5 : Fin 6) t d)))
      ⊢ wp frame (wpE (defs₀ (F := F)) Variants.none c none) Set.univ (bodyAt m hr t) fun _ =>
          iprop((dats m ρ hr 0 c).Φ t.succ ∗ (dats m ρ hr 0 c).owesAt () t.succ
            ∗ bigSep Finset.univ fun w : Fin (cfgA m hr).W =>
                match (cfgA m hr).idle w ((cfgA m hr).grid.coords t) with
                | true =>
                  match ((cfgA m hr).win w).flush t with
                  | false => iprop(∃ d, owns (c : Thread nD τ) (((cfgA m hr).win w).stage ((cfgA m hr).slots t w)) fullShare ((dats m ρ hr 0 c).before w t d))
                  | true => owns (c : Thread nD τ) (((cfgA m hr).win w).stage ((cfgA m hr).slots t w)) fullShare ((dats m ρ hr 0 c).after w t)
                | false => owns (c : Thread nD τ) (((cfgA m hr).win w).stage ((cfgA m hr).slots t w)) fullShare ((dats m ρ hr 0 c).after w t)) := by
  rw [bigSep_W0]
  rewrite [idle5]
  simp only [before_0, before_1, before_2, before_3, before_4, after_0, after_1, after_2, after_3, after_4, after_5]
  rewrite [Phi_at, Phi_at, Fin.val_castSucc, Fin.val_succ, owes_at]
  unfold Phi
  iintro ⟨⟨⟨%a0, %ha0, HS0⟩, ⟨%b0, %hb0, HS1⟩, HT0, HT1, HT2⟩, Ho, ⟨%d0, H0⟩, ⟨%d1, H1⟩, ⟨%d2, H2⟩, ⟨%d3, H3⟩, ⟨%d4, H4⟩, ⟨%d5, H5⟩⟩
  have hg := gNew_eq m ρ hr c t a0 ha0
  have hu := uNew_eq m ρ hr c t b0 hb0
  iapply (run c (crd m hr t) (ms0 m hr t) (hs0 m hr t) (ms1 m hr t) (hs1 m hr t) (ms2 m hr t) (hs2 m hr t) (ms3 m hr t) (hs3 m hr t) (ms4 m hr t) (hs4 m hr t) (ms5 m hr t) (hs5 m hr t) (T0 m) (T1 m) (T2 m)
    (blk0 m ρ hr c t) (blk1 m ρ hr c t) (blk2 m ρ hr c t) (blk3 m ρ hr c t) (blk4 m ρ hr c t) a0 b0 (one_at m hr t) _)
  isplitl [H0]; · iexact H0
  isplitl [H1]; · iexact H1
  isplitl [H2]; · iexact H2
  isplitl [H3]; · iexact H3
  isplitl [H4]; · iexact H4
  isplitl [HT0]; · iexact HT0
  isplitl [HT1]; · iexact HT1
  isplitl [HT2]; · iexact HT2
  isplitl [H5]; · iexists _; iexact H5
  isplitl [HS0]; · iexact HS0
  isplitl [HS1]; · iexact HS1
  rw [hg, hu]
  iintro ⟨H0, H1, H2, H3, H4, HT0, HT1, HT2, H5, HS0, HS1⟩
  isplitl [HS0 HS1 HT0 HT1 HT2]
  · isplitl [HS0]
    · iexists _; isplitr; swap
      · iexact HS0
      · ipureintro; intro t' ht'
        rw [show t = t' from Fin.ext (by omega)]
    isplitl [HS1]
    · iexists _; isplitr; swap
      · iexact HS1
      · ipureintro; intro t' ht'
        rw [show t = t' from Fin.ext (by omega)]
    isplitl [HT0]
    · iexact HT0
    isplitl [HT1]
    · iexact HT1
    iexact HT2
  isplitl [Ho]; · iexact Ho
  isplitl [H0]; · iexact H0
  isplitl [H1]; · iexact H1
  isplitl [H2]; · iexact H2
  isplitl [H3]; · iexact H3
  isplitl [H4]; · iexact H4
  iexact H5

theorem body_obligation (c : Dev nD) : Pipeline.BodyObligation (dats m ρ hr 0 c) (defs₀ (F := F)) Variants.none () Set.univ := fun t => by
  rw [bigSep_W0]
  exact sound_body m ρ hr c t

/-! ## The launch -/

/-- The launch element. -/
def u₀ : UR sig nD τ :=
  initOf (Pipeline.cells (pcs m hr) ((launch0 (F := F)).cellOf_inj fun _ => adm m hr))
    (Pipeline.launchToks (pcs m hr) ((launch0 (F := F)).cellOf_inj fun _ => adm m hr))

theorem share_eq (c : Dev nD) (w : Fin (cfgA m hr).W) : (dats m ρ hr 0 c).share w = fullShare := by unfold Pipeline.Dat.share; split <;> rfl

/-- The tables one by one. -/
theorem prefHeld_eq (c : Dev nD) (q : Fin 3 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v50) ↦{q 0} v 0) ∗ (((c : Thread nD τ).loc main_v36) ↦{q 1} v 1) ∗ (((c : Thread nD τ).loc main_v34) ↦{q 2} v 2)) := by
  unfold Pipeline.prefHeld
  rw [show (Finset.univ : Finset (Fin 3)) = insert (0 : Fin 3) (insert (1 : Fin 3) {(2 : Fin 3)}) from by decide,
    bigSep_insert (by decide), bigSep_insert (by decide), bigSep_singleton]
  rfl

/-- The invariant at the first point; -/
theorem phi_intro (c : Dev nD) :
    iprop(BI.emp ∗ Pipeline.prefHeld pre0 c (fun _ => fullShare.right) (adm m hr).1 ∗ Pipeline.scopedRest spec0 c) ⊢ (dats m ρ hr 0 c).Φ 0 := by
  rw [prefHeld_eq, scopedRest0_eq, show (dats m ρ hr 0 c).Φ 0 = Phi m ρ hr c 0 from rfl]
  unfold Phi
  iintro ⟨-, ⟨HT0, HT1, HT2⟩, ⟨%a0, HS0⟩, ⟨%b0, HS1⟩⟩
  isplitl [HS0]
  · iexists a0; isplitr; swap
    · iexact HS0
    · ipureintro; intro t h; exact absurd h (by omega)
  isplitl [HS1]
  · iexists b0; isplitr; swap
    · iexact HS1
    · ipureintro; intro t h; exact absurd h (by omega)
  isplitl [HT0]
  · iexact HT0
  isplitl [HT1]
  · iexact HT1
  iexact HT2

/-- at the last point it gives the scratches back. -/
theorem phi_exit (c : Dev nD) : (dats m ρ hr 0 c).Φ (Fin.last (cfgA m hr).N) ⊢ iprop(BI.emp ∗ Pipeline.scopedRest spec0 c) := by
  rw [scopedRest0_eq, show (dats m ρ hr 0 c).Φ (Fin.last (cfgA m hr).N) = Phi m ρ hr c (cfgA m hr).N from rfl]
  unfold Phi
  iintro ⟨⟨%a0, -, HS0⟩, ⟨%b0, -, HS1⟩, -, -, -⟩
  isplitr; · iempintro
  isplitl [HS0]
  · iexists a0; iexact HS0
  iexists b0; iexact HS1

/-- The tables of the launch are the memory's. -/
theorem V_pre (c : Dev nD) (j : Fin 3) : m ((c : Thread nD τ).loc (pre0.ref j)) = (adm m hr).1 j := by
  rw [Subsingleton.elim c (0 : Dev nD)]
  fin_cases j <;> rfl

/-- Where every array ends as the pipeline computes it, those that are only read end as they began. -/
theorem read_kept (s : MemSt nD τ sig (Elt F)) (c : Dev nD)
    (h : ∀ w : Fin (cfgA m hr).W, s.mem (((cfgA m hr).win w).arr.view.loc (c : Thread nD τ)) = (dats m ρ hr 0 c).arrAt w (cfgA m hr).N) :
    s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5) :=
  ⟨(h (0 : Fin 6)).trans ((dats m ρ hr 0 c).arrAt_in (0 : Fin 6) rfl _),
    (h (1 : Fin 6)).trans ((dats m ρ hr 0 c).arrAt_in (1 : Fin 6) rfl _),
    (h (2 : Fin 6)).trans ((dats m ρ hr 0 c).arrAt_in (2 : Fin 6) rfl _),
    (h (3 : Fin 6)).trans ((dats m ρ hr 0 c).arrAt_in (3 : Fin 6) rfl _),
    (h (4 : Fin 6)).trans ((dats m ρ hr 0 c).arrAt_in (4 : Fin 6) rfl _)⟩

end

/-! ## From the counts on -/

variable (m : (ℓ : Loc nD τ sig) → Buf (Elt F) ℓ) (ρ : Dev nD → PrngReg)

/-- The tables that the host prepares are in their ranges. -/
theorem ranges : Ranges (entry m) :=
  ⟨fun x => by rw [show T0 (entry m) = Moe.experts _ from entry_experts m 0]; exact Moe.experts_lt _ x,
    fun x => by rw [show T2 (entry m) = Moe.rows _ from entry_rows m 0]; exact Moe.rows_le _ x⟩

/-- Every array ends as the pipeline computes it, every array that isn't the call's as the host left it. -/
def QC : PUnit × MemSt nD τ sig (Elt F) → Prop := fun r =>
  ∀ c : Dev nD, (∀ w : Fin (cfgA (entry m) (ranges m)).W, r.2.mem (((cfgA (entry m) (ranges m)).win w).arr.view.loc (c : Thread nD τ))
      = (dats (entry m) ρ (ranges m) 0 c).arrAt w (cfgA (entry m) (ranges m)).N)
    ∧ ∀ b ∈ Pipeline.restRefsP sig pre0 spec0, r.2.mem ((c.tc : Thread nD τ).loc b) = entry m ((c.tc : Thread nD τ).loc b)

set_option backward.isDefEq.respectTransparency.types false in
set_option maxHeartbeats 4000000 in
/-- Every run ends, with the arrays as computed and every counter at zero. -/
theorem run_main : θ_run (defs (F := F)) (onTc (τ := τ) (main (F := F))) (s₀ m ρ) (fun r => QC m ρ r ∧ r.2.sem = fun _ => 0) :=
  Pipeline.θ_run_region_noSem_pf_quiescent pcfgs (fun _ => adm (entry m) (ranges m)) (dats (entry m) ρ (ranges m)) ()
    ((launch0 (F := F)).cellOf_inj fun _ => adm (entry m) (ranges m)) (0 : Fin 1)
    (launch0 (F := F)).win.to₀ (launch0 (F := F)).pre EP defs₀ Variants.none m ρ main
    (hbody := fun c => (body_obligation (entry m) ρ (ranges m) c).loose) (hne := (launch0 (F := F)).block_pos)
    (harr := (launch0 (F := F)).arr_whole) (hstage := (launch0 (F := F)).stage_whole) (howed := fun _ _ => rfl)
    (u₀ := u₀ (entry m) (ranges m)) (hu₀ := .rfl)
    (V := fun c b => entry m ((c : Thread nD τ).loc b))
    (hmain := Pipeline.hmainP_prefixes pcfgs 0 defs₀ Variants.none m main opss opss_sub opss_fresh main_chain)
    (hsplit := fun c => Pipeline.arrays_split (pcs (entry m) (ranges m)) (dats (entry m) ρ (ranges m)) 0 (launch0 (F := F)).win.arr_inj c (launch0 (F := F)).arr_whole
      (share_eq (entry m) ρ (ranges m) c) _ _ fun _ => rfl)
    (hpf := V_pre (entry m) (ranges m))
    (X := fun _ => iprop(emp)) (Y := fun _ => iprop(emp))
    (Z := fun c => Pipeline.unscopedRestP (Ix := Unit) (Name := ℕ) (U := UR sig nD τ) (Lvl := ℕ) pre0 spec0 c fun b => entry m ((c : Thread nD τ).loc b))
    (hX := fun c => by iintro H; isplitr; · iempintro
                       iexact H)
    (hin := phi_intro (entry m) ρ (ranges m))
    (hout := phi_exit (entry m) ρ (ranges m))
    (QY := fun c s => ∀ b ∈ Pipeline.restRefsP sig pre0 spec0, s.mem ((c.tc : Thread nD τ).loc b) = entry m ((c.tc : Thread nD τ).loc b))
    (hY := fun c s' => by
      iintro ⟨-, HU, HSI⟩
      unfold Pipeline.unscopedRestP
      imodintro
      iapply (pointsTo_read_all (Pipeline.restRefsP sig pre0 spec0) (fun b => (c.tc : Thread nD τ).loc b) (fun b => entry m ((c : Thread nD τ).loc b)) s')
      isplitl [HU] <;> iassumption)
    (hQ := fun _ h hz => ⟨fun c => ⟨(h c).1, (h c).2.2⟩, hz⟩)

/-- Such a state has the arguments as they began. -/
theorem args_kept (r : PUnit × MemSt nD τ sig (Elt F)) (h : QC m ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  have ⟨h1, h2, h3, h4, h5⟩ := read_kept (entry m) ρ (ranges m) r.2 c (h c).1
  ⟨((h c).2 main_arg0 (by decide)).trans (entry_arg0 m c), h1.trans (entry_arg1 m c), h2.trans (entry_arg2 m c), h3.trans (entry_arg3 m c), h4.trans (entry_arg4 m c), h5.trans (entry_arg5 m c)⟩

/-- The arguments end unchanged and every counter at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨args_kept m ρ r h.1, h.2⟩) (run_main m ρ)

end Cert.Kernel4Ideal.Up

end
-- ==== Proof.MoeUp.lean ====
module

public import proofs.«01_k».proof.Proof.MoeUpFrame
public import proofs.«01_k».proof.Proof.MoeDown
public import proofs.«01_k».proof.Proof.Gen.Kernel4
public import proofs.«01_k».proof.Defs

@[expose] public section

noncomputable section

namespace Cert.Kernel4Ideal.Up

open Idealize.ShloMosaic Idealize.ShloMosaic.TcCoe
open Idealize.SL.Sem

/-- The frame read at the ideal instance; -/
theorem quiescent_ideal : Cert.quiescent_Kernel4Ideal := fun m ρ _ => frame m ρ

set_option maxHeartbeats 8000000 in
/-- As compiled the program has the same text: the same body, -/
theorem body_eq : Cert.Kernel4.cc0_moe_up (F := Bits) = cc0_moe_up (F := Bits) := by
  unfold Cert.Kernel4.cc0_moe_up cc0_moe_up
  rfl

set_option maxHeartbeats 2000000 in
/-- at every grid point. -/
theorem defs0_eq : Cert.Kernel4.defs₀ (F := Bits) = defs₀ (F := Bits) := by
  unfold Cert.Kernel4.defs₀ defs₀
  rw [body_eq]
  congr 1
  funext p x
  match p, x with
  | 0, (t, s) => rfl

set_option maxHeartbeats 2000000 in
/-- The host's operations are the same, -/
theorem main_eq : Cert.Kernel4.main (F := Bits) = main (F := Bits) := by sl_kernel_rfl

set_option maxHeartbeats 2000000 in
/-- so it has the frame as compiled too. -/
theorem quiescent_bits : Cert.quiescent_Kernel4 := fun m ρ _ => by
  have e := frame (F := Bits) m ρ
  unfold defs at e
  unfold Cert.Kernel4.defs
  rw [defs0_eq, main_eq]
  exact e

end Cert.Kernel4Ideal.Up

end
-- ==== Proof.MoeUpValue.lean ====
/-
  The gated up projection of the experts at the ideal instance: the kernel's result array is `Moe.up` of the arguments.
-/
module

public import proofs.«01_k».proof.Proof.MoeUpFrame
public import proofs.«01_k».proof.Proof.Moe
public import Idealize.ShloMosaic.Lib.Pipeline.Covers

@[expose] public section

set_option maxRecDepth 16384

noncomputable section

namespace Cert.Kernel4Ideal.Up

open Cert.Kernel4Ideal Cert.Kernel4Ideal.Gen Idealize.ShloMosaic Idealize.ShloMosaic.TcCoe Idealize.SL.Sem
open Idealize.ShloMosaic.Pipeline (Dat)
open InProj (emb_unit_val)

/-! ## The payloads -/

/-- The gate weights rounded: the block without its axis of one; -/
theorem pay1_apply (v : Vec Ideal S1x4096x512 .f32) (k : Fin 4096) (o : Fin 512) : k0_pay1 (F := Ideal) v (ix2 k o) = v (ix3 0 k o) := by
  pointwise [k0_pay1]
/-- the linear weights rounded. -/
theorem pay2_apply (v : Vec Ideal S1x4096x512 .f32) (k : Fin 4096) (o : Fin 512) : k0_pay2 (F := Ideal) v (ix2 k o) = v (ix3 0 k o) := by
  pointwise [k0_pay2]

/-- One half's product at a place, plus the column's bias. -/
def half {n : ℕ} (x : Vec Ideal ⟨3, ![n, 32, 128]⟩ .bf16) (w : Vec Ideal S4096x512 .bf16) (b : Vec Ideal S1x1x512 .f32) (r : Fin n) (o : Fin 512) : EReal :=
  (∑ k : Fin 4096, x (ix3 r (Moe.grp k) (Moe.ofs k)) * w (ix2 k o)) + b (ix3 0 0 o)

/-- The gated product of all 512 rows; -/
theorem pay3_apply (x : Vec Ideal S512x32x128 .bf16) (wg : Vec Ideal S4096x512 .bf16) (bg : Vec Ideal S1x1x512 .f32) (wu : Vec Ideal S4096x512 .bf16) (bu : Vec Ideal S1x1x512 .f32)
    (r : Fin 512) (o : Fin 512) : k0_pay3 (F := Ideal) x wg bg wu bu (ix2 r o) = Moe.swiglu (half x wg bg r o) (half x wu bu r o) := by
  unfold Moe.swiglu half Moe.grp Moe.ofs
  pointwise [k0_pay3]

/-- of 256; -/
theorem pay5_apply (x : Vec Ideal S256x32x128 .bf16) (wg : Vec Ideal S4096x512 .bf16) (bg : Vec Ideal S1x1x512 .f32) (wu : Vec Ideal S4096x512 .bf16) (bu : Vec Ideal S1x1x512 .f32)
    (r : Fin 256) (o : Fin 512) : k0_pay5 (F := Ideal) x wg bg wu bu (ix2 r o) = Moe.swiglu (half x wg bg r o) (half x wu bu r o) := by
  unfold Moe.swiglu half Moe.grp Moe.ofs
  pointwise [k0_pay5]

/-- of 128. -/
theorem pay7_apply (x : Vec Ideal S128x32x128 .bf16) (wg : Vec Ideal S4096x512 .bf16) (bg : Vec Ideal S1x1x512 .f32) (wu : Vec Ideal S4096x512 .bf16) (bu : Vec Ideal S1x1x512 .f32)
    (r : Fin 128) (o : Fin 512) : k0_pay7 (F := Ideal) x wg bg wu bu (ix2 r o) = Moe.swiglu (half x wg bg r o) (half x wu bu r o) := by
  unfold Moe.swiglu half Moe.grp Moe.ofs
  pointwise [k0_pay7]

/-- The rows before them are zeros. -/
theorem pay4_apply (y : S256x512.Idx) : k0_pay4 (F := Ideal) y = 0 := by pointwise [k0_pay4]
theorem pay6_apply (y : S384x512.Idx) : k0_pay6 (F := Ideal) y = 0 := by pointwise [k0_pay6]
theorem pay8_apply (y : S512x512.Idx) : k0_pay8 (F := Ideal) y = 0 := by pointwise [k0_pay8]

/-! ## The block a grid point leaves -/

/-- Of a tile with `n` rows: the gated products of the rows that are written, zeros before them. -/
def block (n : ℕ) (x : Vec Ideal S512x32x128 .bf16) (wg : Vec Ideal S4096x512 .bf16) (bg : Vec Ideal S1x1x512 .f32) (wu : Vec Ideal S4096x512 .bf16) (bu : Vec Ideal S1x1x512 .f32)
    (r : Fin 512) (o : Fin 512) : EReal :=
  if Moe.reach n r then Moe.swiglu (half x wg bg r o) (half x wu bu r o) else 0

/-- A place of a piece that starts at row `s` of the block is the same place `s` rows on. -/
theorem emb_row {s n : ℕ} (hs : s + n ≤ 512) (inb) (r : Fin n) (o : Fin 512) :
    (Rect.unit (s := S512x512) ![s, 0] ![n, 512] inb).emb (ix2 r o) = ix2 ⟨s + r.val, by omega⟩ o := by
  funext a
  refine Fin.ext ((emb_unit_val _ a).trans ?_)
  match a with
  | ⟨0, _⟩ => rfl
  | ⟨1, _⟩ => exact Nat.zero_add _

/-- A piece agrees with a function of the block where its payload does. -/
theorem piece {s n : ℕ} (hs : s + n ≤ 512) (inb) (P : (⟨2, ![n, 512]⟩ : Shape).Idx → EReal) (G : Fin 512 → Fin 512 → EReal)
    (h : ∀ (r : Fin n) (o : Fin 512), P (ix2 r o) = G ⟨s + r.val, by omega⟩ o) (z : (⟨2, ![n, 512]⟩ : Shape).Idx) :
    P z = (fun y : S512x512.Idx => G (y 0) (y 1)) ((Rect.unit (s := S512x512) ![s, 0] ![n, 512] inb).emb z) := by
  obtain ⟨r, o, rfl⟩ : ∃ (r : Fin n) (o : Fin 512), z = ix2 r o := ⟨z 0, z 1, eq_ix2 z⟩
  rw [emb_row hs]
  exact h _ _

/-- A load of `n` rows from row `s` on reads the row `s` further. -/
theorem ld_row {s n : ℕ} (hs : s + n ≤ 512) (inb) (x : Vec Ideal S512x32x128 .bf16) (r : Fin n) (q : Fin 32) (l : Fin 128) :
    View.ld x (Rect.unit (s := S512x32x128) ![s, 0, 0] ![n, 32, 128] inb) (ix3 r q l) = x (ix3 ⟨s + r.val, by omega⟩ q l) := by
  refine congrArg x ?_
  funext a
  refine Fin.ext ((emb_unit_val _ a).trans ?_)
  match a with
  | ⟨0, _⟩ => rfl
  | ⟨1, _⟩ => exact Nat.zero_add _
  | ⟨2, _⟩ => exact Nat.zero_add _

/-- So its product is that of the row `s` further. -/
theorem half_ld {s n : ℕ} (hs : s + n ≤ 512) (inb) (x : Vec Ideal S512x32x128 .bf16) (w : Vec Ideal S4096x512 .bf16) (b : Vec Ideal S1x1x512 .f32) (r : Fin n) (o : Fin 512) :
    half (n := n) (View.ld x (Rect.unit (s := S512x32x128) ![s, 0, 0] ![n, 32, 128] inb)) w b r o = half (n := 512) x w b ⟨s + r.val, by omega⟩ o := by
  unfold half
  congr 1
  refine Fin.sum_fin_congr fun k => ?_
  congr 1
  exact ld_row hs inb x r _ _

/-- The rows a piece covers. -/
theorem mem_rows {s n : ℕ} (inb) (r : Fin 512) (o : Fin 512) (h : s ≤ r.val ∧ r.val < s + n) :
    (ix2 r o : S512x512.Idx) ∈ (Rect.unit (s := S512x512) ![s, 0] ![n, 512] inb).set := by
  refine Rect.mem_set_unit.2 fun a => ?_
  match a with
  | ⟨0, _⟩ => exact h
  | ⟨1, _⟩ => exact ⟨Nat.zero_le _, by show o.val < 0 + 512; omega⟩

/-- What the stores leave of the block. -/
theorem canon_outL (i : grid0.Coords) (b1 b2 : BitVec 32) (h : b2.toNat ≤ 512) (x : Vec Ideal S512x32x128 .bf16) (wg : Vec Ideal S4096x512 .bf16)
    (bg : Vec Ideal S1x1x512 .f32) (wu : Vec Ideal S4096x512 .bf16) (bu : Vec Ideal S1x1x512 .f32) (r : Fin 512) (o : Fin 512) :
    View.canon (Val := Elt Ideal) (outL (F := Ideal) i b1 b2 x wg bg wu bu) (ix2 r o) = block (rowsOf i b1 b2).toNat x wg bg wu bu r o := by
  obtain ⟨h2, h3, h4, h5⟩ := conds_at i b1 b2 h
  have hle := rowsOf_le i b1 b2 h
  refine View.canon_apply_of_pieces (Val := Elt Ideal) (e := .bf16) (S := S512x512)
    (fun y => block (rowsOf i b1 b2).toNat x wg bg wu bu (y 0) (y 1)) _ ?_ (ix2 r o) ?_
  · unfold outL pcs512 pcs256 pcs128 pcs0
    split
    · rename_i c
      have c := h2.1 c
      intro p hp
      obtain rfl := List.mem_singleton.mp hp
      refine piece (s := 0) (n := 512) (by omega) inb_S512x512_S512x512_0_0 _ _ fun r o => ?_
      refine (pay3_apply x wg bg wu bu r o).trans ?_
      have e : (⟨0 + r.val, by omega⟩ : Fin 512) = r := Fin.ext (Nat.zero_add _)
      rw [e]
      exact (if_pos (Or.inl c)).symm
    · rename_i n2
      have n2 : ¬256 < (rowsOf i b1 b2).toNat := fun k => n2 (h2.2 k)
      split
      · rename_i c
        have c := h3.1 c
        intro p hp
        rcases List.mem_cons.mp hp with rfl | hp
        · refine piece (s := 256) (n := 256) (by omega) inb_S512x512_S256x512_256_0 _ _ fun r o => ?_
          refine (pay5_apply _ wg bg wu bu r o).trans ?_
          refine Eq.trans ?_ (if_pos (Or.inr (Or.inl ⟨c.1, Nat.le_add_right _ _⟩))).symm
          exact congrArg₂ Moe.swiglu (half_ld (by omega) _ x wg bg r o) (half_ld (by omega) _ x wu bu r o)
        · obtain rfl := List.mem_singleton.mp hp
          refine piece (s := 0) (n := 256) (by omega) inb_S512x512_S256x512_0_0 _ _ fun r o => ?_
          refine (pay4_apply (ix2 r o)).trans (if_neg ?_).symm
          have := r.isLt
          unfold Moe.reach
          show ¬(_ ∨ _ ∧ 256 ≤ 0 + r.val ∨ _ ∧ 384 ≤ 0 + r.val)
          omega
      · rename_i n3
        have n3 : ¬(128 < (rowsOf i b1 b2).toNat ∧ (rowsOf i b1 b2).toNat ≤ 256) := fun k => n3 (h3.2 k)
        split
        · rename_i c
          have c := h4.1 c
          intro p hp
          rcases List.mem_cons.mp hp with rfl | hp
          · refine piece (s := 384) (n := 128) (by omega) inb_S512x512_S128x512_384_0 _ _ fun r o => ?_
            refine (pay7_apply _ wg bg wu bu r o).trans ?_
            refine Eq.trans ?_ (if_pos (Or.inr (Or.inr ⟨c.1, Nat.le_add_right _ _⟩))).symm
            exact congrArg₂ Moe.swiglu (half_ld (by omega) _ x wg bg r o) (half_ld (by omega) _ x wu bu r o)
          · obtain rfl := List.mem_singleton.mp hp
            refine piece (s := 0) (n := 384) (by omega) inb_S512x512_S384x512_0_0 _ _ fun r o => ?_
            refine (pay6_apply (ix2 r o)).trans (if_neg ?_).symm
            have := r.isLt
            unfold Moe.reach
            show ¬(_ ∨ _ ∧ 256 ≤ 0 + r.val ∨ _ ∧ 384 ≤ 0 + r.val)
            omega
        · rename_i n4
          have n4 : ¬(0 < (rowsOf i b1 b2).toNat ∧ (rowsOf i b1 b2).toNat ≤ 128) := fun k => n4 (h4.2 k)
          intro p hp
          obtain rfl := List.mem_singleton.mp hp
          refine piece (s := 0) (n := 512) (by omega) inb_S512x512_S512x512_0_0 _ _ fun r o => ?_
          refine (pay8_apply (ix2 r o)).trans (if_neg ?_).symm
          unfold Moe.reach
          omega
  · have hr := r.isLt
    unfold outL pcs512 pcs256 pcs128 pcs0
    split
    · exact ⟨_, List.mem_singleton.2 rfl, mem_rows (n := 512) inb_S512x512_S512x512_0_0 r o ⟨Nat.zero_le _, by omega⟩⟩
    · split
      · by_cases c : 256 ≤ r.val
        · exact ⟨_, List.mem_cons_self, mem_rows (n := 256) inb_S512x512_S256x512_256_0 r o ⟨c, by omega⟩⟩
        · exact ⟨_, List.mem_cons_of_mem _ (List.mem_singleton.2 rfl), mem_rows (n := 256) inb_S512x512_S256x512_0_0 r o ⟨Nat.zero_le _, by omega⟩⟩
      · split
        · by_cases c : 384 ≤ r.val
          · exact ⟨_, List.mem_cons_self, mem_rows (n := 128) inb_S512x512_S128x512_384_0 r o ⟨c, by omega⟩⟩
          · exact ⟨_, List.mem_cons_of_mem _ (List.mem_singleton.2 rfl), mem_rows (n := 384) inb_S512x512_S384x512_0_0 r o ⟨Nat.zero_le _, by omega⟩⟩
        · exact ⟨_, List.mem_singleton.2 rfl, mem_rows (n := 512) inb_S512x512_S512x512_0_0 r o ⟨Nat.zero_le _, by omega⟩⟩

/-! ## The result array -/

variable (m : (ℓ : Loc nD τ sig) → Buf (Elt Ideal) ℓ) (ρ : Dev nD → PrngReg) (hr : Ranges m)

/-- The index map of the activations, at the tables. -/
theorem map0 (i : grid0.Coords) : cc0_transform_0 inb_S1_S1_0 numel1_S1 (pf m) i
    = ![(Scalar.maxsi (Scalar.minsi (BitVec.ofNat 32 (i 1).val) (Scalar.subi (T1 m (ix1 0)) 1#32)) 0#32).toNat, 0, 0] := by
  have e : (pf m).at 1 (Rect.unit (s := S1) ![0] S1.size inb_S1_S1_0) numel1_S1 = T1 m (ix1 0) := word1_eq (F := Ideal) (T1 m)
  unfold cc0_transform_0
  rw [e]
  rfl
/-- Where the window of activations lies: at the tile's number, clamped into the counted tiles. -/
theorem index0 (t : Fin (cfgA m hr).N) : ((cfgA m hr).win (0 : Fin 6)).index t
    = ![(Scalar.maxsi (Scalar.minsi (BitVec.ofNat 32 (crd m hr t 1).val) (Scalar.subi (T1 m (ix1 0)) 1#32)) 0#32).toNat, 0, 0] :=
  Eq.trans rfl (map0 m (crd m hr t))
/-- Where the window of the result lies: at the tile and its half of the columns. -/
theorem index5 (t : Fin (cfgA m hr).N) : ((cfgA m hr).win (5 : Fin 6)).index t = ![(crd m hr t 1).val, (crd m hr t 0).val] := by
  have h0 : (crd m hr t 0).val < 2 := (crd m hr t 0).isLt
  have h1 : (crd m hr t 1).val < 96 := (crd m hr t 1).isLt
  funext a
  fin_cases a
  · show (BitVec.ofNat 32 (crd m hr t 1).val).toNat = (crd m hr t 1).val
    rw [BitVec.toNat_ofNat, Nat.mod_eq_of_lt (by omega)]
  · show (BitVec.ofNat 32 (crd m hr t 0).val).toNat = (crd m hr t 0).val
    rw [BitVec.toNat_ofNat, Nat.mod_eq_of_lt (by omega)]

/-- The activations' block, where the tile is one of the counted. -/
theorem blk0_at (c : Dev nD) (t : Fin (cfgA m hr).N) (h : (BitVec.ofNat 32 (crd m hr t 1).val).slt (T1 m (ix1 0)) = true) (r : Fin 512) (q : Fin 32) (l : Fin 128) (p : Fin 49664)
    (hp : p.val = 512 * (crd m hr t 1).val + r.val) :
    blk0 m ρ hr c t (ix3 r q l) = m ((c : Thread nD τ).loc main_arg1) (ix3 p q l) := by
  show m ((c : Thread nD τ).loc main_arg1) ((((cfgA m hr).win (0 : Fin 6)).rect t).emb (ix3 r q l)) = _
  congr 1
  funext a
  apply Fin.ext
  refine (Pipeline.Window.rect_emb_val ((cfgA m hr).win (0 : Fin 6)) t (ix3 r q l) a).trans ?_
  rw [index0]
  match a with
  | ⟨0, _⟩ =>
    refine Eq.trans ?_ hp.symm
    show (Scalar.maxsi (Scalar.minsi (BitVec.ofNat 32 (crd m hr t 1).val) (Scalar.subi (T1 m (ix1 0)) 1#32)) 0#32).toNat * 512 + r.val = _
    rw [Moe.clamp_eq (crd m hr t 1).isLt h, Nat.mul_comm]
  | ⟨1, _⟩ => show 0 * 32 + q.val = q.val; omega
  | ⟨2, _⟩ => show 0 * 128 + l.val = l.val; omega

/-- The gate weights' block; -/
theorem blk1_at (c : Dev nD) (t : Fin (cfgA m hr).N) (k : Fin 4096) (o : Fin 512) (e : Fin 32) (j : Fin 2048)
    (he : e.val = (T0 m (ix1 (crd m hr t 1))).toNat) (hj : j.val = (crd m hr t 0).val * 512 + o.val) :
    blk1 m ρ hr c t (ix3 0 k o) = m ((c : Thread nD τ).loc main_arg2) (ix3 e k j) := by
  rw [blk1_apply]
  congr 1
  funext a
  apply Fin.ext
  refine (Pipeline.Window.rect_emb_val ((cfgA m hr).win (1 : Fin 6)) t (ix3 0 k o) a).trans ?_
  rw [index1]
  match a with
  | ⟨0, _⟩ => exact (show (T0 m (ix1 (crd m hr t 1))).toNat * 1 + 0 = (T0 m (ix1 (crd m hr t 1))).toNat by omega).trans he.symm
  | ⟨1, _⟩ => show 0 * 4096 + k.val = k.val; omega
  | ⟨2, _⟩ => exact hj.symm
/-- the linear weights'; -/
theorem blk2_at (c : Dev nD) (t : Fin (cfgA m hr).N) (k : Fin 4096) (o : Fin 512) (e : Fin 32) (j : Fin 2048)
    (he : e.val = (T0 m (ix1 (crd m hr t 1))).toNat) (hj : j.val = (2 + (crd m hr t 0).val) * 512 + o.val) :
    blk2 m ρ hr c t (ix3 0 k o) = m ((c : Thread nD τ).loc main_arg3) (ix3 e k j) := by
  rw [blk2_apply]
  congr 1
  funext a
  apply Fin.ext
  refine (Pipeline.Window.rect_emb_val ((cfgA m hr).win (2 : Fin 6)) t (ix3 0 k o) a).trans ?_
  rw [index2]
  match a with
  | ⟨0, _⟩ => exact (show (T0 m (ix1 (crd m hr t 1))).toNat * 1 + 0 = (T0 m (ix1 (crd m hr t 1))).toNat by omega).trans he.symm
  | ⟨1, _⟩ => show 0 * 4096 + k.val = k.val; omega
  | ⟨2, _⟩ => exact hj.symm
/-- the gate biases'; -/
theorem blk3_at (c : Dev nD) (t : Fin (cfgA m hr).N) (o : Fin 512) (e : Fin 32) (j : Fin 2048)
    (he : e.val = (T0 m (ix1 (crd m hr t 1))).toNat) (hj : j.val = (crd m hr t 0).val * 512 + o.val) :
    blk3 m ρ hr c t (ix3 0 0 o) = m ((c : Thread nD τ).loc main_arg4) (ix3 e 0 j) := by
  show m ((c : Thread nD τ).loc main_arg4) ((((cfgA m hr).win (3 : Fin 6)).rect t).emb (ix3 0 0 o)) = _
  congr 1
  funext a
  apply Fin.ext
  refine (Pipeline.Window.rect_emb_val ((cfgA m hr).win (3 : Fin 6)) t (ix3 0 0 o) a).trans ?_
  rw [index3]
  match a with
  | ⟨0, _⟩ => exact (show (T0 m (ix1 (crd m hr t 1))).toNat * 1 + 0 = (T0 m (ix1 (crd m hr t 1))).toNat by omega).trans he.symm
  | ⟨1, _⟩ => rfl
  | ⟨2, _⟩ => exact hj.symm
/-- the linear biases'. -/
theorem blk4_at (c : Dev nD) (t : Fin (cfgA m hr).N) (o : Fin 512) (e : Fin 32) (j : Fin 2048)
    (he : e.val = (T0 m (ix1 (crd m hr t 1))).toNat) (hj : j.val = (2 + (crd m hr t 0).val) * 512 + o.val) :
    blk4 m ρ hr c t (ix3 0 0 o) = m ((c : Thread nD τ).loc main_arg5) (ix3 e 0 j) := by
  show m ((c : Thread nD τ).loc main_arg5) ((((cfgA m hr).win (4 : Fin 6)).rect t).emb (ix3 0 0 o)) = _
  congr 1
  funext a
  apply Fin.ext
  refine (Pipeline.Window.rect_emb_val ((cfgA m hr).win (4 : Fin 6)) t (ix3 0 0 o) a).trans ?_
  rw [index4]
  match a with
  | ⟨0, _⟩ => exact (show (T0 m (ix1 (crd m hr t 1))).toNat * 1 + 0 = (T0 m (ix1 (crd m hr t 1))).toNat by omega).trans he.symm
  | ⟨1, _⟩ => rfl
  | ⟨2, _⟩ => exact hj.symm

/-- The block's gate product at a written place is the array's; -/
theorem gate_at (c : Dev nD) (t : Fin (cfgA m hr).N) (h : (BitVec.ofNat 32 (crd m hr t 1).val).slt (T1 m (ix1 0)) = true) (r : Fin 512) (o : Fin 512) (p : Fin 49664) (e : Fin 32) (j : Fin 2048)
    (hp : p.val = 512 * (crd m hr t 1).val + r.val) (he : e.val = (T0 m (ix1 (crd m hr t 1))).toNat) (hj : j.val = (crd m hr t 0).val * 512 + o.val) :
    half (n := 512) (blk0 m ρ hr c t) (k0_pay1 (blk1 m ρ hr c t)) (blk3 m ρ hr c t) r o
      = Moe.lin (m ((c : Thread nD τ).loc main_arg1)) (m ((c : Thread nD τ).loc main_arg2)) (m ((c : Thread nD τ).loc main_arg4)) p e j := by
  unfold half Moe.lin
  congr 1
  · refine Fin.sum_fin_congr fun k => ?_
    congr 1
    · exact blk0_at m ρ hr c t h r _ _ p hp
    · exact (pay1_apply _ k _).trans (blk1_at m ρ hr c t k o e j he hj)
  · exact blk3_at m ρ hr c t o e j he hj
/-- so is its linear product. -/
theorem linear_at (c : Dev nD) (t : Fin (cfgA m hr).N) (h : (BitVec.ofNat 32 (crd m hr t 1).val).slt (T1 m (ix1 0)) = true) (r : Fin 512) (o : Fin 512) (p : Fin 49664) (e : Fin 32) (j : Fin 2048)
    (hp : p.val = 512 * (crd m hr t 1).val + r.val) (he : e.val = (T0 m (ix1 (crd m hr t 1))).toNat) (hj : j.val = (2 + (crd m hr t 0).val) * 512 + o.val) :
    half (n := 512) (blk0 m ρ hr c t) (k0_pay2 (blk2 m ρ hr c t)) (blk4 m ρ hr c t) r o
      = Moe.lin (m ((c : Thread nD τ).loc main_arg1)) (m ((c : Thread nD τ).loc main_arg3)) (m ((c : Thread nD τ).loc main_arg5)) p e j := by
  unfold half Moe.lin
  congr 1
  · refine Fin.sum_fin_congr fun k => ?_
    congr 1
    · exact blk0_at m ρ hr c t h r _ _ p hp
    · exact (pay2_apply _ k _).trans (blk2_at m ρ hr c t k o e j he hj)
  · exact blk4_at m ρ hr c t o e j he hj

/-- What grid point `t` leaves at a place of the result's block is `Moe.up` at that place of the array. -/
theorem after_up (c : Dev nD) (t : Fin (cfgA m hr).N) (r : Fin 512) (s : Fin 512) (p : Fin 49152) (o : Fin 1024)
    (hp : p.val = 512 * (crd m hr t 1).val + r.val) (ho : o.val = (crd m hr t 0).val * 512 + s.val) :
    View.canon (Val := Elt Ideal) (stored m ρ hr c t) (ix2 r s)
      = Moe.upAt (T0 m) (T1 m) (T2 m) (m ((c : Thread nD τ).loc main_arg1)) (m ((c : Thread nD τ).loc main_arg2)) (m ((c : Thread nD τ).loc main_arg3))
          (m ((c : Thread nD τ).loc main_arg4)) (m ((c : Thread nD τ).loc main_arg5)) p o := by
  have hi : (crd m hr t 1).val < 96 := (crd m hr t 1).isLt
  have hrr := r.isLt
  have ht : Moe.tile p = crd m hr t 1 := Fin.ext (by show p.val / 512 = (crd m hr t 1).val; omega)
  have hm : p.val % 512 = r.val := by omega
  have hw2 : (word2 (crd m hr t) (T2 m)).toNat ≤ 512 := by rw [word2_eq]; exact hr.2 _
  unfold stored
  rw [canon_outL _ _ _ hw2]
  have hn : (rowsOf (crd m hr t) (word1 (T1 m)) (word2 (crd m hr t) (T2 m))).toNat = Moe.rowsAt (T1 m (ix1 0)) (T2 m (ix1 (crd m hr t 1))) (crd m hr t 1).val := by
    rw [word1_eq, word2_eq]
    exact Moe.rowsAt_eq _ _ _
  rw [hn]
  have hwr : Moe.written (T1 m) (T2 m) p ↔ Moe.reach (Moe.rowsAt (T1 m (ix1 0)) (T2 m (ix1 (crd m hr t 1))) (crd m hr t 1).val) r.val := by
    unfold Moe.written
    rw [ht, hm]
  unfold block Moe.upAt
  rw [ht]
  have he : (Moe.expert (T0 m) (crd m hr t 1)).val = (T0 m (ix1 (crd m hr t 1))).toNat := by
    have h32 : (T0 m (ix1 (crd m hr t 1))).toNat ≤ 31 := Nat.le_of_lt_succ (hr.1 _)
    exact Nat.min_eq_left h32
  have hu : (Moe.ucol o).val = (2 + (crd m hr t 0).val) * 512 + s.val := by
    show 1024 + o.val = (2 + (crd m hr t 0).val) * 512 + s.val
    omega
  by_cases h : Moe.reach (Moe.rowsAt (T1 m (ix1 0)) (T2 m (ix1 (crd m hr t 1))) (crd m hr t 1).val) r.val
  · rw [if_pos h, if_pos (hwr.2 h)]
    exact congrArg₂ Moe.swiglu (gate_at m ρ hr c t (Moe.slt_of_reach h) r s (Moe.row p) _ (Moe.gcol o) hp he ho)
      (linear_at m ρ hr c t (Moe.slt_of_reach h) r s (Moe.row p) _ (Moe.ucol o) hp he hu)
  · rw [if_neg h, if_neg fun k => h (hwr.1 k)]

/-- The result's blocks cover its array. -/
theorem covers5 : ((cfgA m hr).win (5 : Fin 6)).Covers := by
  refine Pipeline.Window.covers_of_index_surj _ rfl (fun a => ?_) fun β => ?_
  · match a with
    | ⟨0, _⟩ => exact (by decide : 0 < 512)
    | ⟨1, _⟩ => exact (by decide : 0 < 512)
  have b0 : (β (0 : Fin 2)).val < 96 := lt_of_lt_of_eq (β (0 : Fin 2)).isLt (show (49152 + 512 - 1) / 512 = 96 from by decide)
  have b1 : (β (1 : Fin 2)).val < 2 := lt_of_lt_of_eq (β (1 : Fin 2)).isLt (show (1024 + 512 - 1) / 512 = 2 from by decide)
  obtain ⟨t, ht⟩ := grid0.coords_surjective (fun | ⟨0, _⟩ => (⟨(β (1 : Fin 2)).val, b1⟩ : Fin 2) | ⟨1, _⟩ => (⟨(β (0 : Fin 2)).val, b0⟩ : Fin 96))
  refine ⟨t, fun a => ?_⟩
  rw [index5]
  have h0 : (grid0.coords t 0).val = (β (1 : Fin 2)).val := by rw [ht]
  have h1 : (grid0.coords t 1).val = (β (0 : Fin 2)).val := by rw [ht]
  match a with
  | ⟨0, _⟩ => exact h1
  | ⟨1, _⟩ => exact h0

/-- The result array after the run is the gated up projection of the arguments. -/
theorem value (c : Dev nD) : (dats m ρ hr 0 c).arrAt (5 : Fin 6) (cfgA m hr).N
    = Moe.up (T0 m) (T1 m) (T2 m) (m ((c : Thread nD τ).loc main_arg1)) (m ((c : Thread nD τ).loc main_arg2)) (m ((c : Thread nD τ).loc main_arg3))
        (m ((c : Thread nD τ).loc main_arg4)) (m ((c : Thread nD τ).loc main_arg5)) := by
  refine (dats m ρ hr 0 c).arrAt_eq_of_covers (5 : Fin 6) _ (covers5 m hr) fun t hf y => ?_
  obtain ⟨r, s, rfl⟩ : ∃ (r : Fin 512) (s : Fin 512), y = ix2 r s := ⟨y 0, y 1, eq_ix2 y⟩
  have hi : (crd m hr t 1).val < 96 := (crd m hr t 1).isLt
  have hi0 : (crd m hr t 0).val < 2 := (crd m hr t 0).isLt
  have hrr := r.isLt
  have hs := s.isLt
  have e : ((((cfgA m hr).win (5 : Fin 6)).rect t).emb (ix2 r s) : S49152x1024.Idx)
      = ix2 ⟨512 * (crd m hr t 1).val + r.val, by omega⟩ ⟨(crd m hr t 0).val * 512 + s.val, by omega⟩ := by
    funext a
    apply Fin.ext
    refine (Pipeline.Window.rect_emb_val ((cfgA m hr).win (5 : Fin 6)) t (ix2 r s) a).trans ?_
    rw [index5]
    match a with
    | ⟨0, _⟩ => show (crd m hr t 1).val * 512 + r.val = 512 * (crd m hr t 1).val + r.val; omega
    | ⟨1, _⟩ => rfl
  show View.canon (Val := Elt Ideal) (stored m ρ hr c t) (ix2 r s) = Moe.up _ _ _ _ _ _ _ _ ((((cfgA m hr).win (5 : Fin 6)).rect t).emb (ix2 r s))
  rw [e]
  exact after_up m ρ hr c t r s _ _ rfl rfl

/-- With the tables that the host prepares: the gated up projection by the experts and rows that the counts give. -/
theorem value_counts (m : (ℓ : Loc nD τ sig) → Buf (Elt Ideal) ℓ) (ρ : Dev nD → PrngReg) (c : Dev nD) :
    (dats (entry m) ρ (ranges m) 0 c).arrAt (5 : Fin 6) (cfgA (entry m) (ranges m)).N
      = Moe.up (Moe.owner (F := Ideal) (m ((c.tc : Thread nD τ).loc main_arg0))) (Moe.used (F := Ideal) (m ((c.tc : Thread nD τ).loc main_arg0))) (Moe.rows (F := Ideal) (m ((c.tc : Thread nD τ).loc main_arg0)))
        (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have h0 : T0 (entry m) = Moe.experts (F := Ideal) (m ((c.tc : Thread nD τ).loc main_arg0)) := by rw [Subsingleton.elim c (0 : Dev nD)]; exact entry_experts m 0
  have h1 : T1 (entry m) = Moe.used (F := Ideal) (m ((c.tc : Thread nD τ).loc main_arg0)) := by rw [Subsingleton.elim c (0 : Dev nD)]; exact entry_used m 0
  have h2 : T2 (entry m) = Moe.rows (F := Ideal) (m ((c.tc : Thread nD τ).loc main_arg0)) := by rw [Subsingleton.elim c (0 : Dev nD)]; exact entry_rows m 0
  refine (value (entry m) ρ (ranges m) c).trans ?_
  rw [h0, h1, h2, entry_arg1 m c, entry_arg2 m c, entry_arg3 m c, entry_arg4 m c, entry_arg5 m c]
  exact Moe.up_experts (F := Ideal) _ _ _ _ _ _

end Cert.Kernel4Ideal.Up
end
-- ==== Proof.MoeUpRef.lean ====
/-
  The gated up projection of the experts at the ideal instance: the reference's result is `Moe.up` of the arguments.
-/
module

public import proofs.«01_k».proof.Proof.MoeDownValue
public import proofs.«01_k».proof.Proof.Gen.Reference4Ideal.Run

@[expose] public section

set_option maxRecDepth 16384

noncomputable section

namespace Cert.Reference4Ideal.Val

open Cert.Reference4Ideal Cert.Reference4Ideal.Gen Idealize.ShloMosaic Idealize.ShloMosaic.TcCoe Idealize.SL.Sem
open Cert.Reference5Ideal.Val (mask mask_iff at96 at96_apply toInt_small)

/-- One half's product: the rows against the experts' slices, plus their biases, read at one place. -/
theorem half_at (x : FVec Ideal S49664x32x128 .bf16) (w : FVec Ideal S96x4096x1024 .f32) (b : FVec Ideal S96x1x1024 .f32)
    (p : Fin 49152) (o : Fin 1024) :
    addf (Host.dotGeneral dot_S96x512x4096_S96x4096x1024_S96x512x1024_2_1_1_2_0_0 none
        (shapeCast S96x512x4096 (extractStridedSlice S49152x32x128 ![0, 0, 0] x slices_S49664x32x128_S49152x32x128_0_0_0) shapeCasts_S49152x32x128_S96x512x4096)
        (truncf .bf16 w bitsLt_bf16_f32))
      (broadcastInDim S96x512x1024 ![0, 1, 2] bcast_S96x1x1024_S96x512x1024_0_1_2 b) (ix3 (Moe.tile p) ⟨p.val % 512, Nat.mod_lt _ (by decide)⟩ o)
      = (∑ k : Fin 4096, x (ix3 (Moe.row p) (Moe.grp k) (Moe.ofs k)) * w (ix3 (Moe.tile p) k o)) + b (ix3 (Moe.tile p) 0 o) := by
  unfold Moe.tile Moe.row Moe.grp Moe.ofs
  pointwise

/-- The reference's operations from the two halves and the rows' bits on. -/
abbrev resTerm (M : IVec S96x512 1) (g u : FVec Ideal S96x512x1024 .f32) : FVec Ideal S49152x1024 .bf16 :=
    truncf .bf16 (shapeCast S49152x1024 (select (broadcastInDim S96x512x1024 ![0, 1, 2] bcast_S96x512x1_S96x512x1024_0_1_2 (broadcastInDim S96x512x1 ![0, 1] bcast_S96x512_S96x512x1_0_1 M))
      (mulf (mulf (addf (minimumf (maximumf u (broadcastInDim S96x512x1024 ![] bcast_S_S96x512x1024 (constant S_ .f32 0xC0E00000#32))) (broadcastInDim S96x512x1024 ![] bcast_S_S96x512x1024 (constant S_ .f32 0x40E00000#32)))
            (broadcastInDim S96x512x1024 ![] bcast_S_S96x512x1024 (constant S_ .f32 0x3F800000#32)))
          (minimumf g (broadcastInDim S96x512x1024 ![] bcast_S_S96x512x1024 (constant S_ .f32 0x40E00000#32))))
        (Host.divf (broadcastInDim S96x512x1024 ![] bcast_S_S96x512x1024 (constant S_ .f32 0x3F800000#32))
          (addf (broadcastInDim S96x512x1024 ![] bcast_S_S96x512x1024 (constant S_ .f32 0x3F800000#32))
            (Host.exp (Host.negf (mulf (broadcastInDim S96x512x1024 ![] bcast_S_S96x512x1024 (constant S_ .f32 0x3FD9DB23#32))
              (minimumf g (broadcastInDim S96x512x1024 ![] bcast_S_S96x512x1024 (constant S_ .f32 0x40E00000#32)))))))))
      (broadcastInDim S96x512x1024 ![] bcast_S_S96x512x1024 (constant (F := Ideal) S_ .f32 0x00000000#32))) shapeCasts_S96x512x1024_S49152x1024) bitsLt_bf16_f32

/-- They are read at one place. -/
theorem result_at (M : IVec S96x512 1) (g u : FVec Ideal S96x512x1024 .f32) (p : Fin 49152) (o : Fin 1024) :
    resTerm M g u (ix2 p o)
      = if M (ix2 (Moe.tile p) ⟨p.val % 512, Nat.mod_lt _ (by decide)⟩) = 1#1 then
          Moe.swiglu (g (ix3 (Moe.tile p) ⟨p.val % 512, Nat.mod_lt _ (by decide)⟩ o)) (u (ix3 (Moe.tile p) ⟨p.val % 512, Nat.mod_lt _ (by decide)⟩ o))
        else 0 := by
  unfold Moe.tile Moe.swiglu
  pointwise
  rw [min_comm (max _ _), max_comm (u _)]
  rfl

/-- The experts' weights, tile by tile; -/
theorem weights_apply (w : FVec Ideal S32x4096x2048 .f32) (te : IVec S96 32) (h : ∀ i, (te i).toNat < 32) (i : Fin 96) (k : Fin 4096) (o : Fin 2048) :
    Host.gather gather_S32x4096x2048_S96x1_S96x4096x2048_12_0_n_n_0_1_140962048 w (at96 te) (ix3 i k o) = w (ix3 (Moe.expert te i) k o) := by
  refine (Moe.slice_apply (by decide) _ w (at96 te) i k o).trans ?_
  have e : (⟨min (at96 te (ix2 i 0)).toInt.toNat (32 - 1), by omega⟩ : Fin 32) = Moe.expert te i := Fin.ext (by
    show min (at96 te (ix2 i 0)).toInt.toNat (32 - 1) = min (te (ix1 i)).toNat 31
    rw [at96_apply te h, toInt_small _ (h _)])
  rw [e]
/-- and their biases. -/
theorem biases_apply (b : FVec Ideal S32x1x2048 .f32) (te : IVec S96 32) (h : ∀ i, (te i).toNat < 32) (i : Fin 96) (o : Fin 2048) :
    Host.gather gather_S32x1x2048_S96x1_S96x1x2048_12_0_n_n_0_1_112048 b (at96 te) (ix3 i 0 o) = b (ix3 (Moe.expert te i) 0 o) := by
  refine (Moe.slice_apply (by decide) _ b (at96 te) i 0 o).trans ?_
  have e : (⟨min (at96 te (ix2 i 0)).toInt.toNat (32 - 1), by omega⟩ : Fin 32) = Moe.expert te i := Fin.ext (by
    show min (at96 te (ix2 i 0)).toInt.toNat (32 - 1) = min (te (ix1 i)).toNat 31
    rw [at96_apply te h, toInt_small _ (h _)])
  rw [e]

/-- The gate half's columns of a stack are its first, -/
theorem gate_cols {A : ℕ} (v : FVec Ideal ⟨3, ![96, A, 2048]⟩ .f32) (hs) (i : Fin 96) (k : Fin A) (o : Fin 1024) :
    extractStridedSlice ⟨3, ![96, A, 1024]⟩ ![0, 0, 0] v hs (ix3 i k o) = v (ix3 i k (Moe.gcol o)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (Nat.zero_add _)
/-- the linear half's its last. -/
theorem linear_cols {A : ℕ} (v : FVec Ideal ⟨3, ![96, A, 2048]⟩ .f32) (hs) (i : Fin 96) (k : Fin A) (o : Fin 1024) :
    extractStridedSlice ⟨3, ![96, A, 1024]⟩ ![0, 0, 1024] v hs (ix3 i k o) = v (ix3 i k (Moe.ucol o)) := by
  unfold extractStridedSlice
  congr 1
  funext a
  match a with
  | ⟨0, _⟩ => exact Fin.ext (Nat.zero_add _)
  | ⟨1, _⟩ => exact Fin.ext (Nat.zero_add _)
  | ⟨2, _⟩ => exact Fin.ext (rfl)

/-- The gate half's product as the reference's term; -/
abbrev gTerm (te : IVec S96 32) (x : FVec Ideal S49664x32x128 .bf16) (w : FVec Ideal S32x4096x2048 .f32) (b : FVec Ideal S32x1x2048 .f32) : FVec Ideal S96x512x1024 .f32 :=
  addf (Host.dotGeneral dot_S96x512x4096_S96x4096x1024_S96x512x1024_2_1_1_2_0_0 none
      (shapeCast S96x512x4096 (extractStridedSlice S49152x32x128 ![0, 0, 0] x slices_S49664x32x128_S49152x32x128_0_0_0) shapeCasts_S49152x32x128_S96x512x4096)
      (truncf .bf16 (extractStridedSlice S96x4096x1024 ![0, 0, 0] (Host.gather gather_S32x4096x2048_S96x1_S96x4096x2048_12_0_n_n_0_1_140962048 w (at96 te)) slices_S96x4096x2048_S96x4096x1024_0_0_0) bitsLt_bf16_f32))
    (broadcastInDim S96x512x1024 ![0, 1, 2] bcast_S96x1x1024_S96x512x1024_0_1_2
      (extractStridedSlice S96x1x1024 ![0, 0, 0] (Host.gather gather_S32x1x2048_S96x1_S96x1x2048_12_0_n_n_0_1_112048 b (at96 te)) slices_S96x1x2048_S96x1x1024_0_0_0))
/-- the linear half's. -/
abbrev uTerm (te : IVec S96 32) (x : FVec Ideal S49664x32x128 .bf16) (w : FVec Ideal S32x4096x2048 .f32) (b : FVec Ideal S32x1x2048 .f32) : FVec Ideal S96x512x1024 .f32 :=
  addf (Host.dotGeneral dot_S96x512x4096_S96x4096x1024_S96x512x1024_2_1_1_2_0_0 none
      (shapeCast S96x512x4096 (extractStridedSlice S49152x32x128 ![0, 0, 0] x slices_S49664x32x128_S49152x32x128_0_0_0) shapeCasts_S49152x32x128_S96x512x4096)
      (truncf .bf16 (extractStridedSlice S96x4096x1024 ![0, 0, 1024] (Host.gather gather_S32x4096x2048_S96x1_S96x4096x2048_12_0_n_n_0_1_140962048 w (at96 te)) slices_S96x4096x2048_S96x4096x1024_0_0_1024) bitsLt_bf16_f32))
    (broadcastInDim S96x512x1024 ![0, 1, 2] bcast_S96x1x1024_S96x512x1024_0_1_2
      (extractStridedSlice S96x1x1024 ![0, 0, 1024] (Host.gather gather_S32x1x2048_S96x1_S96x1x2048_12_0_n_n_0_1_112048 b (at96 te)) slices_S96x1x2048_S96x1x1024_0_0_1024))

/-- The reference's gate half is the row's product with its expert's gate column; -/
theorem gTerm_at (te : IVec S96 32) (x : FVec Ideal S49664x32x128 .bf16) (w : FVec Ideal S32x4096x2048 .f32) (b : FVec Ideal S32x1x2048 .f32) (he : ∀ i, (te i).toNat < 32)
    (p : Fin 49152) (o : Fin 1024) : gTerm te x w b (ix3 (Moe.tile p) ⟨p.val % 512, Nat.mod_lt _ (by decide)⟩ o) = Moe.lin x w b (Moe.row p) (Moe.expert te (Moe.tile p)) (Moe.gcol o) := by
  refine (half_at x _ _ p o).trans ?_
  unfold Moe.lin
  congr 1
  · refine Fin.sum_fin_congr fun k => ?_
    congr 1
    exact (gate_cols (A := 4096) _ _ (Moe.tile p) k o).trans (weights_apply w te he _ _ _)
  · exact (gate_cols (A := 1) _ _ (Moe.tile p) 0 o).trans (biases_apply b te he _ _)
/-- its linear half the one with the linear column. -/
theorem uTerm_at (te : IVec S96 32) (x : FVec Ideal S49664x32x128 .bf16) (w : FVec Ideal S32x4096x2048 .f32) (b : FVec Ideal S32x1x2048 .f32) (he : ∀ i, (te i).toNat < 32)
    (p : Fin 49152) (o : Fin 1024) : uTerm te x w b (ix3 (Moe.tile p) ⟨p.val % 512, Nat.mod_lt _ (by decide)⟩ o) = Moe.lin x w b (Moe.row p) (Moe.expert te (Moe.tile p)) (Moe.ucol o) := by
  refine (half_at x _ _ p o).trans ?_
  unfold Moe.lin
  congr 1
  · refine Fin.sum_fin_congr fun k => ?_
    congr 1
    exact (linear_cols (A := 4096) _ _ (Moe.tile p) k o).trans (weights_apply w te he _ _ _)
  · exact (linear_cols (A := 1) _ _ (Moe.tile p) 0 o).trans (biases_apply b te he _ _)

/-- With experts and rows in range, the reference's result as a term of its arguments is the gated up projection. -/
theorem result (te : IVec S96 32) (n : IVec S1 32) (tr : IVec S96 32) (x : FVec Ideal S49664x32x128 .bf16) (wg wu : FVec Ideal S32x4096x2048 .f32) (bg bu : FVec Ideal S32x1x2048 .f32)
    (he : ∀ i, (te i).toNat < 32) (hr : ∀ i, (tr i).toNat ≤ 512) :
    resTerm (mask n tr) (gTerm te x wg bg) (uTerm te x wu bu) = Moe.up te n tr x wg wu bg bu := by
  funext y
  obtain ⟨p, o, rfl⟩ : ∃ (p : Fin 49152) (o : Fin 1024), y = ix2 p o := ⟨y 0, y 1, eq_ix2 y⟩
  refine (result_at (mask n tr) (gTerm te x wg bg) (uTerm te x wu bu) p o).trans ?_
  show _ = Moe.upAt _ _ _ _ _ _ _ _ p o
  unfold Moe.upAt
  by_cases h : Moe.written n tr p
  · exact (if_pos ((mask_iff _ _ p hr).2 h)).trans ((congrArg₂ Moe.swiglu (gTerm_at _ _ _ _ he p o) (uTerm_at _ _ _ _ he p o)).trans (if_pos h).symm)
  · exact (if_neg fun k => h ((mask_iff _ _ p hr).1 k)).trans (if_neg h).symm

set_option maxHeartbeats 4000000 in
/-- So it leaves the projection by the experts and rows that the counts give, its arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v131) = Moe.up (Moe.owner (F := Ideal) (m ((c.tc : Thread nD τ).loc main_arg0))) (Moe.used (F := Ideal) (m ((c.tc : Thread nD τ).loc main_arg0))) (Moe.rows (F := Ideal) (m ((c.tc : Thread nD τ).loc main_arg0)))
        (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result (Moe.owner (F := Ideal) (m ((c.tc : Thread nD τ).loc main_arg0))) (Moe.used (F := Ideal) (m ((c.tc : Thread nD τ).loc main_arg0))) (Moe.rows (F := Ideal) (m ((c.tc : Thread nD τ).loc main_arg0)))
    (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (Moe.owner_lt _) (Moe.rows_le _)), (h c).2⟩) (Cert.Reference4Ideal.Value.run m ρ)

end Cert.Reference4Ideal.Val
end
-- ==== Proof.OutProj.lean ====
/-
  The output projection of the two attentions with the scaled residual: the value of the kernel's result and of the reference's, both `OutProj.proj`.
-/
module

public import proofs.«01_k».proof.Proof.InProj
public import proofs.«01_k».proof.Proof.Gen.Kernel6Ideal.Value
public import proofs.«01_k».proof.Proof.Gen.Reference6Ideal.Run

@[expose] public section

set_option maxRecDepth 16384

noncomputable section

namespace OutProj

open Idealize.ShloMosaic

/-- The residual's factor, as a 32-bit float names it. -/
abbrev alpha : EReal := Ideal.ofBits .f32 0x3F9837F0#32

/-- One block of the result: the rows of each attention against the columns of its half of the weights, plus the scaled residual. -/
def cols (a b : (⟨2, ![2048, 2048]⟩ : Shape).Idx → EReal) (w v r : (⟨2, ![2048, 256]⟩ : Shape).Idx → EReal) :
    (⟨2, ![2048, 256]⟩ : Shape).Idx → EReal := fun y =>
  (∑ k : Fin 2048, a (ix2 (y 0) k) * w (ix2 k (y 1))) + (∑ k : Fin 2048, b (ix2 (y 0) k) * v (ix2 k (y 1))) + alpha * r y

/-- The output projection: row `r` of the two attentions' results, one behind the other, against column `j` of the weights, plus the scaled residual. -/
def proj (a b : (⟨2, ![8192, 2048]⟩ : Shape).Idx → EReal) (w : (⟨3, ![1, 4096, 4096]⟩ : Shape).Idx → EReal) (h : (⟨2, ![8192, 4096]⟩ : Shape).Idx → EReal) :
    (⟨2, ![8192, 4096]⟩ : Shape).Idx → EReal := fun y =>
  (∑ k : Fin 2048, a (ix2 (y 0) k) * w (ix3 0 ⟨k.val, by omega⟩ (y 1))) + (∑ k : Fin 2048, b (ix2 (y 0) k) * w (ix3 0 ⟨2048 + k.val, by omega⟩ (y 1)))
    + alpha * h y

end OutProj

namespace Cert.Kernel6Ideal.Val

open Cert.Kernel6Ideal Cert.Kernel6Ideal.Gen Idealize.ShloMosaic Idealize.ShloMosaic.TcCoe Idealize.SL.Sem
open Idealize.ShloMosaic.Pipeline (Dat)
open InProj (emb_unit_val)
open OutProj (cols proj)

/-- Each of the two trips of the body reads and writes the 1024 rows from `1024 * k` on. -/
theorem trip_off (k : Fin k0_t1_loop.trips) : k0_off1 k = ![1024 * k.val, 0] ∧ k0_off2 k = ![1024 * k.val, 0] := by
  revert k; decide +kernel

/-- Whatever the trips so far have written are blocks of `cols a b w v r`, where `a`, `b` and `r` are the windows of the attentions and of
    the residual, and the scratches hold the windows of weights `w` and `v`, rounded to bf16. -/
theorem pieces (𝒱 : Variants) (c : Dev nD) (bd : Option 𝒱.V) (i : grid0.Coords)
    (arg2 : Memref sig .tc .vmem S2048x2048 .bf16) (harg2 : arg2.IsWhole) (arg3 : Memref sig .tc .vmem S2048x2048 .bf16) (harg3 : arg3.IsWhole)
    (arg4 : Memref sig .tc .vmem S2048x256 .f32) (harg4 : arg4.IsWhole) (arg5 : Memref sig .tc .vmem S2048x256 .f32) (harg5 : arg5.IsWhole)
    (arg6 : Memref sig .tc .vmem S2048x256 .f32) (harg6 : arg6.IsWhole) (arg7 : Memref sig .tc .vmem S2048x256 .f32) (harg7 : arg7.IsWhole)
    (arg8 : Memref sig .tc .vmem S2048x256 .bf16) (harg8 : arg8.IsWhole) (arg9 : Memref sig .tc .vmem S2048x256 .bf16) (harg9 : arg9.IsWhole)
    (a b : Vec Ideal S2048x2048 .bf16) (w v r : Vec Ideal S2048x256 .f32) (X : BufTy.Contents (Elt Ideal) arg8.view.ty) (Y : BufTy.Contents (Elt Ideal) arg9.view.ty)
    (hX : arg8.view.read (Elt Ideal) X = k0_pay1 w) (hY : arg9.view.read (Elt Ideal) Y = k0_pay2 v) : ∀ n ≤ k0_t1_loop.trips,
    ∀ p ∈ pb_k0_t1 (F := Ideal) 𝒱 c bd i arg2 harg2 arg3 harg3 arg4 harg4 arg5 harg5 arg6 harg6 arg7 harg7 arg8 harg8 arg9 harg9
        (harg2.unread a) (harg3.unread b) (harg6.unread r) X Y n,
      ∀ x, p.2 x = cols a b w v r (p.1.emb x) := by
  intro n
  induction n with
  | zero => intro _ p hp; simp [pb_k0_t1] at hp
  | succ n ih =>
    intro hn p hp
    rw [pb_k0_t1_succ 𝒱 c bd i arg2 harg2 arg3 harg3 arg4 harg4 arg5 harg5 arg6 harg6 arg7 harg7 arg8 harg8 arg9 harg9 _ _ _ X Y ⟨n, hn⟩] at hp
    rcases List.mem_append.mp hp with hp | hp
    · unfold tripL_k0_t1 trip_k0_t1 at hp
      obtain rfl := List.mem_singleton.mp hp
      intro x
      have ho := trip_off ⟨n, hn⟩
      simp only [View.readAt_eq_ld, Memref.IsWhole.read_unread, hX, hY]
      idx_vars x
      unfold cols OutProj.alpha
      pointwise [k0_pay3, k0_pay2, k0_pay1]
      refine congrArg₂ (· + ·) (congrArg₂ (· + ·) (Finset.sum_congr rfl fun k _ => ?_) (Finset.sum_congr rfl fun k _ => ?_)) ?_
      · congr 3 <;> apply Fin.ext <;> first | (refine Eq.trans ?_ (emb_unit_val ..).symm; simp [ho.1, ho.2]) | simp [ho.1]
      · congr 3 <;> apply Fin.ext <;> first | (refine Eq.trans ?_ (emb_unit_val ..).symm; simp [ho.1, ho.2]) | simp [ho.1]
      · congr 2
        refine Eq.trans ?_ (eq_ix2 _).symm
        congr 1 <;> apply Fin.ext <;> (refine Eq.trans ?_ (emb_unit_val ..).symm; rfl)
    · exact ih (by omega) p hp

variable (m : (ℓ : Loc nD τ sig) → Buf (Elt Ideal) ℓ) (ρ : Dev nD → PrngReg)

/-- What grid point `t` leaves in the result's block. -/
theorem block (c : Dev nD) (t : Fin cfg0.N) (y : S2048x256.Idx) :
    outsAt0 m c t y = cols (iblk m c 0 t) (iblk m c 1 t) (iblk m c 2 t) (iblk m c 3 t) (iblk m c 4 t) y := by
  unfold outsAt0
  frame_open
  frame_out
  rw [← List.append_nil (pb_k0_t1 ..)]
  refine View.canon_append_of_pieces (Val := Elt Ideal) (e := .f32) (S := S2048x256) (cols (iblk m c 0 t) (iblk m c 1 t) (iblk m c 2 t) (iblk m c 3 t) (iblk m c 4 t)) [] _
    (pieces _ _ _ _ _ _ _ _ _ _ _ _ _ _ _ _ _ _ _ _ _ _ _ _ _ _ _ ?_ ?_ _ le_rfl) y ?_
  · exact (View.read_writes_junk_eq_canon ..).trans (View.canon_unit_zero (by decide) ..)
  · exact (View.read_writes_junk_eq_canon ..).trans (View.canon_unit_zero (by decide) ..)
  · exact View.cover_of_tiledL (s := S2048x256) _ S1024x256.size (by sl_kernel_rfl) y

/-- Where the windows of grid point `t` lie. -/
theorem idx (t : Fin cfg0.N) : win0_0.index t = ![(grid0.coords t 0).val, 0] ∧ win0_1.index t = ![(grid0.coords t 0).val, 0]
    ∧ win0_2.index t = ![0, (grid0.coords t 1).val] ∧ win0_3.index t = ![1, (grid0.coords t 1).val]
    ∧ win0_4.index t = ![(grid0.coords t 0).val, (grid0.coords t 1).val] ∧ win0_5.index t = ![(grid0.coords t 0).val, (grid0.coords t 1).val] :=
  (by decide +kernel : ∀ t : Fin grid0.N, win0_0.index t = ![(grid0.coords t 0).val, 0] ∧ win0_1.index t = ![(grid0.coords t 0).val, 0]
    ∧ win0_2.index t = ![0, (grid0.coords t 1).val] ∧ win0_3.index t = ![1, (grid0.coords t 1).val]
    ∧ win0_4.index t = ![(grid0.coords t 0).val, (grid0.coords t 1).val] ∧ win0_5.index t = ![(grid0.coords t 0).val, (grid0.coords t 1).val]) t

/-- The weights as the call finds them, without their axis of one: as the first half's window reads them, -/
theorem entry_w (c : Dev nD) (y : S4096x4096.Idx) : V m c main_v0 y = m ((c : Thread nD τ).loc main_arg2) (ix3 0 (y 0) (y 1)) := by
  idx_vars y
  entry_read
  pointwise

/-- and as the second half's. -/
theorem entry_v (c : Dev nD) (y : S4096x4096.Idx) : V m c main_v1 y = m ((c : Thread nD τ).loc main_arg2) (ix3 0 (y 0) (y 1)) := by
  idx_vars y
  entry_read
  pointwise

/-- The result array after the run is the output projection. -/
theorem value (c : Dev nD) : (dats m 0 c).arrAt 5 cfg0.N
    = proj (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  obtain ⟨i0, i1, i2, i3, i4, i5⟩ := idx t
  blk_simp
  rw [after0_5, block]
  unfold cols proj
  refine congrArg₂ (· + ·) (congrArg₂ (· + ·) (Fin.sum_fin_congr fun k => ?_) (Fin.sum_fin_congr fun k => ?_)) (congrArg (OutProj.alpha * ·) ?_)
  · congr 1
    · blk_simp [iblk, i0, i5]
      rw [V_main_arg0]
      blk_ext [i0, i5]
    · blk_simp [iblk, i2, i5]
      rw [entry_w]
      blk_ext [i2, i5]
  · congr 1
    · blk_simp [iblk, i1, i5]
      rw [V_main_arg1]
      blk_ext [i1, i5]
    · blk_simp [iblk, i3, i5]
      rw [entry_v]
      blk_ext [i3, i5]
  · blk_simp [iblk, i4, i5]
    rw [V_main_arg3]
    refine congrArg _ ?_
    blk_ext [i4, i5]

end Cert.Kernel6Ideal.Val

namespace Cert.Reference6Ideal.Val

open Cert.Reference6Ideal Cert.Reference6Ideal.Gen Idealize.ShloMosaic Idealize.ShloMosaic.TcCoe Idealize.SL.Sem
open OutProj (proj)

/-- The reference's operations, read at one index: the whole product and the scaled residual. -/
theorem result (a b : FVec Ideal S8192x2048 .bf16) (w : FVec Ideal S1x4096x4096 .f32) (h : FVec Ideal S8192x4096 .f32) :
    addf (mulf (broadcastInDim S8192x4096 ![] bcast_S_S8192x4096 (constant S_ .f32 0x3F9837F0#32)) h)
      (Host.dotGeneral (F := Ideal) dot_S8192x4096_S4096x4096_S8192x4096_1_0_0_1_n_n none (concatenate S8192x4096 1 [⟨S8192x2048, a⟩, ⟨S8192x2048, b⟩] concatenates_S8192x2048_S8192x2048_S8192x4096_d1)
        (shapeCast S4096x4096 w shapeCasts_S1x4096x4096_S4096x4096)) = proj a b w h := by
  funext y
  idx_vars y
  unfold proj
  rw [add_comm]
  pointwise

/-- The reference's result is the output projection too. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = proj (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (result _ _ _ _), (h c).2⟩) (Cert.Reference6Ideal.Value.run m ρ)

end Cert.Reference6Ideal.Val
end
-- ==== Proof.LayerNorm.lean ====
/-
  The first layer norm: the values of the kernel's two results and of the reference's, all of them `LayerNorm.layerNorm`.
-/
module

public import proofs.«01_k».proof.Proof.InProj
public import proofs.«01_k».proof.Proof.Gen.Kernel7Ideal.Value
public import proofs.«01_k».proof.Proof.Gen.Reference7Ideal.Run

@[expose] public section

set_option maxRecDepth 16384

noncomputable section

namespace LayerNorm

open Idealize.ShloMosaic

/-- The mean of a row of 4096. -/
def mean (x : Fin 4096 → EReal) : EReal := Ideal.div (∑ k : Fin 4096, x k) (Ideal.ofBits .f32 0x45800000#32)

/-- Entry `j` of a row, less the mean, over the root of the variance, times the gain, plus the bias. -/
def row (x g b : Fin 4096 → EReal) (j : Fin 4096) : EReal :=
  (x j - mean x) * Ideal.rsqrt (mean (fun k => (x k - mean x) * (x k - mean x)) + Ideal.ofBits .f32 0x3727C5AC#32) * g j + b j

/-- The layer norm of every position, batch and position merged into one row number. -/
def layerNorm (x : (⟨3, ![4, 2048, 4096]⟩ : Shape).Idx → EReal) (g b : (⟨1, ![4096]⟩ : Shape).Idx → EReal) : (⟨2, ![8192, 4096]⟩ : Shape).Idx → EReal := fun y =>
  row (fun k => x (ix3 ⟨(y 0).val / 2048, Nat.div_lt_of_lt_mul (y 0).isLt⟩ ⟨(y 0).val % 2048, Nat.mod_lt _ (by decide)⟩ k)) (fun k => g (ix1 k)) (fun k => b (ix1 k)) (y 1)

end LayerNorm

namespace Cert.Kernel7Ideal.Val

open Cert.Kernel7Ideal Cert.Kernel7Ideal.Gen Idealize.ShloMosaic Idealize.ShloMosaic.TcCoe Idealize.SL.Sem
open Idealize.ShloMosaic.Pipeline (Dat)
open LayerNorm (layerNorm row)

/-- What the body computes at a place of a block of rows. -/
theorem pay (x : Vec Ideal S256x4096 .f32) (g b : Vec Ideal S1x4096 .f32) (y : S256x4096.Idx) :
    k0_pay1 x g b y = row (fun k => x (ix2 (y 0) k)) (fun k => g (ix2 0 k)) (fun k => b (ix2 0 k)) (y 1) := by
  idx_vars y
  unfold row LayerNorm.mean
  pointwise [k0_pay1]

variable (m : (ℓ : Loc nD τ sig) → Buf (Elt Ideal) ℓ) (ρ : Dev nD → PrngReg)

/-- What the body leaves in the block of the first result, -/
theorem block3 (x : Vec Ideal S256x4096 .f32) (g b : Vec Ideal S1x4096 .f32) (y : S256x4096.Idx) :
    out0_3 x g b y = row (fun k => x (ix2 (y 0) k)) (fun k => g (ix2 0 k)) (fun k => b (ix2 0 k)) (y 1) := by
  unfold out0_3
  frame_out
  exact pay x g b y

/-- and in that of the second. -/
theorem block4 (x : Vec Ideal S256x4096 .f32) (g b : Vec Ideal S1x4096 .f32) (y : S256x4096.Idx) :
    out0_4 x g b y = row (fun k => x (ix2 (y 0) k)) (fun k => g (ix2 0 k)) (fun k => b (ix2 0 k)) (y 1) := by
  unfold out0_4
  frame_out
  exact pay x g b y

/-- Where the windows of grid point `t` lie. -/
theorem idx (t : Fin cfg0.N) : win0_0.index t = ![(grid0.coords t 0).val, 0] ∧ win0_1.index t = ![0, 0] ∧ win0_2.index t = ![0, 0]
    ∧ win0_3.index t = ![(grid0.coords t 0).val, 0] ∧ win0_4.index t = ![(grid0.coords t 0).val, 0] :=
  (by decide +kernel : ∀ t : Fin grid0.N, win0_0.index t = ![(grid0.coords t 0).val, 0] ∧ win0_1.index t = ![0, 0] ∧ win0_2.index t = ![0, 0]
    ∧ win0_3.index t = ![(grid0.coords t 0).val, 0] ∧ win0_4.index t = ![(grid0.coords t 0).val, 0]) t

/-- The activations as the call finds them: batch and position merged into one row number; -/
theorem entry_x (c : Dev nD) (y : S8192x4096.Idx) : V m c main_v0 y = m ((c : Thread nD τ).loc main_arg0)
    (ix3 ⟨(y 0).val / 2048, Nat.div_lt_of_lt_mul (y 0).isLt⟩ ⟨(y 0).val % 2048, Nat.mod_lt _ (by decide)⟩ (y 1)) := by
  idx_vars y
  entry_read
  pointwise

/-- the gains as a row, -/
theorem entry_g (c : Dev nD) (y : S1x4096.Idx) : V m c main_v1 y = m ((c : Thread nD τ).loc main_arg1) (ix1 (y 1)) := by
  idx_vars y
  entry_read
  pointwise

/-- and the biases. -/
theorem entry_b (c : Dev nD) (y : S1x4096.Idx) : V m c main_v2 y = m ((c : Thread nD τ).loc main_arg2) (ix1 (y 1)) := by
  idx_vars y
  entry_read
  pointwise

/-- The first result after the run is the layer norm; -/
theorem value3 (c : Dev nD) : (dats m 0 c).arrAt 3 cfg0.N
    = layerNorm (m ((c : Thread nD τ).loc main_arg0)) (m ((c : Thread nD τ).loc main_arg1)) (m ((c : Thread nD τ).loc main_arg2)) := by
  refine (dats m 0 c).arrAt_eq_of_covers 3 _ (by decide +kernel) fun t hf y => ?_
  obtain ⟨i0, i1, i2, i3, i4⟩ := idx t
  blk_simp
  rw [after0_3, block3]
  unfold layerNorm
  congr 1
  · funext k
    blk_simp [iblk, i0, i3]
    rw [entry_x]
    blk_ext [i0, i3]
  · funext k
    blk_simp [iblk, i1, i3]
    rw [entry_g]
    blk_ext [i1, i3]
  · funext k
    blk_simp [iblk, i2, i3]
    rw [entry_b]
    blk_ext [i2, i3]
  · refine Fin.ext ?_
    blk_simp [i3]

/-- so is the second. -/
theorem value4 (c : Dev nD) : (dats m 0 c).arrAt 4 cfg0.N
    = layerNorm (m ((c : Thread nD τ).loc main_arg0)) (m ((c : Thread nD τ).loc main_arg1)) (m ((c : Thread nD τ).loc main_arg2)) := by
  refine (dats m 0 c).arrAt_eq_of_covers 4 _ (by decide +kernel) fun t hf y => ?_
  obtain ⟨i0, i1, i2, i3, i4⟩ := idx t
  blk_simp
  rw [after0_4, block4]
  unfold layerNorm
  congr 1
  · funext k
    blk_simp [iblk, i0, i4]
    rw [entry_x]
    blk_ext [i0, i4]
  · funext k
    blk_simp [iblk, i1, i4]
    rw [entry_g]
    blk_ext [i1, i4]
  · funext k
    blk_simp [iblk, i2, i4]
    rw [entry_b]
    blk_ext [i2, i4]
  · refine Fin.ext ?_
    blk_simp [i4]

end Cert.Kernel7Ideal.Val

namespace Cert.Reference7Ideal.Val

open Cert.Reference7Ideal Cert.Reference7Ideal.Gen Idealize.ShloMosaic Idealize.ShloMosaic.TcCoe Idealize.SL.Sem
open LayerNorm (layerNorm)

/-- The means of the last axis, kept as an axis of one. -/
abbrev mean3 (x : FVec Ideal S4x2048x4096 .f32) : FVec Ideal S4x2048x1 .f32 :=
  Host.divf (broadcastInDim S4x2048x1 ![0, 1] bcast_S4x2048_S4x2048x1_0_1 (Host.reduceAdd x (constant S_ .f32 0x00000000#32) reducesTo_S4x2048x4096_S4x2048_d2 h_S_))
    (broadcastInDim S4x2048x1 ![] bcast_S_S4x2048x1 (constant S_ .f32 0x45800000#32))
/-- The entries less their mean. -/
abbrev centred (x : FVec Ideal S4x2048x4096 .f32) : FVec Ideal S4x2048x4096 .f32 :=
  subf x (broadcastInDim S4x2048x4096 ![0, 1, 2] bcast_S4x2048x1_S4x2048x4096_0_1_2 (mean3 x))

/-- The reference's operations, read at one index. -/
theorem result (x : FVec Ideal S4x2048x4096 .f32) (g b : FVec Ideal S4096 .f32) :
    shapeCast S8192x4096 (addf (mulf (mulf (centred x) (broadcastInDim S4x2048x4096 ![0, 1, 2] bcast_S4x2048x1_S4x2048x4096_0_1_2
        (Host.rsqrt (addf (mean3 (mulf (centred x) (centred x))) (broadcastInDim S4x2048x1 ![] bcast_S_S4x2048x1 (constant S_ .f32 0x3727C5AC#32))))))
        (broadcastInDim S4x2048x4096 ![0, 1, 2] bcast_S1x1x4096_S4x2048x4096_0_1_2 (broadcastInDim S1x1x4096 ![2] bcast_S4096_S1x1x4096_2 g)))
        (broadcastInDim S4x2048x4096 ![0, 1, 2] bcast_S1x1x4096_S4x2048x4096_0_1_2 (broadcastInDim S1x1x4096 ![2] bcast_S4096_S1x1x4096_2 b))) shapeCasts_S4x2048x4096_S8192x4096
      = layerNorm x g b := by
  funext y
  idx_vars y
  unfold layerNorm LayerNorm.row LayerNorm.mean
  pointwise

/-- The reference's results are the layer norm too. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v24) = layerNorm (m ((c.tc : Thread nD τ).loc main_arg0)) (m ((c.tc : Thread nD τ).loc main_arg1)) (m ((c.tc : Thread nD τ).loc main_arg2))
      ∧ r.2.mem ((c.tc : Thread nD τ).loc main_v25) = layerNorm (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (result _ _ _), (h c).2.1.trans (result _ _ _), (h c).2.2⟩) (Cert.Reference7Ideal.Value.run m ρ)

end Cert.Reference7Ideal.Val
end
-- ==== Proof.lean ====
/-
  The proof of everything that Defs.lean states. Each program's run is generated; the values of the kernels' results
  and of the references' are in the modules under Proof/, and this file puts them side by side.
-/
module

public import proofs.«01_k».proof.Proof.Gen.KernelIdeal.Value
public import proofs.«01_k».proof.Proof.Gen.Kernel2Ideal.Value
public import proofs.«01_k».proof.Proof.Gen.Kernel3Ideal.Value
public import proofs.«01_k».proof.Proof.Gen.ReferenceIdeal.Run
public import proofs.«01_k».proof.Proof.Gen.Reference2Ideal.Run
public import proofs.«01_k».proof.Proof.Gen.Reference3Ideal.Run
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.InProjFox
public import proofs.«01_k».proof.Proof.InProjForget
public import proofs.«01_k».proof.Proof.InProjSb
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Kernel5Ideal
public import proofs.«01_k».proof.Proof.Gen.Kernel5
public import proofs.«01_k».proof.Proof.Gen.Reference5Ideal
public import proofs.«01_k».proof.Proof.Gen.Reference5Ideal.Run
public import proofs.«01_k».proof.Proof.MoeDown
public import proofs.«01_k».proof.Proof.MoeDownValue
public import proofs.«01_k».proof.Proof.MoeUp
public import proofs.«01_k».proof.Proof.MoeUpValue
public import proofs.«01_k».proof.Proof.MoeUpRef
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.OutProj
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.LayerNorm
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference of the softmax heads' projection terminates, leaves its arguments as they were and every semaphore at zero. -/
theorem frame_ReferenceIdeal : quiescent_ReferenceIdeal := fun m ρ _ =>
  (θ_run Cert.ReferenceIdeal.defs _ _).mono (fun r h => ⟨fun c => (h c).2, sem_eq_zero_of_no_sems (by decide) r.2⟩) (Cert.ReferenceIdeal.Value.run m ρ)

/-- The softmax heads' projection: kernel and reference leave the same result. -/
theorem algebraic_KernelIdeal : algebraic_KernelIdeal_ReferenceIdeal := fun m ρ m' ρ' _ hagree =>
  ⟨fun c => InProj.proj _ _ _ (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    (θ_run Cert.KernelIdeal.defs _ _).mono (fun r h c => ⟨(h c).1.trans (Cert.KernelIdeal.Val.value m c), (h c).2⟩) (Cert.KernelIdeal.Value.run_blocks m ρ),
    (θ_run Cert.ReferenceIdeal.defs _ _).mono (fun r h c => ⟨(h c).1.trans (by rw [(hagree c).1, (hagree c).2]), (h c).2⟩) (Cert.ReferenceIdeal.Val.run m' ρ')⟩

/-- The reference of the forget gates' projection terminates, leaves its arguments as they were and every semaphore at zero. -/
theorem frame_Reference2Ideal : quiescent_Reference2Ideal := fun m ρ _ =>
  (θ_run Cert.Reference2Ideal.defs _ _).mono (fun r h => ⟨fun c => (h c).2, sem_eq_zero_of_no_sems (by decide) r.2⟩) (Cert.Reference2Ideal.Value.run m ρ)

/-- The forget gates' projection: kernel and reference leave the same result. -/
theorem algebraic_Kernel2Ideal : algebraic_Kernel2Ideal_Reference2Ideal := fun m ρ m' ρ' _ hagree =>
  ⟨fun c => InProj.proj _ _ _ (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run Cert.Kernel2Ideal.defs _ _).mono (fun r h c => ⟨(h c).1.trans (Cert.Kernel2Ideal.Val.value m c), (h c).2⟩) (Cert.Kernel2Ideal.Value.run_blocks m ρ),
    (θ_run Cert.Reference2Ideal.defs _ _).mono (fun r h c => ⟨(h c).1.trans (by rw [(hagree c).1, (hagree c).2]), (h c).2⟩) (Cert.Reference2Ideal.Val.run m' ρ')⟩

/-- The reference of the stick-breaking heads' projection terminates, leaves its arguments as they were and every semaphore at zero. -/
theorem frame_Reference3Ideal : quiescent_Reference3Ideal := fun m ρ _ =>
  (θ_run Cert.Reference3Ideal.defs _ _).mono (fun r h => ⟨fun c => (h c).2, sem_eq_zero_of_no_sems (by decide) r.2⟩) (Cert.Reference3Ideal.Value.run m ρ)

/-- The stick-breaking heads' projection: kernel and reference leave the same result. -/
theorem algebraic_Kernel3Ideal : algebraic_Kernel3Ideal_Reference3Ideal := fun m ρ m' ρ' _ hagree =>
  ⟨fun c => InProj.proj _ _ _ (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ⟨(h c).1.trans (Cert.Kernel3Ideal.Val.value m c), (h c).2⟩) (Cert.Kernel3Ideal.Value.run_blocks m ρ),
    (θ_run Cert.Reference3Ideal.defs _ _).mono (fun r h c => ⟨(h c).1.trans (by rw [(hagree c).1, (hagree c).2]), (h c).2⟩) (Cert.Reference3Ideal.Val.run m' ρ')⟩

/-- The reference of the experts' gated up projection terminates, leaves its arguments as they were and every semaphore at zero. -/
theorem frame_Reference4Ideal : quiescent_Reference4Ideal := fun m ρ _ =>
  (θ_run Cert.Reference4Ideal.defs _ _).mono (fun r h => ⟨fun c => (h c).2, sem_eq_zero_of_no_sems (by decide) r.2⟩) (Cert.Reference4Ideal.Value.run m ρ)

/-- The experts' gated up projection: kernel and reference leave the same result. -/
theorem algebraic_Kernel4Ideal : algebraic_Kernel4Ideal_Reference4Ideal := fun m ρ m' ρ' _ hagree =>
  ⟨fun c => Moe.up (Moe.owner (F := Ideal) (m ((c.tc : Thread Cert.Kernel4Ideal.nD Cert.Kernel4Ideal.τ).loc Cert.Kernel4Ideal.main_arg0))) (Moe.used (F := Ideal) (m ((c.tc : Thread Cert.Kernel4Ideal.nD Cert.Kernel4Ideal.τ).loc Cert.Kernel4Ideal.main_arg0))) (Moe.rows (F := Ideal) (m ((c.tc : Thread Cert.Kernel4Ideal.nD Cert.Kernel4Ideal.τ).loc Cert.Kernel4Ideal.main_arg0)))
      (m ((c.tc : Thread Cert.Kernel4Ideal.nD Cert.Kernel4Ideal.τ).loc Cert.Kernel4Ideal.main_arg1))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4))
      (m ((c.tc : Thread Cert.Kernel4Ideal.nD Cert.Kernel4Ideal.τ).loc Cert.Kernel4Ideal.main_arg5)),
    (θ_run Cert.Kernel4Ideal.defs _ _).mono (fun r h c => ⟨((h.1 c).1 (5 : Fin 6)).trans (Cert.Kernel4Ideal.Up.value_counts m ρ c), Cert.Kernel4Ideal.Up.args_kept m ρ r h.1 c⟩)
      (Cert.Kernel4Ideal.Up.run_main m ρ),
    (θ_run Cert.Reference4Ideal.defs _ _).mono
      (fun r h c => ⟨(h c).1.trans (by
        obtain ⟨a0, a1, a2, a3, a4, a5⟩ := hagree c
        rw [a0, a1, a2, a3, a4, a5]), (h c).2⟩)
      (Cert.Reference4Ideal.Val.run m' ρ')⟩

/-- The reference of the experts' down projection terminates, leaves its arguments as they were and every semaphore at zero. -/
theorem frame_Reference5Ideal : quiescent_Reference5Ideal := fun m ρ _ =>
  (θ_run Cert.Reference5Ideal.defs _ _).mono (fun r h => ⟨fun c => (h c).2, sem_eq_zero_of_no_sems (by decide) r.2⟩) (Cert.Reference5Ideal.Value.run m ρ)

/-- The experts' down projection: kernel and reference leave the same result. -/
theorem algebraic_Kernel5Ideal : algebraic_Kernel5Ideal_Reference5Ideal := fun m ρ m' ρ' _ hagree =>
  ⟨fun c => Moe.down (Moe.owner (F := Ideal) (m ((c.tc : Thread Cert.Kernel5Ideal.nD Cert.Kernel5Ideal.τ).loc Cert.Kernel5Ideal.main_arg0))) (Moe.used (F := Ideal) (m ((c.tc : Thread Cert.Kernel5Ideal.nD Cert.Kernel5Ideal.τ).loc Cert.Kernel5Ideal.main_arg0))) (Moe.rows (F := Ideal) (m ((c.tc : Thread Cert.Kernel5Ideal.nD Cert.Kernel5Ideal.τ).loc Cert.Kernel5Ideal.main_arg0)))
      (m ((c.tc : Thread Cert.Kernel5Ideal.nD Cert.Kernel5Ideal.τ).loc Cert.Kernel5Ideal.main_arg1))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3)),
    (θ_run Cert.Kernel5Ideal.defs _ _).mono (fun r h c => ⟨((h.1 c).1 (3 : Fin 4)).trans (Cert.Kernel5Ideal.Down.value_counts m ρ c), Cert.Kernel5Ideal.Down.args_kept m ρ r h.1 c⟩)
      (Cert.Kernel5Ideal.Down.run_main m ρ),
    (θ_run Cert.Reference5Ideal.defs _ _).mono
      (fun r h c => ⟨(h c).1.trans (by
        obtain ⟨a0, a1, a2, a3⟩ := hagree c
        rw [a0, a1, a2, a3]), (h c).2⟩)
      (Cert.Reference5Ideal.Val.run m' ρ')⟩

/-- The reference of the output projection terminates, leaves its arguments as they were and every semaphore at zero. -/
theorem frame_Reference6Ideal : quiescent_Reference6Ideal := fun m ρ _ =>
  (θ_run Cert.Reference6Ideal.defs _ _).mono (fun r h => ⟨fun c => (h c).2, sem_eq_zero_of_no_sems (by decide) r.2⟩) (Cert.Reference6Ideal.Value.run m ρ)

/-- The output projection with the scaled residual: kernel and reference leave the same result. -/
theorem algebraic_Kernel6Ideal : algebraic_Kernel6Ideal_Reference6Ideal := fun m ρ m' ρ' _ hagree =>
  ⟨fun c => OutProj.proj (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))
      (m ((c.tc : Thread Cert.Kernel6Ideal.nD Cert.Kernel6Ideal.τ).loc Cert.Kernel6Ideal.main_arg3)),
    (θ_run Cert.Kernel6Ideal.defs _ _).mono (fun r h c => ⟨(h c).1.trans (Cert.Kernel6Ideal.Val.value m c), (h c).2⟩) (Cert.Kernel6Ideal.Value.run_blocks m ρ),
    (θ_run Cert.Reference6Ideal.defs _ _).mono (fun r h c => ⟨(h c).1.trans (by rw [(hagree c).1, (hagree c).2.1, (hagree c).2.2.1, (hagree c).2.2.2]), (h c).2⟩) (Cert.Reference6Ideal.Val.run m' ρ')⟩

/-- The reference of the layer norm terminates, leaves its arguments as they were and every semaphore at zero. -/
theorem frame_Reference7Ideal : quiescent_Reference7Ideal := fun m ρ _ =>
  (θ_run Cert.Reference7Ideal.defs _ _).mono (fun r h => ⟨fun c => (h c).2.2, sem_eq_zero_of_no_sems (by decide) r.2⟩) (Cert.Reference7Ideal.Value.run m ρ)

/-- The first layer norm: kernel and reference leave the same two results. -/
theorem algebraic_Kernel7Ideal : algebraic_Kernel7Ideal_Reference7Ideal := fun m ρ m' ρ' _ hagree =>
  ⟨fun c => LayerNorm.layerNorm (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    fun c => LayerNorm.layerNorm (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)),
    (θ_run Cert.Kernel7Ideal.defs _ _).mono (fun r h c => ⟨(h c).1.trans (Cert.Kernel7Ideal.Val.value3 m c), (h c).2.1.trans (Cert.Kernel7Ideal.Val.value4 m c), (h c).2.2⟩) (Cert.Kernel7Ideal.Value.run_blocks m ρ),
    (θ_run Cert.Reference7Ideal.defs _ _).mono (fun r h c => ⟨(h c).1.trans (by rw [(hagree c).1, (hagree c).2.1, (hagree c).2.2]), (h c).2.1.trans (by rw [(hagree c).1, (hagree c).2.1, (hagree c).2.2]), (h c).2.2⟩) (Cert.Reference7Ideal.Val.run m' ρ')⟩

/-- Everything claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts,
  fun m ρ _ => Cert.Kernel.Gen.frame m ρ, fun m ρ _ => Cert.KernelIdeal.Gen.frame m ρ, frame_ReferenceIdeal,
  fun m ρ _ => Cert.Kernel2.Gen.frame m ρ, fun m ρ _ => Cert.Kernel2Ideal.Gen.frame m ρ, frame_Reference2Ideal,
  fun m ρ _ => Cert.Kernel3.Gen.frame m ρ, fun m ρ _ => Cert.Kernel3Ideal.Gen.frame m ρ, frame_Reference3Ideal,
  Cert.Kernel4Ideal.Up.quiescent_bits, Cert.Kernel4Ideal.Up.quiescent_ideal, frame_Reference4Ideal,
  Cert.Kernel5Ideal.Down.quiescent_bits, Cert.Kernel5Ideal.Down.quiescent_ideal, frame_Reference5Ideal,
  fun m ρ _ => Cert.Kernel6.Gen.frame m ρ, fun m ρ _ => Cert.Kernel6Ideal.Gen.frame m ρ, frame_Reference6Ideal,
  fun m ρ _ => Cert.Kernel7.Gen.frame m ρ, fun m ρ _ => Cert.Kernel7Ideal.Gen.frame m ρ, frame_Reference7Ideal,
  trivial, algebraic_KernelIdeal, trivial, algebraic_Kernel2Ideal, trivial, algebraic_Kernel3Ideal, trivial, algebraic_Kernel4Ideal, trivial, algebraic_Kernel5Ideal, trivial, algebraic_Kernel6Ideal, trivial, algebraic_Kernel7Ideal⟩

end Cert.Proof

end
